-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v576)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v166)) (v3 : (c : Dev Cert.KernelIdeal.nD) → Buf (Elt Ideal) ((c.tc : Thread Cert.KernelIdeal.nD Cert.KernelIdeal.τ).loc Cert.KernelIdeal.main_v297)) (v4 : (c : Dev Cert.KernelIdeal.nD) → Buf (Elt Ideal) ((c.tc : Thread Cert.KernelIdeal.nD Cert.KernelIdeal.τ).loc Cert.KernelIdeal.main_v428)) (v5 : (c : Dev Cert.KernelIdeal.nD) → Buf (Elt Ideal) ((c.tc : Thread Cert.KernelIdeal.nD Cert.KernelIdeal.τ).loc Cert.KernelIdeal.main_v555)) (v6 : (c : Dev Cert.KernelIdeal.nD) → Buf (Elt Ideal) ((c.tc : Thread Cert.KernelIdeal.nD Cert.KernelIdeal.τ).loc Cert.KernelIdeal.main_v578)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v576) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v166) = v2 c
          ∧ r.2.mem ((c.tc : Thread Cert.KernelIdeal.nD Cert.KernelIdeal.τ).loc Cert.KernelIdeal.main_v297) = v3 c
          ∧ r.2.mem ((c.tc : Thread Cert.KernelIdeal.nD Cert.KernelIdeal.τ).loc Cert.KernelIdeal.main_v428) = v4 c
          ∧ r.2.mem ((c.tc : Thread Cert.KernelIdeal.nD Cert.KernelIdeal.τ).loc Cert.KernelIdeal.main_v555) = v5 c
          ∧ r.2.mem ((c.tc : Thread Cert.KernelIdeal.nD Cert.KernelIdeal.τ).loc Cert.KernelIdeal.main_v578) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v792) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v381) = v3 c
          ∧ r.2.mem ((c.tc : Thread Cert.ReferenceIdeal.nD Cert.ReferenceIdeal.τ).loc Cert.ReferenceIdeal.main_v554) = v4 c
          ∧ r.2.mem ((c.tc : Thread Cert.ReferenceIdeal.nD Cert.ReferenceIdeal.τ).loc Cert.ReferenceIdeal.main_v723) = v5 c
          ∧ r.2.mem ((c.tc : Thread Cert.ReferenceIdeal.nD Cert.ReferenceIdeal.τ).loc Cert.ReferenceIdeal.main_v795) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32x16x16 : Shape := ⟨4, ![32, 32, 16, 16]⟩
abbrev S4096x32 : Shape := ⟨2, ![4096, 32]⟩
abbrev S5x32x32x3x3 : Shape := ⟨5, ![5, 32, 32, 3, 3]⟩
abbrev S5x32 : Shape := ⟨2, ![5, 32]⟩
abbrev S5x32x3x3x32 : Shape := ⟨5, ![5, 32, 3, 3, 32]⟩
abbrev S5x32x288 : Shape := ⟨3, ![5, 32, 288]⟩
abbrev S_ : Shape := ⟨0, ![]⟩
abbrev S32x32x1x16x1x16 : Shape := ⟨6, ![32, 32, 1, 16, 1, 16]⟩
abbrev S32x32x1x1 : Shape := ⟨4, ![32, 32, 1, 1]⟩
abbrev S32x1x1x32 : Shape := ⟨4, ![32, 1, 1, 32]⟩
abbrev S32x32 : Shape := ⟨2, ![32, 32]⟩
abbrev S32 : Shape := ⟨1, ![32]⟩
abbrev S32x1 : Shape := ⟨2, ![32, 1]⟩
abbrev S32x4096 : Shape := ⟨2, ![32, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S32x1x1 : Shape := ⟨3, ![32, 1, 1]⟩
abbrev S16 : Shape := ⟨1, ![16]⟩
abbrev S1x16 : Shape := ⟨2, ![1, 16]⟩
abbrev S32x32x1x1x1 : Shape := ⟨5, ![32, 32, 1, 1, 1]⟩
abbrev S1x1x1x16x1 : Shape := ⟨5, ![1, 1, 1, 16, 1]⟩
abbrev S32x32x1x16x1 : Shape := ⟨5, ![32, 32, 1, 16, 1]⟩
abbrev S32x32x16x1 : Shape := ⟨4, ![32, 32, 16, 1]⟩
abbrev S32x32x16x1x1 : Shape := ⟨5, ![32, 32, 16, 1, 1]⟩
abbrev S1x1x1x1x16 : Shape := ⟨5, ![1, 1, 1, 1, 16]⟩
abbrev S32x32x16x1x16 : Shape := ⟨5, ![32, 32, 16, 1, 16]⟩
abbrev S32x32x256 : Shape := ⟨3, ![32, 32, 256]⟩
abbrev S1x32x288 : Shape := ⟨3, ![1, 32, 288]⟩
abbrev S32x288 : Shape := ⟨2, ![32, 288]⟩
abbrev S1x32 : Shape := ⟨2, ![1, 32]⟩
abbrev S32x8192 : Shape := ⟨2, ![32, 8192]⟩
abbrev S1x8192 : Shape := ⟨2, ![1, 8192]⟩
abbrev S32x17 : Shape := ⟨2, ![32, 17]⟩
abbrev S32x8175 : Shape := ⟨2, ![32, 8175]⟩
abbrev S32x16 : Shape := ⟨2, ![32, 16]⟩
abbrev S32x8176 : Shape := ⟨2, ![32, 8176]⟩
abbrev S32x15 : Shape := ⟨2, ![32, 15]⟩
abbrev S32x8177 : Shape := ⟨2, ![32, 8177]⟩
abbrev S32x8191 : Shape := ⟨2, ![32, 8191]⟩
abbrev S288x8192 : Shape := ⟨2, ![288, 8192]⟩
abbrev S32x32x2x8x2x8 : Shape := ⟨6, ![32, 32, 2, 8, 2, 8]⟩
abbrev S32x32x2x2 : Shape := ⟨4, ![32, 32, 2, 2]⟩
abbrev S32x2x2x32 : Shape := ⟨4, ![32, 2, 2, 32]⟩
abbrev S128x32 : Shape := ⟨2, ![128, 32]⟩
abbrev S128 : Shape := ⟨1, ![128]⟩
abbrev S128x1 : Shape := ⟨2, ![128, 1]⟩
abbrev S128x4096 : Shape := ⟨2, ![128, 4096]⟩
abbrev S32x2x2 : Shape := ⟨3, ![32, 2, 2]⟩
abbrev S2 : Shape := ⟨1, ![2]⟩
abbrev S2x1 : Shape := ⟨2, ![2, 1]⟩
abbrev S2x16 : Shape := ⟨2, ![2, 16]⟩
abbrev S32x32x2x1x2 : Shape := ⟨5, ![32, 32, 2, 1, 2]⟩
abbrev S1x1x2x16x1 : Shape := ⟨5, ![1, 1, 2, 16, 1]⟩
abbrev S32x32x2x16x2 : Shape := ⟨5, ![32, 32, 2, 16, 2]⟩
abbrev S32x32x16x2 : Shape := ⟨4, ![32, 32, 16, 2]⟩
abbrev S32x32x16x2x1 : Shape := ⟨5, ![32, 32, 16, 2, 1]⟩
abbrev S1x1x1x2x16 : Shape := ⟨5, ![1, 1, 1, 2, 16]⟩
abbrev S32x32x16x2x16 : Shape := ⟨5, ![32, 32, 16, 2, 16]⟩
abbrev S32x32x4x4x4x4 : Shape := ⟨6, ![32, 32, 4, 4, 4, 4]⟩
abbrev S32x32x4x4 : Shape := ⟨4, ![32, 32, 4, 4]⟩
abbrev S32x4x4x32 : Shape := ⟨4, ![32, 4, 4, 32]⟩
abbrev S512x32 : Shape := ⟨2, ![512, 32]⟩
abbrev S512 : Shape := ⟨1, ![512]⟩
abbrev S512x1 : Shape := ⟨2, ![512, 1]⟩
abbrev S512x4096 : Shape := ⟨2, ![512, 4096]⟩
abbrev S32x4x4 : Shape := ⟨3, ![32, 4, 4]⟩
abbrev S4 : Shape := ⟨1, ![4]⟩
abbrev S4x1 : Shape := ⟨2, ![4, 1]⟩
abbrev S4x16 : Shape := ⟨2, ![4, 16]⟩
abbrev S32x32x4x1x4 : Shape := ⟨5, ![32, 32, 4, 1, 4]⟩
abbrev S1x1x4x16x1 : Shape := ⟨5, ![1, 1, 4, 16, 1]⟩
abbrev S32x32x4x16x4 : Shape := ⟨5, ![32, 32, 4, 16, 4]⟩
abbrev S32x32x16x4 : Shape := ⟨4, ![32, 32, 16, 4]⟩
abbrev S32x32x16x4x1 : Shape := ⟨5, ![32, 32, 16, 4, 1]⟩
abbrev S1x1x1x4x16 : Shape := ⟨5, ![1, 1, 1, 4, 16]⟩
abbrev S32x32x16x4x16 : Shape := ⟨5, ![32, 32, 16, 4, 16]⟩
abbrev S32x32x8x2x8x2 : Shape := ⟨6, ![32, 32, 8, 2, 8, 2]⟩
abbrev S32x32x8x8 : Shape := ⟨4, ![32, 32, 8, 8]⟩
abbrev S32x8x8x32 : Shape := ⟨4, ![32, 8, 8, 32]⟩
abbrev S2048x32 : Shape := ⟨2, ![2048, 32]⟩
abbrev S2048 : Shape := ⟨1, ![2048]⟩
abbrev S2048x1 : Shape := ⟨2, ![2048, 1]⟩
abbrev S2048x4096 : Shape := ⟨2, ![2048, 4096]⟩
abbrev S32x8x8 : Shape := ⟨3, ![32, 8, 8]⟩
abbrev S8 : Shape := ⟨1, ![8]⟩
abbrev S8x1 : Shape := ⟨2, ![8, 1]⟩
abbrev S8x16 : Shape := ⟨2, ![8, 16]⟩
abbrev S32x32x8x1x8 : Shape := ⟨5, ![32, 32, 8, 1, 8]⟩
abbrev S1x1x8x16x1 : Shape := ⟨5, ![1, 1, 8, 16, 1]⟩
abbrev S32x32x8x16x8 : Shape := ⟨5, ![32, 32, 8, 16, 8]⟩
abbrev S32x32x16x8 : Shape := ⟨4, ![32, 32, 16, 8]⟩
abbrev S32x32x16x8x1 : Shape := ⟨5, ![32, 32, 16, 8, 1]⟩
abbrev S1x1x1x8x16 : Shape := ⟨5, ![1, 1, 1, 8, 16]⟩
abbrev S32x32x16x8x16 : Shape := ⟨5, ![32, 32, 16, 8, 16]⟩
abbrev S32x16x16x32 : Shape := ⟨4, ![32, 16, 16, 32]⟩
abbrev S8192x32 : Shape := ⟨2, ![8192, 32]⟩
abbrev S8192 : Shape := ⟨1, ![8192]⟩
abbrev S8192x1 : Shape := ⟨2, ![8192, 1]⟩
abbrev S8192x4096 : Shape := ⟨2, ![8192, 4096]⟩
abbrev S32x16x16 : Shape := ⟨3, ![32, 16, 16]⟩

abbrev nBuf : Space → Nat
  | .hbm => 916
  | .vmem => 20
  | .smem => 0
  | _ => 0

abbrev hbmTy0_0 (i : Nat) : BufTy := match i % 128 with
  | 0 => ⟨S32x32x16x16, .f32⟩
  | 1 => ⟨S4096x32, .f32⟩
  | 2 => ⟨S5x32x32x3x3, .f32⟩
  | 3 => ⟨S5x32, .f32⟩
  | 4 => ⟨S5x32x3x3x32, .f32⟩
  | 5 => ⟨S5x32x288, .f32⟩
  | 6 => ⟨S_, .f32⟩
  | 7 => ⟨S32x32x16x16, .f32⟩
  | 8 => ⟨S32x32x1x16x1x16, .f32⟩
  | 9 => ⟨S_, .f32⟩
  | 10 => ⟨S32x32x1x1, .f32⟩
  | 11 => ⟨S_, .f32⟩
  | 12 => ⟨S32x32x1x1, .f32⟩
  | 13 => ⟨S32x32x1x1, .f32⟩
  | 14 => ⟨S32x1x1x32, .f32⟩
  | 15 => ⟨S32x32, .f32⟩
  | 16 => ⟨S32x32, .f32⟩
  | 17 => ⟨S_, .f32⟩
  | 18 => ⟨S32, .f32⟩
  | 19 => ⟨S32x1, .f32⟩
  | 20 => ⟨S32x4096, .f32⟩
  | 21 => ⟨S32x4096, .f32⟩
  | 22 => ⟨S_, .f32⟩
  | 23 => ⟨S32x4096, .f32⟩
  | 24 => ⟨S32x4096, .f32⟩
  | 25 => ⟨S32x4096, .f32⟩
  | 26 => ⟨S32x4096, .f32⟩
  | 27 => ⟨S4096x32, .f32⟩
  | 28 => ⟨S_, .f32⟩
  | 29 => ⟨S4096, .f32⟩
  | 30 => ⟨S1x4096, .f32⟩
  | 31 => ⟨S32x4096, .f32⟩
  | 32 => ⟨S32x4096, .f32⟩
  | 33 => ⟨S32x4096, .i32⟩
  | 34 => ⟨S_, .f32⟩
  | 35 => ⟨S_, .i32⟩
  | 36 => ⟨S32, .f32⟩
  | 37 => ⟨S32, .i32⟩
  | 38 => ⟨S_, .i32⟩
  | 39 => ⟨S32, .i32⟩
  | 40 => ⟨S32, .i1⟩
  | 41 => ⟨S_, .i32⟩
  | 42 => ⟨S32, .i32⟩
  | 43 => ⟨S32, .i32⟩
  | 44 => ⟨S32, .i32⟩
  | 45 => ⟨S32x1, .i32⟩
  | 46 => ⟨S1, .i32⟩
  | 47 => ⟨S_, .i32⟩
  | 48 => ⟨S32x1, .i32⟩
  | 49 => ⟨S32x1, .i1⟩
  | 50 => ⟨S1x1, .i32⟩
  | 51 => ⟨S32x1, .i32⟩
  | 52 => ⟨S32x1, .i1⟩
  | 53 => ⟨S32x1, .i1⟩
  | 54 => ⟨S_, .i1⟩
  | 55 => ⟨S32, .i1⟩
  | 56 => ⟨S32x32, .f32⟩
  | 57 => ⟨S32x32, .i1⟩
  | 58 => ⟨S_, .f32⟩
  | 59 => ⟨S32x32, .f32⟩
  | 60 => ⟨S32x32, .f32⟩
  | 61 => ⟨S32x1x1x32, .f32⟩
  | 62 => ⟨S32x32x1x1, .f32⟩
  | 63 => ⟨S32x32x1x1, .f32⟩
  | 64 => ⟨S32x32x1x1, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S32x32x1x1, .f32⟩
  | 72 => ⟨S32x32x1x1, .f32⟩
  | 73 => ⟨S_, .f32⟩
  | 74 => ⟨S_, .f32⟩
  | 75 => ⟨S_, .f32⟩
  | 76 => ⟨S_, .f32⟩
  | 77 => ⟨S_, .f32⟩
  | 78 => ⟨S32x1x1, .i32⟩
  | 79 => ⟨S_, .f32⟩
  | 80 => ⟨S_, .f32⟩
  | 81 => ⟨S32x32x1x1, .f32⟩
  | 82 => ⟨S32x32x1x1, .f32⟩
  | 83 => ⟨S_, .f32⟩
  | 84 => ⟨S_, .f32⟩
  | 85 => ⟨S_, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S1, .f32⟩
  | 100 => ⟨S1x16, .f32⟩
  | 101 => ⟨S1x1, .f32⟩
  | 102 => ⟨S1x16, .f32⟩
  | 103 => ⟨S1x16, .f32⟩
  | 104 => ⟨S1x16, .f32⟩
  | 105 => ⟨S_, .f32⟩
  | 106 => ⟨S1x16, .f32⟩
  | 107 => ⟨S1x16, .f32⟩
  | 108 => ⟨S_, .f32⟩
  | 109 => ⟨S1x16, .f32⟩
  | 110 => ⟨S1x16, .f32⟩
  | 111 => ⟨S_, .f32⟩
  | 112 => ⟨S1x16, .f32⟩
  | 113 => ⟨S1x16, .f32⟩
  | 114 => ⟨S1x16, .f32⟩
  | 115 => ⟨S1x16, .f32⟩
  | 116 => ⟨S_, .f32⟩
  | 117 => ⟨S1x16, .f32⟩
  | 118 => ⟨S1x16, .f32⟩
  | 119 => ⟨S_, .f32⟩
  | 120 => ⟨S1x16, .f32⟩
  | 121 => ⟨S1x16, .i1⟩
  | 122 => ⟨S_, .f32⟩
  | 123 => ⟨S1x16, .f32⟩
  | 124 => ⟨S1x16, .f32⟩
  | 125 => ⟨S_, .f32⟩
  | 126 => ⟨S1x16, .f32⟩
  | 127 => ⟨S1x16, .f32⟩
  | _ => ⟨S32x32x16x16, .f32⟩

abbrev hbmTy0_1 (i : Nat) : BufTy := match i % 128 with
  | 0 => ⟨S1x16, .f32⟩
  | 1 => ⟨S_, .f32⟩
  | 2 => ⟨S1x16, .f32⟩
  | 3 => ⟨S1x16, .f32⟩
  | 4 => ⟨S1x16, .f32⟩
  | 5 => ⟨S_, .f32⟩
  | 6 => ⟨S1x16, .f32⟩
  | 7 => ⟨S1x16, .f32⟩
  | 8 => ⟨S1x16, .f32⟩
  | 9 => ⟨S_, .f32⟩
  | 10 => ⟨S1x16, .f32⟩
  | 11 => ⟨S1x16, .i1⟩
  | 12 => ⟨S_, .f32⟩
  | 13 => ⟨S_, .f32⟩
  | 14 => ⟨S1x16, .f32⟩
  | 15 => ⟨S1x16, .f32⟩
  | 16 => ⟨S_, .f32⟩
  | 17 => ⟨S16, .f32⟩
  | 18 => ⟨S1x16, .f32⟩
  | 19 => ⟨S1x16, .f32⟩
  | 20 => ⟨S_, .f32⟩
  | 21 => ⟨S1x16, .f32⟩
  | 22 => ⟨S1x16, .i1⟩
  | 23 => ⟨S_, .f32⟩
  | 24 => ⟨S1x16, .f32⟩
  | 25 => ⟨S1x16, .i1⟩
  | 26 => ⟨S_, .i32⟩
  | 27 => ⟨S_, .f32⟩
  | 28 => ⟨S1x16, .f32⟩
  | 29 => ⟨S1x16, .f32⟩
  | 30 => ⟨S1x16, .f32⟩
  | 31 => ⟨S_, .i32⟩
  | 32 => ⟨S_, .f32⟩
  | 33 => ⟨S1x16, .f32⟩
  | 34 => ⟨S1x16, .f32⟩
  | 35 => ⟨S_, .f32⟩
  | 36 => ⟨S16, .f32⟩
  | 37 => ⟨S16, .i1⟩
  | 38 => ⟨S_, .f32⟩
  | 39 => ⟨S16, .f32⟩
  | 40 => ⟨S16, .i1⟩
  | 41 => ⟨S16, .i1⟩
  | 42 => ⟨S1x16, .i1⟩
  | 43 => ⟨S_, .i32⟩
  | 44 => ⟨S_, .f32⟩
  | 45 => ⟨S1x16, .f32⟩
  | 46 => ⟨S1x16, .f32⟩
  | 47 => ⟨S32x32x1x1x1, .f32⟩
  | 48 => ⟨S1x1x1x16x1, .f32⟩
  | 49 => ⟨S32x32x1x16x1, .f32⟩
  | 50 => ⟨S32x32x1x16x1, .f32⟩
  | 51 => ⟨S32x32x1x16x1, .f32⟩
  | 52 => ⟨S_, .f32⟩
  | 53 => ⟨S32x32x16x1, .f32⟩
  | 54 => ⟨S32x32x16x1x1, .f32⟩
  | 55 => ⟨S1x1x1x1x16, .f32⟩
  | 56 => ⟨S32x32x16x1x16, .f32⟩
  | 57 => ⟨S32x32x16x1x16, .f32⟩
  | 58 => ⟨S32x32x16x1x16, .f32⟩
  | 59 => ⟨S_, .f32⟩
  | 60 => ⟨S32x32x16x16, .f32⟩
  | 61 => ⟨S32x32x256, .f32⟩
  | 62 => ⟨S1x32x288, .f32⟩
  | 63 => ⟨S32x288, .f32⟩
  | 64 => ⟨S1x32, .f32⟩
  | 65 => ⟨S32, .f32⟩
  | 66 => ⟨S32x1, .f32⟩
  | 67 => ⟨S32x32x256, .f32⟩
  | 68 => ⟨S32x8192, .f32⟩
  | 69 => ⟨S32x8192, .f32⟩
  | 70 => ⟨S32x32x256, .f32⟩
  | 71 => ⟨S32x32x256, .f32⟩
  | 72 => ⟨S32x32x16x16, .f32⟩
  | 73 => ⟨S_, .f32⟩
  | 74 => ⟨S32x32x16x16, .f32⟩
  | 75 => ⟨S32x32x16x16, .f32⟩
  | 76 => ⟨S_, .f32⟩
  | 77 => ⟨S32x32x16x16, .f32⟩
  | 78 => ⟨S32x32x16x16, .f32⟩
  | 79 => ⟨S32x32x16x16, .f32⟩
  | 80 => ⟨S32x32x16x16, .f32⟩
  | 81 => ⟨S32x32x16x16, .f32⟩
  | 82 => ⟨S32x32x2x8x2x8, .f32⟩
  | 83 => ⟨S_, .f32⟩
  | 84 => ⟨S32x32x2x2, .f32⟩
  | 85 => ⟨S_, .f32⟩
  | 86 => ⟨S32x32x2x2, .f32⟩
  | 87 => ⟨S32x32x2x2, .f32⟩
  | 88 => ⟨S32x2x2x32, .f32⟩
  | 89 => ⟨S128x32, .f32⟩
  | 90 => ⟨S128x32, .f32⟩
  | 91 => ⟨S_, .f32⟩
  | 92 => ⟨S128, .f32⟩
  | 93 => ⟨S128x1, .f32⟩
  | 94 => ⟨S32x4096, .f32⟩
  | 95 => ⟨S128x4096, .f32⟩
  | 96 => ⟨S_, .f32⟩
  | 97 => ⟨S128x4096, .f32⟩
  | 98 => ⟨S128x4096, .f32⟩
  | 99 => ⟨S128x4096, .f32⟩
  | 100 => ⟨S128x4096, .f32⟩
  | 101 => ⟨S4096x32, .f32⟩
  | 102 => ⟨S_, .f32⟩
  | 103 => ⟨S4096, .f32⟩
  | 104 => ⟨S1x4096, .f32⟩
  | 105 => ⟨S128x4096, .f32⟩
  | 106 => ⟨S128x4096, .f32⟩
  | 107 => ⟨S128x4096, .i32⟩
  | 108 => ⟨S_, .f32⟩
  | 109 => ⟨S_, .i32⟩
  | 110 => ⟨S128, .f32⟩
  | 111 => ⟨S128, .i32⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S1, .i32⟩
  | 121 => ⟨S_, .i32⟩
  | 122 => ⟨S128x1, .i32⟩
  | 123 => ⟨S128x1, .i1⟩
  | 124 => ⟨S1x1, .i32⟩
  | 125 => ⟨S128x1, .i32⟩
  | 126 => ⟨S128x1, .i1⟩
  | 127 => ⟨S128x1, .i1⟩
  | _ => ⟨S32x32x16x16, .f32⟩

abbrev hbmTy0_2 (i : Nat) : BufTy := match i % 128 with
  | 0 => ⟨S_, .i1⟩
  | 1 => ⟨S128, .i1⟩
  | 2 => ⟨S128x32, .f32⟩
  | 3 => ⟨S128x32, .i1⟩
  | 4 => ⟨S_, .f32⟩
  | 5 => ⟨S128x32, .f32⟩
  | 6 => ⟨S128x32, .f32⟩
  | 7 => ⟨S32x2x2x32, .f32⟩
  | 8 => ⟨S32x32x2x2, .f32⟩
  | 9 => ⟨S32x32x2x2, .f32⟩
  | 10 => ⟨S32x32x2x2, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S32x32x2x2, .f32⟩
  | 18 => ⟨S32x32x2x2, .f32⟩
  | 19 => ⟨S_, .f32⟩
  | 20 => ⟨S_, .f32⟩
  | 21 => ⟨S_, .f32⟩
  | 22 => ⟨S_, .f32⟩
  | 23 => ⟨S_, .f32⟩
  | 24 => ⟨S32x2x2, .i32⟩
  | 25 => ⟨S_, .f32⟩
  | 26 => ⟨S32x32x2x2, .f32⟩
  | 27 => ⟨S32x32x2x2, .f32⟩
  | 28 => ⟨S_, .f32⟩
  | 29 => ⟨S_, .f32⟩
  | 30 => ⟨S_, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S2, .f32⟩
  | 45 => ⟨S1x16, .f32⟩
  | 46 => ⟨S2x1, .f32⟩
  | 47 => ⟨S2x16, .f32⟩
  | 48 => ⟨S2x16, .f32⟩
  | 49 => ⟨S2x16, .f32⟩
  | 50 => ⟨S2x16, .f32⟩
  | 51 => ⟨S_, .f32⟩
  | 52 => ⟨S2x16, .f32⟩
  | 53 => ⟨S2x16, .f32⟩
  | 54 => ⟨S_, .f32⟩
  | 55 => ⟨S2x16, .f32⟩
  | 56 => ⟨S2x16, .f32⟩
  | 57 => ⟨S_, .f32⟩
  | 58 => ⟨S2x16, .f32⟩
  | 59 => ⟨S2x16, .f32⟩
  | 60 => ⟨S2x16, .f32⟩
  | 61 => ⟨S2x16, .f32⟩
  | 62 => ⟨S_, .f32⟩
  | 63 => ⟨S2x16, .f32⟩
  | 64 => ⟨S2x16, .f32⟩
  | 65 => ⟨S_, .f32⟩
  | 66 => ⟨S2x16, .f32⟩
  | 67 => ⟨S2x16, .i1⟩
  | 68 => ⟨S_, .f32⟩
  | 69 => ⟨S2x16, .f32⟩
  | 70 => ⟨S2x16, .f32⟩
  | 71 => ⟨S_, .f32⟩
  | 72 => ⟨S2x16, .f32⟩
  | 73 => ⟨S2x16, .f32⟩
  | 74 => ⟨S2x16, .f32⟩
  | 75 => ⟨S_, .f32⟩
  | 76 => ⟨S2x16, .f32⟩
  | 77 => ⟨S2x16, .f32⟩
  | 78 => ⟨S2x16, .f32⟩
  | 79 => ⟨S_, .f32⟩
  | 80 => ⟨S2x16, .f32⟩
  | 81 => ⟨S2x16, .f32⟩
  | 82 => ⟨S2x16, .f32⟩
  | 83 => ⟨S_, .f32⟩
  | 84 => ⟨S2x16, .f32⟩
  | 85 => ⟨S2x16, .i1⟩
  | 86 => ⟨S_, .f32⟩
  | 87 => ⟨S_, .f32⟩
  | 88 => ⟨S2x16, .f32⟩
  | 89 => ⟨S2x16, .f32⟩
  | 90 => ⟨S_, .f32⟩
  | 91 => ⟨S16, .f32⟩
  | 92 => ⟨S1x16, .f32⟩
  | 93 => ⟨S1x16, .f32⟩
  | 94 => ⟨S_, .f32⟩
  | 95 => ⟨S1x16, .f32⟩
  | 96 => ⟨S1x16, .i1⟩
  | 97 => ⟨S_, .f32⟩
  | 98 => ⟨S1x16, .f32⟩
  | 99 => ⟨S1x16, .i1⟩
  | 100 => ⟨S_, .i32⟩
  | 101 => ⟨S_, .f32⟩
  | 102 => ⟨S1x16, .f32⟩
  | 103 => ⟨S1x16, .f32⟩
  | 104 => ⟨S2x16, .f32⟩
  | 105 => ⟨S2x16, .f32⟩
  | 106 => ⟨S_, .i32⟩
  | 107 => ⟨S_, .f32⟩
  | 108 => ⟨S2x16, .i1⟩
  | 109 => ⟨S2x16, .f32⟩
  | 110 => ⟨S2x16, .f32⟩
  | 111 => ⟨S_, .f32⟩
  | 112 => ⟨S16, .f32⟩
  | 113 => ⟨S16, .i1⟩
  | 114 => ⟨S_, .f32⟩
  | 115 => ⟨S16, .f32⟩
  | 116 => ⟨S16, .i1⟩
  | 117 => ⟨S16, .i1⟩
  | 118 => ⟨S1x16, .i1⟩
  | 119 => ⟨S_, .i32⟩
  | 120 => ⟨S_, .f32⟩
  | 121 => ⟨S2x16, .i1⟩
  | 122 => ⟨S2x16, .f32⟩
  | 123 => ⟨S2x16, .f32⟩
  | 124 => ⟨S32x32x2x1x2, .f32⟩
  | 125 => ⟨S1x1x2x16x1, .f32⟩
  | 126 => ⟨S32x32x2x16x2, .f32⟩
  | 127 => ⟨S32x32x2x16x2, .f32⟩
  | _ => ⟨S32x32x16x16, .f32⟩

abbrev hbmTy0_3 (i : Nat) : BufTy := match i % 128 with
  | 0 => ⟨S32x32x2x16x2, .f32⟩
  | 1 => ⟨S_, .f32⟩
  | 2 => ⟨S32x32x16x2, .f32⟩
  | 3 => ⟨S32x32x16x2x1, .f32⟩
  | 4 => ⟨S1x1x1x2x16, .f32⟩
  | 5 => ⟨S32x32x16x2x16, .f32⟩
  | 6 => ⟨S32x32x16x2x16, .f32⟩
  | 7 => ⟨S32x32x16x2x16, .f32⟩
  | 8 => ⟨S_, .f32⟩
  | 9 => ⟨S32x32x16x16, .f32⟩
  | 10 => ⟨S32x32x256, .f32⟩
  | 11 => ⟨S1x32x288, .f32⟩
  | 12 => ⟨S32x288, .f32⟩
  | 13 => ⟨S1x32, .f32⟩
  | 14 => ⟨S32, .f32⟩
  | 15 => ⟨S32x1, .f32⟩
  | 16 => ⟨S32x32x256, .f32⟩
  | 17 => ⟨S32x8192, .f32⟩
  | 18 => ⟨S32x8192, .f32⟩
  | 19 => ⟨S32x32x256, .f32⟩
  | 20 => ⟨S32x32x256, .f32⟩
  | 21 => ⟨S32x32x16x16, .f32⟩
  | 22 => ⟨S_, .f32⟩
  | 23 => ⟨S32x32x16x16, .f32⟩
  | 24 => ⟨S32x32x16x16, .f32⟩
  | 25 => ⟨S_, .f32⟩
  | 26 => ⟨S32x32x16x16, .f32⟩
  | 27 => ⟨S32x32x16x16, .f32⟩
  | 28 => ⟨S32x32x16x16, .f32⟩
  | 29 => ⟨S32x32x16x16, .f32⟩
  | 30 => ⟨S32x32x16x16, .f32⟩
  | 31 => ⟨S32x32x4x4x4x4, .f32⟩
  | 32 => ⟨S_, .f32⟩
  | 33 => ⟨S32x32x4x4, .f32⟩
  | 34 => ⟨S_, .f32⟩
  | 35 => ⟨S32x32x4x4, .f32⟩
  | 36 => ⟨S32x32x4x4, .f32⟩
  | 37 => ⟨S32x4x4x32, .f32⟩
  | 38 => ⟨S512x32, .f32⟩
  | 39 => ⟨S512x32, .f32⟩
  | 40 => ⟨S_, .f32⟩
  | 41 => ⟨S512, .f32⟩
  | 42 => ⟨S512x1, .f32⟩
  | 43 => ⟨S32x4096, .f32⟩
  | 44 => ⟨S512x4096, .f32⟩
  | 45 => ⟨S_, .f32⟩
  | 46 => ⟨S512x4096, .f32⟩
  | 47 => ⟨S512x4096, .f32⟩
  | 48 => ⟨S512x4096, .f32⟩
  | 49 => ⟨S512x4096, .f32⟩
  | 50 => ⟨S4096x32, .f32⟩
  | 51 => ⟨S_, .f32⟩
  | 52 => ⟨S4096, .f32⟩
  | 53 => ⟨S1x4096, .f32⟩
  | 54 => ⟨S512x4096, .f32⟩
  | 55 => ⟨S512x4096, .f32⟩
  | 56 => ⟨S512x4096, .i32⟩
  | 57 => ⟨S_, .f32⟩
  | 58 => ⟨S_, .i32⟩
  | 59 => ⟨S512, .f32⟩
  | 60 => ⟨S512, .i32⟩
  | 61 => ⟨S_, .i32⟩
  | 62 => ⟨S512, .i32⟩
  | 63 => ⟨S512, .i1⟩
  | 64 => ⟨S_, .i32⟩
  | 65 => ⟨S512, .i32⟩
  | 66 => ⟨S512, .i32⟩
  | 67 => ⟨S512, .i32⟩
  | 68 => ⟨S512x1, .i32⟩
  | 69 => ⟨S1, .i32⟩
  | 70 => ⟨S_, .i32⟩
  | 71 => ⟨S512x1, .i32⟩
  | 72 => ⟨S512x1, .i1⟩
  | 73 => ⟨S1x1, .i32⟩
  | 74 => ⟨S512x1, .i32⟩
  | 75 => ⟨S512x1, .i1⟩
  | 76 => ⟨S512x1, .i1⟩
  | 77 => ⟨S_, .i1⟩
  | 78 => ⟨S512, .i1⟩
  | 79 => ⟨S512x32, .f32⟩
  | 80 => ⟨S512x32, .i1⟩
  | 81 => ⟨S_, .f32⟩
  | 82 => ⟨S512x32, .f32⟩
  | 83 => ⟨S512x32, .f32⟩
  | 84 => ⟨S32x4x4x32, .f32⟩
  | 85 => ⟨S32x32x4x4, .f32⟩
  | 86 => ⟨S32x32x4x4, .f32⟩
  | 87 => ⟨S32x32x4x4, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S32x32x4x4, .f32⟩
  | 95 => ⟨S32x32x4x4, .f32⟩
  | 96 => ⟨S_, .f32⟩
  | 97 => ⟨S_, .f32⟩
  | 98 => ⟨S_, .f32⟩
  | 99 => ⟨S_, .f32⟩
  | 100 => ⟨S_, .f32⟩
  | 101 => ⟨S32x4x4, .i32⟩
  | 102 => ⟨S_, .f32⟩
  | 103 => ⟨S32x32x4x4, .f32⟩
  | 104 => ⟨S32x32x4x4, .f32⟩
  | 105 => ⟨S_, .f32⟩
  | 106 => ⟨S_, .f32⟩
  | 107 => ⟨S_, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S4, .f32⟩
  | 122 => ⟨S1x16, .f32⟩
  | 123 => ⟨S4x1, .f32⟩
  | 124 => ⟨S4x16, .f32⟩
  | 125 => ⟨S4x16, .f32⟩
  | 126 => ⟨S4x16, .f32⟩
  | 127 => ⟨S4x16, .f32⟩
  | _ => ⟨S32x32x16x16, .f32⟩

abbrev hbmTy0_4 (i : Nat) : BufTy := match i % 128 with
  | 0 => ⟨S_, .f32⟩
  | 1 => ⟨S4x16, .f32⟩
  | 2 => ⟨S4x16, .f32⟩
  | 3 => ⟨S_, .f32⟩
  | 4 => ⟨S4x16, .f32⟩
  | 5 => ⟨S4x16, .f32⟩
  | 6 => ⟨S_, .f32⟩
  | 7 => ⟨S4x16, .f32⟩
  | 8 => ⟨S4x16, .f32⟩
  | 9 => ⟨S4x16, .f32⟩
  | 10 => ⟨S4x16, .f32⟩
  | 11 => ⟨S_, .f32⟩
  | 12 => ⟨S4x16, .f32⟩
  | 13 => ⟨S4x16, .f32⟩
  | 14 => ⟨S_, .f32⟩
  | 15 => ⟨S4x16, .f32⟩
  | 16 => ⟨S4x16, .i1⟩
  | 17 => ⟨S_, .f32⟩
  | 18 => ⟨S4x16, .f32⟩
  | 19 => ⟨S4x16, .f32⟩
  | 20 => ⟨S_, .f32⟩
  | 21 => ⟨S4x16, .f32⟩
  | 22 => ⟨S4x16, .f32⟩
  | 23 => ⟨S4x16, .f32⟩
  | 24 => ⟨S_, .f32⟩
  | 25 => ⟨S4x16, .f32⟩
  | 26 => ⟨S4x16, .f32⟩
  | 27 => ⟨S4x16, .f32⟩
  | 28 => ⟨S_, .f32⟩
  | 29 => ⟨S4x16, .f32⟩
  | 30 => ⟨S4x16, .f32⟩
  | 31 => ⟨S4x16, .f32⟩
  | 32 => ⟨S_, .f32⟩
  | 33 => ⟨S4x16, .f32⟩
  | 34 => ⟨S4x16, .i1⟩
  | 35 => ⟨S_, .f32⟩
  | 36 => ⟨S_, .f32⟩
  | 37 => ⟨S4x16, .f32⟩
  | 38 => ⟨S4x16, .f32⟩
  | 39 => ⟨S_, .f32⟩
  | 40 => ⟨S16, .f32⟩
  | 41 => ⟨S1x16, .f32⟩
  | 42 => ⟨S1x16, .f32⟩
  | 43 => ⟨S_, .f32⟩
  | 44 => ⟨S1x16, .f32⟩
  | 45 => ⟨S1x16, .i1⟩
  | 46 => ⟨S_, .f32⟩
  | 47 => ⟨S1x16, .f32⟩
  | 48 => ⟨S1x16, .i1⟩
  | 49 => ⟨S_, .i32⟩
  | 50 => ⟨S_, .f32⟩
  | 51 => ⟨S1x16, .f32⟩
  | 52 => ⟨S1x16, .f32⟩
  | 53 => ⟨S4x16, .f32⟩
  | 54 => ⟨S4x16, .f32⟩
  | 55 => ⟨S_, .i32⟩
  | 56 => ⟨S_, .f32⟩
  | 57 => ⟨S4x16, .i1⟩
  | 58 => ⟨S4x16, .f32⟩
  | 59 => ⟨S4x16, .f32⟩
  | 60 => ⟨S_, .f32⟩
  | 61 => ⟨S16, .f32⟩
  | 62 => ⟨S16, .i1⟩
  | 63 => ⟨S_, .f32⟩
  | 64 => ⟨S16, .f32⟩
  | 65 => ⟨S16, .i1⟩
  | 66 => ⟨S16, .i1⟩
  | 67 => ⟨S1x16, .i1⟩
  | 68 => ⟨S_, .i32⟩
  | 69 => ⟨S_, .f32⟩
  | 70 => ⟨S4x16, .i1⟩
  | 71 => ⟨S4x16, .f32⟩
  | 72 => ⟨S4x16, .f32⟩
  | 73 => ⟨S32x32x4x1x4, .f32⟩
  | 74 => ⟨S1x1x4x16x1, .f32⟩
  | 75 => ⟨S32x32x4x16x4, .f32⟩
  | 76 => ⟨S32x32x4x16x4, .f32⟩
  | 77 => ⟨S32x32x4x16x4, .f32⟩
  | 78 => ⟨S_, .f32⟩
  | 79 => ⟨S32x32x16x4, .f32⟩
  | 80 => ⟨S32x32x16x4x1, .f32⟩
  | 81 => ⟨S1x1x1x4x16, .f32⟩
  | 82 => ⟨S32x32x16x4x16, .f32⟩
  | 83 => ⟨S32x32x16x4x16, .f32⟩
  | 84 => ⟨S32x32x16x4x16, .f32⟩
  | 85 => ⟨S_, .f32⟩
  | 86 => ⟨S32x32x16x16, .f32⟩
  | 87 => ⟨S32x32x256, .f32⟩
  | 88 => ⟨S1x32x288, .f32⟩
  | 89 => ⟨S32x288, .f32⟩
  | 90 => ⟨S1x32, .f32⟩
  | 91 => ⟨S32, .f32⟩
  | 92 => ⟨S32x1, .f32⟩
  | 93 => ⟨S32x32x256, .f32⟩
  | 94 => ⟨S32x8192, .f32⟩
  | 95 => ⟨S32x8192, .f32⟩
  | 96 => ⟨S32x32x256, .f32⟩
  | 97 => ⟨S32x32x256, .f32⟩
  | 98 => ⟨S32x32x16x16, .f32⟩
  | 99 => ⟨S_, .f32⟩
  | 100 => ⟨S32x32x16x16, .f32⟩
  | 101 => ⟨S32x32x16x16, .f32⟩
  | 102 => ⟨S_, .f32⟩
  | 103 => ⟨S32x32x16x16, .f32⟩
  | 104 => ⟨S32x32x16x16, .f32⟩
  | 105 => ⟨S32x32x16x16, .f32⟩
  | 106 => ⟨S32x32x16x16, .f32⟩
  | 107 => ⟨S32x32x16x16, .f32⟩
  | 108 => ⟨S32x32x8x2x8x2, .f32⟩
  | 109 => ⟨S_, .f32⟩
  | 110 => ⟨S32x32x8x8, .f32⟩
  | 111 => ⟨S_, .f32⟩
  | 112 => ⟨S32x32x8x8, .f32⟩
  | 113 => ⟨S32x32x8x8, .f32⟩
  | 114 => ⟨S32x8x8x32, .f32⟩
  | 115 => ⟨S2048x32, .f32⟩
  | 116 => ⟨S2048x32, .f32⟩
  | 117 => ⟨S_, .f32⟩
  | 118 => ⟨S2048, .f32⟩
  | 119 => ⟨S2048x1, .f32⟩
  | 120 => ⟨S32x4096, .f32⟩
  | 121 => ⟨S2048x4096, .f32⟩
  | 122 => ⟨S_, .f32⟩
  | 123 => ⟨S2048x4096, .f32⟩
  | 124 => ⟨S2048x4096, .f32⟩
  | 125 => ⟨S2048x4096, .f32⟩
  | 126 => ⟨S2048x4096, .f32⟩
  | 127 => ⟨S4096x32, .f32⟩
  | _ => ⟨S32x32x16x16, .f32⟩

abbrev hbmTy0_5 (i : Nat) : BufTy := match i % 128 with
  | 0 => ⟨S_, .f32⟩
  | 1 => ⟨S4096, .f32⟩
  | 2 => ⟨S1x4096, .f32⟩
  | 3 => ⟨S2048x4096, .f32⟩
  | 4 => ⟨S2048x4096, .f32⟩
  | 5 => ⟨S2048x4096, .i32⟩
  | 6 => ⟨S_, .f32⟩
  | 7 => ⟨S_, .i32⟩
  | 8 => ⟨S2048, .f32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S1, .i32⟩
  | 19 => ⟨S_, .i32⟩
  | 20 => ⟨S2048x1, .i32⟩
  | 21 => ⟨S2048x1, .i1⟩
  | 22 => ⟨S1x1, .i32⟩
  | 23 => ⟨S2048x1, .i32⟩
  | 24 => ⟨S2048x1, .i1⟩
  | 25 => ⟨S2048x1, .i1⟩
  | 26 => ⟨S_, .i1⟩
  | 27 => ⟨S2048, .i1⟩
  | 28 => ⟨S2048x32, .f32⟩
  | 29 => ⟨S2048x32, .i1⟩
  | 30 => ⟨S_, .f32⟩
  | 31 => ⟨S2048x32, .f32⟩
  | 32 => ⟨S2048x32, .f32⟩
  | 33 => ⟨S32x8x8x32, .f32⟩
  | 34 => ⟨S32x32x8x8, .f32⟩
  | 35 => ⟨S32x32x8x8, .f32⟩
  | 36 => ⟨S32x32x8x8, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S32x32x8x8, .f32⟩
  | 44 => ⟨S32x32x8x8, .f32⟩
  | 45 => ⟨S_, .f32⟩
  | 46 => ⟨S_, .f32⟩
  | 47 => ⟨S_, .f32⟩
  | 48 => ⟨S_, .f32⟩
  | 49 => ⟨S_, .f32⟩
  | 50 => ⟨S32x8x8, .i32⟩
  | 51 => ⟨S_, .f32⟩
  | 52 => ⟨S32x32x8x8, .f32⟩
  | 53 => ⟨S32x32x8x8, .f32⟩
  | 54 => ⟨S_, .f32⟩
  | 55 => ⟨S_, .f32⟩
  | 56 => ⟨S_, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S8, .f32⟩
  | 71 => ⟨S1x16, .f32⟩
  | 72 => ⟨S8x1, .f32⟩
  | 73 => ⟨S8x16, .f32⟩
  | 74 => ⟨S8x16, .f32⟩
  | 75 => ⟨S8x16, .f32⟩
  | 76 => ⟨S8x16, .f32⟩
  | 77 => ⟨S_, .f32⟩
  | 78 => ⟨S8x16, .f32⟩
  | 79 => ⟨S8x16, .f32⟩
  | 80 => ⟨S_, .f32⟩
  | 81 => ⟨S8x16, .f32⟩
  | 82 => ⟨S8x16, .f32⟩
  | 83 => ⟨S_, .f32⟩
  | 84 => ⟨S8x16, .f32⟩
  | 85 => ⟨S8x16, .f32⟩
  | 86 => ⟨S8x16, .f32⟩
  | 87 => ⟨S8x16, .f32⟩
  | 88 => ⟨S_, .f32⟩
  | 89 => ⟨S8x16, .f32⟩
  | 90 => ⟨S8x16, .f32⟩
  | 91 => ⟨S_, .f32⟩
  | 92 => ⟨S8x16, .f32⟩
  | 93 => ⟨S8x16, .i1⟩
  | 94 => ⟨S_, .f32⟩
  | 95 => ⟨S8x16, .f32⟩
  | 96 => ⟨S8x16, .f32⟩
  | 97 => ⟨S_, .f32⟩
  | 98 => ⟨S8x16, .f32⟩
  | 99 => ⟨S8x16, .f32⟩
  | 100 => ⟨S8x16, .f32⟩
  | 101 => ⟨S_, .f32⟩
  | 102 => ⟨S8x16, .f32⟩
  | 103 => ⟨S8x16, .f32⟩
  | 104 => ⟨S8x16, .f32⟩
  | 105 => ⟨S_, .f32⟩
  | 106 => ⟨S8x16, .f32⟩
  | 107 => ⟨S8x16, .f32⟩
  | 108 => ⟨S8x16, .f32⟩
  | 109 => ⟨S_, .f32⟩
  | 110 => ⟨S8x16, .f32⟩
  | 111 => ⟨S8x16, .i1⟩
  | 112 => ⟨S_, .f32⟩
  | 113 => ⟨S_, .f32⟩
  | 114 => ⟨S8x16, .f32⟩
  | 115 => ⟨S8x16, .f32⟩
  | 116 => ⟨S_, .f32⟩
  | 117 => ⟨S16, .f32⟩
  | 118 => ⟨S1x16, .f32⟩
  | 119 => ⟨S1x16, .f32⟩
  | 120 => ⟨S_, .f32⟩
  | 121 => ⟨S1x16, .f32⟩
  | 122 => ⟨S1x16, .i1⟩
  | 123 => ⟨S_, .f32⟩
  | 124 => ⟨S1x16, .f32⟩
  | 125 => ⟨S1x16, .i1⟩
  | 126 => ⟨S_, .i32⟩
  | 127 => ⟨S_, .f32⟩
  | _ => ⟨S32x32x16x16, .f32⟩

abbrev hbmTy0_6 (i : Nat) : BufTy := match i % 128 with
  | 0 => ⟨S1x16, .f32⟩
  | 1 => ⟨S1x16, .f32⟩
  | 2 => ⟨S8x16, .f32⟩
  | 3 => ⟨S8x16, .f32⟩
  | 4 => ⟨S_, .i32⟩
  | 5 => ⟨S_, .f32⟩
  | 6 => ⟨S8x16, .i1⟩
  | 7 => ⟨S8x16, .f32⟩
  | 8 => ⟨S8x16, .f32⟩
  | 9 => ⟨S_, .f32⟩
  | 10 => ⟨S16, .f32⟩
  | 11 => ⟨S16, .i1⟩
  | 12 => ⟨S_, .f32⟩
  | 13 => ⟨S16, .f32⟩
  | 14 => ⟨S16, .i1⟩
  | 15 => ⟨S16, .i1⟩
  | 16 => ⟨S1x16, .i1⟩
  | 17 => ⟨S_, .i32⟩
  | 18 => ⟨S_, .f32⟩
  | 19 => ⟨S8x16, .i1⟩
  | 20 => ⟨S8x16, .f32⟩
  | 21 => ⟨S8x16, .f32⟩
  | 22 => ⟨S32x32x8x1x8, .f32⟩
  | 23 => ⟨S1x1x8x16x1, .f32⟩
  | 24 => ⟨S32x32x8x16x8, .f32⟩
  | 25 => ⟨S32x32x8x16x8, .f32⟩
  | 26 => ⟨S32x32x8x16x8, .f32⟩
  | 27 => ⟨S_, .f32⟩
  | 28 => ⟨S32x32x16x8, .f32⟩
  | 29 => ⟨S32x32x16x8x1, .f32⟩
  | 30 => ⟨S1x1x1x8x16, .f32⟩
  | 31 => ⟨S32x32x16x8x16, .f32⟩
  | 32 => ⟨S32x32x16x8x16, .f32⟩
  | 33 => ⟨S32x32x16x8x16, .f32⟩
  | 34 => ⟨S_, .f32⟩
  | 35 => ⟨S32x32x16x16, .f32⟩
  | 36 => ⟨S32x32x256, .f32⟩
  | 37 => ⟨S1x32x288, .f32⟩
  | 38 => ⟨S32x288, .f32⟩
  | 39 => ⟨S1x32, .f32⟩
  | 40 => ⟨S32, .f32⟩
  | 41 => ⟨S32x1, .f32⟩
  | 42 => ⟨S32x32x256, .f32⟩
  | 43 => ⟨S32x8192, .f32⟩
  | 44 => ⟨S32x8192, .f32⟩
  | 45 => ⟨S32x32x256, .f32⟩
  | 46 => ⟨S32x32x256, .f32⟩
  | 47 => ⟨S32x32x16x16, .f32⟩
  | 48 => ⟨S_, .f32⟩
  | 49 => ⟨S32x32x16x16, .f32⟩
  | 50 => ⟨S32x32x16x16, .f32⟩
  | 51 => ⟨S_, .f32⟩
  | 52 => ⟨S32x32x16x16, .f32⟩
  | 53 => ⟨S32x32x16x16, .f32⟩
  | 54 => ⟨S32x32x16x16, .f32⟩
  | 55 => ⟨S32x32x16x16, .f32⟩
  | 56 => ⟨S32x32x16x16, .f32⟩
  | 57 => ⟨S32x16x16x32, .f32⟩
  | 58 => ⟨S8192x32, .f32⟩
  | 59 => ⟨S8192x32, .f32⟩
  | 60 => ⟨S_, .f32⟩
  | 61 => ⟨S8192, .f32⟩
  | 62 => ⟨S8192x1, .f32⟩
  | 63 => ⟨S32x4096, .f32⟩
  | 64 => ⟨S8192x4096, .f32⟩
  | 65 => ⟨S_, .f32⟩
  | 66 => ⟨S8192x4096, .f32⟩
  | 67 => ⟨S8192x4096, .f32⟩
  | 68 => ⟨S8192x4096, .f32⟩
  | 69 => ⟨S8192x4096, .f32⟩
  | 70 => ⟨S4096x32, .f32⟩
  | 71 => ⟨S_, .f32⟩
  | 72 => ⟨S4096, .f32⟩
  | 73 => ⟨S1x4096, .f32⟩
  | 74 => ⟨S8192x4096, .f32⟩
  | 75 => ⟨S8192x4096, .f32⟩
  | 76 => ⟨S8192x4096, .i32⟩
  | 77 => ⟨S_, .f32⟩
  | 78 => ⟨S_, .i32⟩
  | 79 => ⟨S8192, .f32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S1, .i32⟩
  | 90 => ⟨S_, .i32⟩
  | 91 => ⟨S8192x1, .i32⟩
  | 92 => ⟨S8192x1, .i1⟩
  | 93 => ⟨S1x1, .i32⟩
  | 94 => ⟨S8192x1, .i32⟩
  | 95 => ⟨S8192x1, .i1⟩
  | 96 => ⟨S8192x1, .i1⟩
  | 97 => ⟨S_, .i1⟩
  | 98 => ⟨S8192, .i1⟩
  | 99 => ⟨S8192x32, .f32⟩
  | 100 => ⟨S8192x32, .i1⟩
  | 101 => ⟨S_, .f32⟩
  | 102 => ⟨S8192x32, .f32⟩
  | 103 => ⟨S8192x32, .f32⟩
  | 104 => ⟨S32x16x16x32, .f32⟩
  | 105 => ⟨S32x32x16x16, .f32⟩
  | 106 => ⟨S32x32x16x16, .f32⟩
  | 107 => ⟨S32x32x16x16, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S32x32x16x16, .f32⟩
  | 115 => ⟨S32x32x16x16, .f32⟩
  | 116 => ⟨S_, .f32⟩
  | 117 => ⟨S_, .f32⟩
  | 118 => ⟨S_, .f32⟩
  | 119 => ⟨S_, .f32⟩
  | 120 => ⟨S_, .f32⟩
  | 121 => ⟨S32x16x16, .i32⟩
  | 122 => ⟨S_, .f32⟩
  | 123 => ⟨S32x32x16x16, .f32⟩
  | 124 => ⟨S32x32x16x16, .f32⟩
  | 125 => ⟨S32x32x256, .f32⟩
  | 126 => ⟨S1x32x288, .f32⟩
  | 127 => ⟨S32x288, .f32⟩
  | _ => ⟨S32x32x16x16, .f32⟩

abbrev hbmTy0_7 (i : Nat) : BufTy := match i % 128 with
  | 0 => ⟨S1x32, .f32⟩
  | 1 => ⟨S32, .f32⟩
  | 2 => ⟨S32x1, .f32⟩
  | 3 => ⟨S32x32x256, .f32⟩
  | 4 => ⟨S32x8192, .f32⟩
  | 5 => ⟨S32x8192, .f32⟩
  | 6 => ⟨S32x32x256, .f32⟩
  | 7 => ⟨S32x32x256, .f32⟩
  | 8 => ⟨S32x32x16x16, .f32⟩
  | 9 => ⟨S_, .f32⟩
  | 10 => ⟨S32x32x16x16, .f32⟩
  | 11 => ⟨S32x32x16x16, .f32⟩
  | 12 => ⟨S_, .f32⟩
  | 13 => ⟨S32x32x16x16, .f32⟩
  | 14 => ⟨S32x32x16x16, .f32⟩
  | 15 => ⟨S32x32x16x16, .f32⟩
  | 16 => ⟨S32x32x16x16, .f32⟩
  | 17 => ⟨S32x32x16x16, .f32⟩
  | 18 => ⟨S_, .f32⟩
  | 19 => ⟨S_, .f32⟩
  | _ => ⟨S32x32x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S32x32x16x16, .f32⟩

abbrev bufTy : (tb : Table) → Fin (tcTables nBuf tb) → BufTy
  | .hbm, ⟨i, _⟩ => hbmTy i
  | .local _ .vmem, ⟨0, _⟩ => ⟨S32x8192, .f32⟩
  | .local _ .vmem, ⟨1, _⟩ => ⟨S32x288, .f32⟩
  | .local _ .vmem, ⟨2, _⟩ => ⟨S32x1, .f32⟩
  | .local _ .vmem, ⟨3, _⟩ => ⟨S32x8192, .f32⟩
  | .local _ .vmem, ⟨4, _⟩ => ⟨S32x8192, .f32⟩
  | .local _ .vmem, ⟨5, _⟩ => ⟨S32x288, .f32⟩
  | .local _ .vmem, ⟨6, _⟩ => ⟨S32x1, .f32⟩
  | .local _ .vmem, ⟨7, _⟩ => ⟨S32x8192, .f32⟩
  | .local _ .vmem, ⟨8, _⟩ => ⟨S32x8192, .f32⟩
  | .local _ .vmem, ⟨9, _⟩ => ⟨S32x288, .f32⟩
  | .local _ .vmem, ⟨10, _⟩ => ⟨S32x1, .f32⟩
  | .local _ .vmem, ⟨11, _⟩ => ⟨S32x8192, .f32⟩
  | .local _ .vmem, ⟨12, _⟩ => ⟨S32x8192, .f32⟩
  | .local _ .vmem, ⟨13, _⟩ => ⟨S32x288, .f32⟩
  | .local _ .vmem, ⟨14, _⟩ => ⟨S32x1, .f32⟩
  | .local _ .vmem, ⟨15, _⟩ => ⟨S32x8192, .f32⟩
  | .local _ .vmem, ⟨16, _⟩ => ⟨S32x8192, .f32⟩
  | .local _ .vmem, ⟨17, _⟩ => ⟨S32x288, .f32⟩
  | .local _ .vmem, ⟨18, _⟩ => ⟨S32x1, .f32⟩
  | .local _ .vmem, ⟨19, _⟩ => ⟨S32x8192, .f32⟩
  | _, _ => ⟨S32x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v23 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_5 : Ref sig .tc := ⟨.hbm, 65, rfl⟩
abbrev main_v29 : Ref sig .tc := ⟨.hbm, 66, rfl⟩
abbrev main_cst_6 : Ref sig .tc := ⟨.hbm, 67, rfl⟩
abbrev main_v30 : Ref sig .tc := ⟨.hbm, 68, rfl⟩
abbrev main_cst_7 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_8 : Ref sig .tc := ⟨.hbm, 73, rfl⟩
abbrev main_v34 : Ref sig .tc := ⟨.hbm, 74, rfl⟩
abbrev main_cst_9 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_10 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_11 : Ref sig .tc := ⟨.hbm, 83, rfl⟩
abbrev main_cst_12 : Ref sig .tc := ⟨.hbm, 84, rfl⟩
abbrev main_v41 : Ref sig .tc := ⟨.hbm, 85, rfl⟩
abbrev main_v42 : Ref sig .tc := ⟨.hbm, 86, rfl⟩
abbrev main_cst_13 : Ref sig .tc := ⟨.hbm, 87, rfl⟩
abbrev main_v43 : Ref sig .tc := ⟨.hbm, 88, rfl⟩
abbrev main_v44 : Ref sig .tc := ⟨.hbm, 89, rfl⟩
abbrev main_cst_14 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_cst_16 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_17 : Ref sig .tc := ⟨.hbm, 108, rfl⟩
abbrev main_v60 : Ref sig .tc := ⟨.hbm, 109, rfl⟩
abbrev main_v61 : Ref sig .tc := ⟨.hbm, 110, rfl⟩
abbrev main_cst_18 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_19 : Ref sig .tc := ⟨.hbm, 116, rfl⟩
abbrev main_v66 : Ref sig .tc := ⟨.hbm, 117, rfl⟩
abbrev main_v67 : Ref sig .tc := ⟨.hbm, 118, rfl⟩
abbrev main_cst_20 : Ref sig .tc := ⟨.hbm, 119, rfl⟩
abbrev main_v68 : Ref sig .tc := ⟨.hbm, 120, rfl⟩
abbrev main_v69 : Ref sig .tc := ⟨.hbm, 121, rfl⟩
abbrev main_cst_21 : Ref sig .tc := ⟨.hbm, 122, rfl⟩
abbrev main_v70 : Ref sig .tc := ⟨.hbm, 123, rfl⟩
abbrev main_v71 : Ref sig .tc := ⟨.hbm, 124, rfl⟩
abbrev main_cst_22 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_23 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_24 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_25 : Ref sig .tc := ⟨.hbm, 137, rfl⟩
abbrev main_v81 : Ref sig .tc := ⟨.hbm, 138, rfl⟩
abbrev main_v82 : Ref sig .tc := ⟨.hbm, 139, rfl⟩
abbrev main_cst_26 : Ref sig .tc := ⟨.hbm, 140, rfl⟩
abbrev main_call3_v0 : Ref sig .tc := ⟨.hbm, 141, rfl⟩
abbrev main_call3_v1 : Ref sig .tc := ⟨.hbm, 142, rfl⟩
abbrev main_v83 : Ref sig .tc := ⟨.hbm, 143, rfl⟩
abbrev main_cst_27 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_28 : Ref sig .tc := ⟨.hbm, 148, rfl⟩
abbrev main_v87 : Ref sig .tc := ⟨.hbm, 149, rfl⟩
abbrev main_v88 : Ref sig .tc := ⟨.hbm, 150, rfl⟩
abbrev main_cst_29 : Ref sig .tc := ⟨.hbm, 151, rfl⟩
abbrev main_v89 : Ref sig .tc := ⟨.hbm, 152, rfl⟩
abbrev main_v90 : Ref sig .tc := ⟨.hbm, 153, rfl⟩
abbrev main_c : Ref sig .tc := ⟨.hbm, 154, rfl⟩
abbrev main_call4_v0 : Ref sig .tc := ⟨.hbm, 155, rfl⟩
abbrev main_call4_v1 : Ref sig .tc := ⟨.hbm, 156, rfl⟩
abbrev main_v91 : Ref sig .tc := ⟨.hbm, 157, rfl⟩
abbrev main_v92 : Ref sig .tc := ⟨.hbm, 158, rfl⟩
abbrev main_c_30 : Ref sig .tc := ⟨.hbm, 159, rfl⟩
abbrev main_call5_v0 : Ref sig .tc := ⟨.hbm, 160, rfl⟩
abbrev main_call5_v1 : Ref sig .tc := ⟨.hbm, 161, rfl⟩
abbrev main_v93 : Ref sig .tc := ⟨.hbm, 162, rfl⟩
abbrev main_cst_31 : Ref sig .tc := ⟨.hbm, 163, rfl⟩
abbrev main_v94 : Ref sig .tc := ⟨.hbm, 164, rfl⟩
abbrev main_v95 : Ref sig .tc := ⟨.hbm, 165, rfl⟩
abbrev main_cst_32 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_c_33 : Ref sig .tc := ⟨.hbm, 171, rfl⟩
abbrev main_call6_v0 : Ref sig .tc := ⟨.hbm, 172, rfl⟩
abbrev main_call6_v1 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_34 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_35 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_36 : Ref sig .tc := ⟨.hbm, 201, rfl⟩
abbrev main_v125 : Ref sig .tc := ⟨.hbm, 202, rfl⟩
abbrev main_v126 : Ref sig .tc := ⟨.hbm, 203, rfl⟩
abbrev main_cst_37 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_38 : Ref sig .tc := ⟨.hbm, 211, rfl⟩
abbrev main_v133 : Ref sig .tc := ⟨.hbm, 212, rfl⟩
abbrev main_cst_39 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_40 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_41 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_cst_42 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_call7_v0 : Ref sig .tc := ⟨.hbm, 235, rfl⟩
abbrev main_call7_cst : Ref sig .tc := ⟨.hbm, 236, rfl⟩
abbrev main_call7_c : Ref sig .tc := ⟨.hbm, 237, rfl⟩
abbrev main_call7_v1_0 : Ref sig .tc := ⟨.hbm, 238, rfl⟩
abbrev main_v152 : Ref sig .tc := ⟨.hbm, 239, rfl⟩
abbrev main_call8_c : Ref sig .tc := ⟨.hbm, 240, rfl⟩
abbrev main_call8_v0 : Ref sig .tc := ⟨.hbm, 241, rfl⟩
abbrev main_call8_v1 : Ref sig .tc := ⟨.hbm, 242, rfl⟩
abbrev main_call8_c_0 : Ref sig .tc := ⟨.hbm, 243, rfl⟩
abbrev main_call8_v2 : Ref sig .tc := ⟨.hbm, 244, rfl⟩
abbrev main_call8_v3 : Ref sig .tc := ⟨.hbm, 245, rfl⟩
abbrev main_call8_v4 : Ref sig .tc := ⟨.hbm, 246, rfl⟩
abbrev main_call8_v5 : Ref sig .tc := ⟨.hbm, 247, rfl⟩
abbrev main_call8_c_1 : Ref sig .tc := ⟨.hbm, 248, rfl⟩
abbrev main_call8_c_2 : Ref sig .tc := ⟨.hbm, 249, rfl⟩
abbrev main_call8_v6 : Ref sig .tc := ⟨.hbm, 250, rfl⟩
abbrev main_call8_v7 : Ref sig .tc := ⟨.hbm, 251, rfl⟩
abbrev main_call8_v8 : Ref sig .tc := ⟨.hbm, 252, rfl⟩
abbrev main_call8_v9 : Ref sig .tc := ⟨.hbm, 253, rfl⟩
abbrev main_call8_v10 : Ref sig .tc := ⟨.hbm, 254, rfl⟩
abbrev main_call8_v11 : Ref sig .tc := ⟨.hbm, 255, rfl⟩
abbrev main_call8_c_3 : Ref sig .tc := ⟨.hbm, 256, rfl⟩
abbrev main_call8_v12 : Ref sig .tc := ⟨.hbm, 257, rfl⟩
abbrev main_call8_v13 : Ref sig .tc := ⟨.hbm, 258, rfl⟩
abbrev main_call8_v14 : Ref sig .tc := ⟨.hbm, 259, rfl⟩
abbrev main_call8_cst : Ref sig .tc := ⟨.hbm, 260, rfl⟩
abbrev main_call8_v15 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_cst_43 : Ref sig .tc := ⟨.hbm, 267, rfl⟩
abbrev main_v158 : Ref sig .tc := ⟨.hbm, 268, rfl⟩
abbrev main_cst_44 : Ref sig .tc := ⟨.hbm, 269, rfl⟩
abbrev main_v159 : Ref sig .tc := ⟨.hbm, 270, rfl⟩
abbrev main_cst_45 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_cst_46 : Ref sig .tc := ⟨.hbm, 275, rfl⟩
abbrev main_v163 : Ref sig .tc := ⟨.hbm, 276, rfl⟩
abbrev main_cst_47 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_cst_48 : Ref sig .tc := ⟨.hbm, 284, rfl⟩
abbrev main_cst_49 : Ref sig .tc := ⟨.hbm, 285, rfl⟩
abbrev main_v170 : Ref sig .tc := ⟨.hbm, 286, rfl⟩
abbrev main_v171 : Ref sig .tc := ⟨.hbm, 287, rfl⟩
abbrev main_cst_50 : Ref sig .tc := ⟨.hbm, 288, rfl⟩
abbrev main_v172 : Ref sig .tc := ⟨.hbm, 289, rfl⟩
abbrev main_v173 : Ref sig .tc := ⟨.hbm, 290, rfl⟩
abbrev main_cst_51 : Ref sig .tc := ⟨.hbm, 291, rfl⟩
abbrev main_v174 : Ref sig .tc := ⟨.hbm, 292, rfl⟩
abbrev main_v175 : Ref sig .tc := ⟨.hbm, 293, rfl⟩
abbrev main_cst_52 : Ref sig .tc := ⟨.hbm, 294, rfl⟩
abbrev main_v176 : Ref sig .tc := ⟨.hbm, 295, rfl⟩
abbrev main_v177 : Ref sig .tc := ⟨.hbm, 296, rfl⟩
abbrev main_cst_53 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_cst_54 : Ref sig .tc := ⟨.hbm, 310, rfl⟩
abbrev main_v190 : Ref sig .tc := ⟨.hbm, 311, rfl⟩
abbrev main_v191 : Ref sig .tc := ⟨.hbm, 312, rfl⟩
abbrev main_cst_55 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_cst_56 : Ref sig .tc := ⟨.hbm, 318, rfl⟩
abbrev main_v196 : Ref sig .tc := ⟨.hbm, 319, rfl⟩
abbrev main_v197 : Ref sig .tc := ⟨.hbm, 320, rfl⟩
abbrev main_cst_57 : Ref sig .tc := ⟨.hbm, 321, rfl⟩
abbrev main_v198 : Ref sig .tc := ⟨.hbm, 322, rfl⟩
abbrev main_v199 : Ref sig .tc := ⟨.hbm, 323, rfl⟩
abbrev main_cst_58 : Ref sig .tc := ⟨.hbm, 324, rfl⟩
abbrev main_v200 : Ref sig .tc := ⟨.hbm, 325, rfl⟩
abbrev main_v201 : Ref sig .tc := ⟨.hbm, 326, rfl⟩
abbrev main_cst_59 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_cst_60 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_cst_61 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_cst_62 : Ref sig .tc := ⟨.hbm, 339, rfl⟩
abbrev main_v211 : Ref sig .tc := ⟨.hbm, 340, rfl⟩
abbrev main_v212 : Ref sig .tc := ⟨.hbm, 341, rfl⟩
abbrev main_cst_63 : Ref sig .tc := ⟨.hbm, 342, rfl⟩
abbrev main_call10_v0 : Ref sig .tc := ⟨.hbm, 343, rfl⟩
abbrev main_call10_v1 : Ref sig .tc := ⟨.hbm, 344, rfl⟩
abbrev main_v213 : Ref sig .tc := ⟨.hbm, 345, rfl⟩
abbrev main_cst_64 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_cst_65 : Ref sig .tc := ⟨.hbm, 350, rfl⟩
abbrev main_v217 : Ref sig .tc := ⟨.hbm, 351, rfl⟩
abbrev main_v218 : Ref sig .tc := ⟨.hbm, 352, rfl⟩
abbrev main_cst_66 : Ref sig .tc := ⟨.hbm, 353, rfl⟩
abbrev main_v219 : Ref sig .tc := ⟨.hbm, 354, rfl⟩
abbrev main_v220 : Ref sig .tc := ⟨.hbm, 355, rfl⟩
abbrev main_c_67 : Ref sig .tc := ⟨.hbm, 356, rfl⟩
abbrev main_call11_v0 : Ref sig .tc := ⟨.hbm, 357, rfl⟩
abbrev main_call11_v1 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_c_68 : Ref sig .tc := ⟨.hbm, 362, rfl⟩
abbrev main_call12_v0 : Ref sig .tc := ⟨.hbm, 363, rfl⟩
abbrev main_call12_v1 : Ref sig .tc := ⟨.hbm, 364, rfl⟩
abbrev main_call12_v2 : Ref sig .tc := ⟨.hbm, 365, rfl⟩
abbrev main_v224 : Ref sig .tc := ⟨.hbm, 366, rfl⟩
abbrev main_cst_69 : Ref sig .tc := ⟨.hbm, 367, rfl⟩
abbrev main_v225 : Ref sig .tc := ⟨.hbm, 368, rfl⟩
abbrev main_v226 : Ref sig .tc := ⟨.hbm, 369, rfl⟩
abbrev main_cst_70 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_c_71 : Ref sig .tc := ⟨.hbm, 375, rfl⟩
abbrev main_call13_v0 : Ref sig .tc := ⟨.hbm, 376, rfl⟩
abbrev main_call13_v1 : Ref sig .tc := ⟨.hbm, 377, rfl⟩
abbrev main_call13_v2 : Ref sig .tc := ⟨.hbm, 378, rfl⟩
abbrev main_v231 : Ref sig .tc := ⟨.hbm, 379, rfl⟩
abbrev main_v232 : Ref sig .tc := ⟨.hbm, 380, rfl⟩
abbrev main_v233 : Ref sig .tc := ⟨.hbm, 381, rfl⟩
abbrev main_v234 : Ref sig .tc := ⟨.hbm, 382, rfl⟩
abbrev main_v235 : Ref sig .tc := ⟨.hbm, 383, rfl⟩
abbrev main_v236 : Ref sig .tc := ⟨.hbm, 384, rfl⟩
abbrev main_cst_72 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_cst_73 : Ref sig .tc := ⟨.hbm, 392, rfl⟩
abbrev main_v243 : Ref sig .tc := ⟨.hbm, 393, rfl⟩
abbrev main_v244 : Ref sig .tc := ⟨.hbm, 394, rfl⟩
abbrev main_v245 : Ref sig .tc := ⟨.hbm, 395, rfl⟩
abbrev main_v246 : Ref sig .tc := ⟨.hbm, 396, rfl⟩
abbrev main_v247 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_v251 : Ref sig .tc := ⟨.hbm, 401, rfl⟩
abbrev main_v252 : Ref sig .tc := ⟨.hbm, 402, rfl⟩
abbrev main_v253 : Ref sig .tc := ⟨.hbm, 403, rfl⟩
abbrev main_v254 : Ref sig .tc := ⟨.hbm, 404, rfl⟩
abbrev main_v255 : Ref sig .tc := ⟨.hbm, 405, rfl⟩
abbrev main_cst_74 : Ref sig .tc := ⟨.hbm, 406, rfl⟩
abbrev main_v256 : Ref sig .tc := ⟨.hbm, 407, rfl⟩
abbrev main_v257 : Ref sig .tc := ⟨.hbm, 408, rfl⟩
abbrev main_cst_75 : Ref sig .tc := ⟨.hbm, 409, rfl⟩
abbrev main_v258 : Ref sig .tc := ⟨.hbm, 410, rfl⟩
abbrev main_v259 : Ref sig .tc := ⟨.hbm, 411, rfl⟩
abbrev main_v260 : Ref sig .tc := ⟨.hbm, 412, rfl⟩
abbrev main_v261 : Ref sig .tc := ⟨.hbm, 413, rfl⟩
abbrev main_v262 : Ref sig .tc := ⟨.hbm, 414, rfl⟩
abbrev main_v263 : Ref sig .tc := ⟨.hbm, 415, rfl⟩
abbrev main_cst_76 : Ref sig .tc := ⟨.hbm, 416, rfl⟩
abbrev main_v264 : Ref sig .tc := ⟨.hbm, 417, rfl⟩
abbrev main_cst_77 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_cst_78 : Ref sig .tc := ⟨.hbm, 424, rfl⟩
abbrev main_v270 : Ref sig .tc := ⟨.hbm, 425, rfl⟩
abbrev main_v271 : Ref sig .tc := ⟨.hbm, 426, rfl⟩
abbrev main_v272 : Ref sig .tc := ⟨.hbm, 427, rfl⟩
abbrev main_v273 : Ref sig .tc := ⟨.hbm, 428, rfl⟩
abbrev main_cst_79 : Ref sig .tc := ⟨.hbm, 429, rfl⟩
abbrev main_v274 : Ref sig .tc := ⟨.hbm, 430, rfl⟩
abbrev main_v275 : Ref sig .tc := ⟨.hbm, 431, rfl⟩
abbrev main_v276 : Ref sig .tc := ⟨.hbm, 432, rfl⟩
abbrev main_v277 : Ref sig .tc := ⟨.hbm, 433, rfl⟩
abbrev main_v278 : Ref sig .tc := ⟨.hbm, 434, rfl⟩
abbrev main_cst_80 : Ref sig .tc := ⟨.hbm, 435, rfl⟩
abbrev main_v279 : Ref sig .tc := ⟨.hbm, 436, rfl⟩
abbrev main_v280 : Ref sig .tc := ⟨.hbm, 437, rfl⟩
abbrev main_v281 : Ref sig .tc := ⟨.hbm, 438, rfl⟩
abbrev main_v282 : Ref sig .tc := ⟨.hbm, 439, rfl⟩
abbrev main_call14_v0 : Ref sig .tc := ⟨.hbm, 440, rfl⟩
abbrev main_call14_cst : Ref sig .tc := ⟨.hbm, 441, rfl⟩
abbrev main_call14_c : Ref sig .tc := ⟨.hbm, 442, rfl⟩
abbrev main_call14_v1_0 : Ref sig .tc := ⟨.hbm, 443, rfl⟩
abbrev main_v283 : Ref sig .tc := ⟨.hbm, 444, rfl⟩
abbrev main_call15_c : Ref sig .tc := ⟨.hbm, 445, rfl⟩
abbrev main_call15_v0 : Ref sig .tc := ⟨.hbm, 446, rfl⟩
abbrev main_call15_v1 : Ref sig .tc := ⟨.hbm, 447, rfl⟩
abbrev main_call15_c_0 : Ref sig .tc := ⟨.hbm, 448, rfl⟩
abbrev main_call15_v2 : Ref sig .tc := ⟨.hbm, 449, rfl⟩
abbrev main_call15_v3 : Ref sig .tc := ⟨.hbm, 450, rfl⟩
abbrev main_call15_v4 : Ref sig .tc := ⟨.hbm, 451, rfl⟩
abbrev main_call15_v5 : Ref sig .tc := ⟨.hbm, 452, rfl⟩
abbrev main_call15_c_1 : Ref sig .tc := ⟨.hbm, 453, rfl⟩
abbrev main_call15_c_2 : Ref sig .tc := ⟨.hbm, 454, rfl⟩
abbrev main_call15_v6 : Ref sig .tc := ⟨.hbm, 455, rfl⟩
abbrev main_call15_v7 : Ref sig .tc := ⟨.hbm, 456, rfl⟩
abbrev main_call15_v8 : Ref sig .tc := ⟨.hbm, 457, rfl⟩
abbrev main_call15_v9 : Ref sig .tc := ⟨.hbm, 458, rfl⟩
abbrev main_call15_v10 : Ref sig .tc := ⟨.hbm, 459, rfl⟩
abbrev main_call15_v11 : Ref sig .tc := ⟨.hbm, 460, rfl⟩
abbrev main_call15_c_3 : Ref sig .tc := ⟨.hbm, 461, rfl⟩
abbrev main_call15_v12 : Ref sig .tc := ⟨.hbm, 462, rfl⟩
abbrev main_call15_v13 : Ref sig .tc := ⟨.hbm, 463, rfl⟩
abbrev main_call15_v14 : Ref sig .tc := ⟨.hbm, 464, rfl⟩
abbrev main_call15_cst : Ref sig .tc := ⟨.hbm, 465, rfl⟩
abbrev main_call15_v15 : Ref sig .tc := ⟨.hbm, 466, rfl⟩
abbrev main_v284 : Ref sig .tc := ⟨.hbm, 467, rfl⟩
abbrev main_v285 : Ref sig .tc := ⟨.hbm, 468, rfl⟩
abbrev main_v286 : Ref sig .tc := ⟨.hbm, 469, rfl⟩
abbrev main_v287 : Ref sig .tc := ⟨.hbm, 470, rfl⟩
abbrev main_v288 : Ref sig .tc := ⟨.hbm, 471, rfl⟩
abbrev main_cst_81 : Ref sig .tc := ⟨.hbm, 472, rfl⟩
abbrev main_v289 : Ref sig .tc := ⟨.hbm, 473, rfl⟩
abbrev main_cst_82 : Ref sig .tc := ⟨.hbm, 474, rfl⟩
abbrev main_v290 : Ref sig .tc := ⟨.hbm, 475, rfl⟩
abbrev main_cst_83 : Ref sig .tc := ⟨.hbm, 476, rfl⟩
abbrev main_v291 : Ref sig .tc := ⟨.hbm, 477, rfl⟩
abbrev main_v292 : Ref sig .tc := ⟨.hbm, 478, rfl⟩
abbrev main_v293 : Ref sig .tc := ⟨.hbm, 479, rfl⟩
abbrev main_cst_84 : Ref sig .tc := ⟨.hbm, 480, rfl⟩
abbrev main_v294 : Ref sig .tc := ⟨.hbm, 481, rfl⟩
abbrev main_cst_85 : Ref sig .tc := ⟨.hbm, 482, rfl⟩
abbrev main_v295 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_v299 : Ref sig .tc := ⟨.hbm, 487, rfl⟩
abbrev main_v300 : Ref sig .tc := ⟨.hbm, 488, rfl⟩
abbrev main_cst_86 : Ref sig .tc := ⟨.hbm, 489, rfl⟩
abbrev main_cst_87 : Ref sig .tc := ⟨.hbm, 490, rfl⟩
abbrev main_v301 : Ref sig .tc := ⟨.hbm, 491, rfl⟩
abbrev main_v302 : Ref sig .tc := ⟨.hbm, 492, rfl⟩
abbrev main_cst_88 : Ref sig .tc := ⟨.hbm, 493, rfl⟩
abbrev main_v303 : Ref sig .tc := ⟨.hbm, 494, rfl⟩
abbrev main_v304 : Ref sig .tc := ⟨.hbm, 495, rfl⟩
abbrev main_cst_89 : Ref sig .tc := ⟨.hbm, 496, rfl⟩
abbrev main_v305 : Ref sig .tc := ⟨.hbm, 497, rfl⟩
abbrev main_v306 : Ref sig .tc := ⟨.hbm, 498, rfl⟩
abbrev main_cst_90 : Ref sig .tc := ⟨.hbm, 499, rfl⟩
abbrev main_v307 : Ref sig .tc := ⟨.hbm, 500, rfl⟩
abbrev main_v308 : Ref sig .tc := ⟨.hbm, 501, rfl⟩
abbrev main_cst_91 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_v320 : Ref sig .tc := ⟨.hbm, 514, rfl⟩
abbrev main_cst_92 : Ref sig .tc := ⟨.hbm, 515, rfl⟩
abbrev main_v321 : Ref sig .tc := ⟨.hbm, 516, rfl⟩
abbrev main_v322 : Ref sig .tc := ⟨.hbm, 517, rfl⟩
abbrev main_cst_93 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_v326 : Ref sig .tc := ⟨.hbm, 522, rfl⟩
abbrev main_cst_94 : Ref sig .tc := ⟨.hbm, 523, rfl⟩
abbrev main_v327 : Ref sig .tc := ⟨.hbm, 524, rfl⟩
abbrev main_v328 : Ref sig .tc := ⟨.hbm, 525, rfl⟩
abbrev main_cst_95 : Ref sig .tc := ⟨.hbm, 526, rfl⟩
abbrev main_v329 : Ref sig .tc := ⟨.hbm, 527, rfl⟩
abbrev main_v330 : Ref sig .tc := ⟨.hbm, 528, rfl⟩
abbrev main_cst_96 : Ref sig .tc := ⟨.hbm, 529, rfl⟩
abbrev main_v331 : Ref sig .tc := ⟨.hbm, 530, rfl⟩
abbrev main_v332 : Ref sig .tc := ⟨.hbm, 531, rfl⟩
abbrev main_cst_97 : Ref sig .tc := ⟨.hbm, 532, rfl⟩
abbrev main_v333 : Ref sig .tc := ⟨.hbm, 533, rfl⟩
abbrev main_v334 : Ref sig .tc := ⟨.hbm, 534, rfl⟩
abbrev main_v335 : Ref sig .tc := ⟨.hbm, 535, rfl⟩
abbrev main_cst_98 : Ref sig .tc := ⟨.hbm, 536, rfl⟩
abbrev main_v336 : Ref sig .tc := ⟨.hbm, 537, rfl⟩
abbrev main_v337 : Ref sig .tc := ⟨.hbm, 538, rfl⟩
abbrev main_v338 : Ref sig .tc := ⟨.hbm, 539, rfl⟩
abbrev main_cst_99 : Ref sig .tc := ⟨.hbm, 540, rfl⟩
abbrev main_v339 : Ref sig .tc := ⟨.hbm, 541, rfl⟩
abbrev main_v340 : Ref sig .tc := ⟨.hbm, 542, rfl⟩
abbrev main_v341 : Ref sig .tc := ⟨.hbm, 543, rfl⟩
abbrev main_cst_100 : Ref sig .tc := ⟨.hbm, 544, rfl⟩
abbrev main_v342 : Ref sig .tc := ⟨.hbm, 545, rfl⟩
abbrev main_v343 : Ref sig .tc := ⟨.hbm, 546, rfl⟩
abbrev main_cst_101 : Ref sig .tc := ⟨.hbm, 547, rfl⟩
abbrev main_call17_v0 : Ref sig .tc := ⟨.hbm, 548, rfl⟩
abbrev main_call17_v1 : Ref sig .tc := ⟨.hbm, 549, rfl⟩
abbrev main_v344 : Ref sig .tc := ⟨.hbm, 550, rfl⟩
abbrev main_cst_102 : Ref sig .tc := ⟨.hbm, 551, rfl⟩
abbrev main_v345 : Ref sig .tc := ⟨.hbm, 552, rfl⟩
abbrev main_v346 : Ref sig .tc := ⟨.hbm, 553, rfl⟩
abbrev main_v347 : Ref sig .tc := ⟨.hbm, 554, rfl⟩
abbrev main_cst_103 : Ref sig .tc := ⟨.hbm, 555, rfl⟩
abbrev main_v348 : Ref sig .tc := ⟨.hbm, 556, rfl⟩
abbrev main_v349 : Ref sig .tc := ⟨.hbm, 557, rfl⟩
abbrev main_cst_104 : Ref sig .tc := ⟨.hbm, 558, rfl⟩
abbrev main_v350 : Ref sig .tc := ⟨.hbm, 559, rfl⟩
abbrev main_v351 : Ref sig .tc := ⟨.hbm, 560, rfl⟩
abbrev main_c_105 : Ref sig .tc := ⟨.hbm, 561, rfl⟩
abbrev main_call18_v0 : Ref sig .tc := ⟨.hbm, 562, rfl⟩
abbrev main_call18_v1 : Ref sig .tc := ⟨.hbm, 563, rfl⟩
abbrev main_v352 : Ref sig .tc := ⟨.hbm, 564, rfl⟩
abbrev main_v353 : Ref sig .tc := ⟨.hbm, 565, rfl⟩
abbrev main_v354 : Ref sig .tc := ⟨.hbm, 566, rfl⟩
abbrev main_c_106 : Ref sig .tc := ⟨.hbm, 567, rfl⟩
abbrev main_call19_v0 : Ref sig .tc := ⟨.hbm, 568, rfl⟩
abbrev main_call19_v1 : Ref sig .tc := ⟨.hbm, 569, rfl⟩
abbrev main_call19_v2 : Ref sig .tc := ⟨.hbm, 570, rfl⟩
abbrev main_v355 : Ref sig .tc := ⟨.hbm, 571, rfl⟩
abbrev main_cst_107 : Ref sig .tc := ⟨.hbm, 572, rfl⟩
abbrev main_v356 : Ref sig .tc := ⟨.hbm, 573, rfl⟩
abbrev main_v357 : Ref sig .tc := ⟨.hbm, 574, rfl⟩
abbrev main_cst_108 : Ref sig .tc := ⟨.hbm, 575, rfl⟩
abbrev main_v358 : Ref sig .tc := ⟨.hbm, 576, rfl⟩
abbrev main_v359 : Ref sig .tc := ⟨.hbm, 577, rfl⟩
abbrev main_v360 : Ref sig .tc := ⟨.hbm, 578, rfl⟩
abbrev main_v361 : Ref sig .tc := ⟨.hbm, 579, rfl⟩
abbrev main_c_109 : Ref sig .tc := ⟨.hbm, 580, rfl⟩
abbrev main_call20_v0 : Ref sig .tc := ⟨.hbm, 581, rfl⟩
abbrev main_call20_v1 : Ref sig .tc := ⟨.hbm, 582, rfl⟩
abbrev main_call20_v2 : Ref sig .tc := ⟨.hbm, 583, rfl⟩
abbrev main_v362 : Ref sig .tc := ⟨.hbm, 584, rfl⟩
abbrev main_v363 : Ref sig .tc := ⟨.hbm, 585, rfl⟩
abbrev main_v364 : Ref sig .tc := ⟨.hbm, 586, rfl⟩
abbrev main_v365 : Ref sig .tc := ⟨.hbm, 587, rfl⟩
abbrev main_v366 : Ref sig .tc := ⟨.hbm, 588, rfl⟩
abbrev main_v367 : Ref sig .tc := ⟨.hbm, 589, rfl⟩
abbrev main_cst_110 : Ref sig .tc := ⟨.hbm, 590, rfl⟩
abbrev main_v368 : Ref sig .tc := ⟨.hbm, 591, rfl⟩
abbrev main_v369 : Ref sig .tc := ⟨.hbm, 592, rfl⟩
abbrev main_v370 : Ref sig .tc := ⟨.hbm, 593, rfl⟩
abbrev main_v371 : Ref sig .tc := ⟨.hbm, 594, rfl⟩
abbrev main_v372 : Ref sig .tc := ⟨.hbm, 595, rfl⟩
abbrev main_v373 : Ref sig .tc := ⟨.hbm, 596, rfl⟩
abbrev main_cst_111 : Ref sig .tc := ⟨.hbm, 597, rfl⟩
abbrev main_v374 : Ref sig .tc := ⟨.hbm, 598, rfl⟩
abbrev main_v375 : Ref sig .tc := ⟨.hbm, 599, rfl⟩
abbrev main_v376 : Ref sig .tc := ⟨.hbm, 600, rfl⟩
abbrev main_v377 : Ref sig .tc := ⟨.hbm, 601, rfl⟩
abbrev main_v378 : Ref sig .tc := ⟨.hbm, 602, rfl⟩
abbrev main_v379 : Ref sig .tc := ⟨.hbm, 603, rfl⟩
abbrev main_v380 : Ref sig .tc := ⟨.hbm, 604, rfl⟩
abbrev main_v381 : Ref sig .tc := ⟨.hbm, 605, rfl⟩
abbrev main_v382 : Ref sig .tc := ⟨.hbm, 606, rfl⟩
abbrev main_v383 : Ref sig .tc := ⟨.hbm, 607, rfl⟩
abbrev main_v384 : Ref sig .tc := ⟨.hbm, 608, rfl⟩
abbrev main_v385 : Ref sig .tc := ⟨.hbm, 609, rfl⟩
abbrev main_v386 : Ref sig .tc := ⟨.hbm, 610, rfl⟩
abbrev main_cst_112 : Ref sig .tc := ⟨.hbm, 611, rfl⟩
abbrev main_v387 : Ref sig .tc := ⟨.hbm, 612, rfl⟩
abbrev main_v388 : Ref sig .tc := ⟨.hbm, 613, rfl⟩
abbrev main_cst_113 : Ref sig .tc := ⟨.hbm, 614, rfl⟩
abbrev main_v389 : Ref sig .tc := ⟨.hbm, 615, rfl⟩
abbrev main_v390 : Ref sig .tc := ⟨.hbm, 616, rfl⟩
abbrev main_v391 : Ref sig .tc := ⟨.hbm, 617, rfl⟩
abbrev main_v392 : Ref sig .tc := ⟨.hbm, 618, rfl⟩
abbrev main_v393 : Ref sig .tc := ⟨.hbm, 619, rfl⟩
abbrev main_v394 : Ref sig .tc := ⟨.hbm, 620, rfl⟩
abbrev main_cst_114 : Ref sig .tc := ⟨.hbm, 621, rfl⟩
abbrev main_v395 : Ref sig .tc := ⟨.hbm, 622, rfl⟩
abbrev main_cst_115 : Ref sig .tc := ⟨.hbm, 623, rfl⟩
abbrev main_v396 : Ref sig .tc := ⟨.hbm, 624, rfl⟩
abbrev main_v397 : Ref sig .tc := ⟨.hbm, 625, rfl⟩
abbrev main_v398 : Ref sig .tc := ⟨.hbm, 626, rfl⟩
abbrev main_v399 : Ref sig .tc := ⟨.hbm, 627, rfl⟩
abbrev main_v400 : Ref sig .tc := ⟨.hbm, 628, rfl⟩
abbrev main_cst_116 : Ref sig .tc := ⟨.hbm, 629, rfl⟩
abbrev main_v401 : Ref sig .tc := ⟨.hbm, 630, rfl⟩
abbrev main_v402 : Ref sig .tc := ⟨.hbm, 631, rfl⟩
abbrev main_v403 : Ref sig .tc := ⟨.hbm, 632, rfl⟩
abbrev main_v404 : Ref sig .tc := ⟨.hbm, 633, rfl⟩
abbrev main_cst_117 : Ref sig .tc := ⟨.hbm, 634, rfl⟩
abbrev main_v405 : Ref sig .tc := ⟨.hbm, 635, rfl⟩
abbrev main_v406 : Ref sig .tc := ⟨.hbm, 636, rfl⟩
abbrev main_v407 : Ref sig .tc := ⟨.hbm, 637, rfl⟩
abbrev main_v408 : Ref sig .tc := ⟨.hbm, 638, rfl⟩
abbrev main_v409 : Ref sig .tc := ⟨.hbm, 639, rfl⟩
abbrev main_cst_118 : Ref sig .tc := ⟨.hbm, 640, rfl⟩
abbrev main_v410 : Ref sig .tc := ⟨.hbm, 641, rfl⟩
abbrev main_v411 : Ref sig .tc := ⟨.hbm, 642, rfl⟩
abbrev main_v412 : Ref sig .tc := ⟨.hbm, 643, rfl⟩
abbrev main_v413 : Ref sig .tc := ⟨.hbm, 644, rfl⟩
abbrev main_call21_v0 : Ref sig .tc := ⟨.hbm, 645, rfl⟩
abbrev main_call21_cst : Ref sig .tc := ⟨.hbm, 646, rfl⟩
abbrev main_call21_c : Ref sig .tc := ⟨.hbm, 647, rfl⟩
abbrev main_call21_v1_0 : Ref sig .tc := ⟨.hbm, 648, rfl⟩
abbrev main_v414 : Ref sig .tc := ⟨.hbm, 649, rfl⟩
abbrev main_call22_c : Ref sig .tc := ⟨.hbm, 650, rfl⟩
abbrev main_call22_v0 : Ref sig .tc := ⟨.hbm, 651, rfl⟩
abbrev main_call22_v1 : Ref sig .tc := ⟨.hbm, 652, rfl⟩
abbrev main_call22_c_0 : Ref sig .tc := ⟨.hbm, 653, rfl⟩
abbrev main_call22_v2 : Ref sig .tc := ⟨.hbm, 654, rfl⟩
abbrev main_call22_v3 : Ref sig .tc := ⟨.hbm, 655, rfl⟩
abbrev main_call22_v4 : Ref sig .tc := ⟨.hbm, 656, rfl⟩
abbrev main_call22_v5 : Ref sig .tc := ⟨.hbm, 657, rfl⟩
abbrev main_call22_c_1 : Ref sig .tc := ⟨.hbm, 658, rfl⟩
abbrev main_call22_c_2 : Ref sig .tc := ⟨.hbm, 659, rfl⟩
abbrev main_call22_v6 : Ref sig .tc := ⟨.hbm, 660, rfl⟩
abbrev main_call22_v7 : Ref sig .tc := ⟨.hbm, 661, rfl⟩
abbrev main_call22_v8 : Ref sig .tc := ⟨.hbm, 662, rfl⟩
abbrev main_call22_v9 : Ref sig .tc := ⟨.hbm, 663, rfl⟩
abbrev main_call22_v10 : Ref sig .tc := ⟨.hbm, 664, rfl⟩
abbrev main_call22_v11 : Ref sig .tc := ⟨.hbm, 665, rfl⟩
abbrev main_call22_c_3 : Ref sig .tc := ⟨.hbm, 666, rfl⟩
abbrev main_call22_v12 : Ref sig .tc := ⟨.hbm, 667, rfl⟩
abbrev main_call22_v13 : Ref sig .tc := ⟨.hbm, 668, rfl⟩
abbrev main_call22_v14 : Ref sig .tc := ⟨.hbm, 669, rfl⟩
abbrev main_call22_cst : Ref sig .tc := ⟨.hbm, 670, rfl⟩
abbrev main_call22_v15 : Ref sig .tc := ⟨.hbm, 671, rfl⟩
abbrev main_v415 : Ref sig .tc := ⟨.hbm, 672, rfl⟩
abbrev main_v416 : Ref sig .tc := ⟨.hbm, 673, rfl⟩
abbrev main_v417 : Ref sig .tc := ⟨.hbm, 674, rfl⟩
abbrev main_v418 : Ref sig .tc := ⟨.hbm, 675, rfl⟩
abbrev main_v419 : Ref sig .tc := ⟨.hbm, 676, rfl⟩
abbrev main_cst_119 : Ref sig .tc := ⟨.hbm, 677, rfl⟩
abbrev main_v420 : Ref sig .tc := ⟨.hbm, 678, rfl⟩
abbrev main_cst_120 : Ref sig .tc := ⟨.hbm, 679, rfl⟩
abbrev main_v421 : Ref sig .tc := ⟨.hbm, 680, rfl⟩
abbrev main_cst_121 : Ref sig .tc := ⟨.hbm, 681, rfl⟩
abbrev main_v422 : Ref sig .tc := ⟨.hbm, 682, rfl⟩
abbrev main_v423 : Ref sig .tc := ⟨.hbm, 683, rfl⟩
abbrev main_v424 : Ref sig .tc := ⟨.hbm, 684, rfl⟩
abbrev main_cst_122 : Ref sig .tc := ⟨.hbm, 685, rfl⟩
abbrev main_v425 : Ref sig .tc := ⟨.hbm, 686, rfl⟩
abbrev main_cst_123 : Ref sig .tc := ⟨.hbm, 687, rfl⟩
abbrev main_v426 : Ref sig .tc := ⟨.hbm, 688, rfl⟩
abbrev main_v427 : Ref sig .tc := ⟨.hbm, 689, rfl⟩
abbrev main_v428 : Ref sig .tc := ⟨.hbm, 690, rfl⟩
abbrev main_v429 : Ref sig .tc := ⟨.hbm, 691, rfl⟩
abbrev main_v430 : Ref sig .tc := ⟨.hbm, 692, rfl⟩
abbrev main_v431 : Ref sig .tc := ⟨.hbm, 693, rfl⟩
abbrev main_cst_124 : Ref sig .tc := ⟨.hbm, 694, rfl⟩
abbrev main_cst_125 : Ref sig .tc := ⟨.hbm, 695, rfl⟩
abbrev main_v432 : Ref sig .tc := ⟨.hbm, 696, rfl⟩
abbrev main_v433 : Ref sig .tc := ⟨.hbm, 697, rfl⟩
abbrev main_cst_126 : Ref sig .tc := ⟨.hbm, 698, rfl⟩
abbrev main_v434 : Ref sig .tc := ⟨.hbm, 699, rfl⟩
abbrev main_v435 : Ref sig .tc := ⟨.hbm, 700, rfl⟩
abbrev main_cst_127 : Ref sig .tc := ⟨.hbm, 701, rfl⟩
abbrev main_v436 : Ref sig .tc := ⟨.hbm, 702, rfl⟩
abbrev main_v437 : Ref sig .tc := ⟨.hbm, 703, rfl⟩
abbrev main_cst_128 : Ref sig .tc := ⟨.hbm, 704, rfl⟩
abbrev main_v438 : Ref sig .tc := ⟨.hbm, 705, rfl⟩
abbrev main_v439 : Ref sig .tc := ⟨.hbm, 706, rfl⟩
abbrev main_cst_129 : Ref sig .tc := ⟨.hbm, 707, rfl⟩
abbrev main_v440 : Ref sig .tc := ⟨.hbm, 708, rfl⟩
abbrev main_v441 : Ref sig .tc := ⟨.hbm, 709, rfl⟩
abbrev main_v442 : Ref sig .tc := ⟨.hbm, 710, rfl⟩
abbrev main_v443 : Ref sig .tc := ⟨.hbm, 711, rfl⟩
abbrev main_v444 : Ref sig .tc := ⟨.hbm, 712, rfl⟩
abbrev main_v445 : Ref sig .tc := ⟨.hbm, 713, rfl⟩
abbrev main_v446 : Ref sig .tc := ⟨.hbm, 714, rfl⟩
abbrev main_v447 : Ref sig .tc := ⟨.hbm, 715, rfl⟩
abbrev main_v448 : Ref sig .tc := ⟨.hbm, 716, rfl⟩
abbrev main_v449 : Ref sig .tc := ⟨.hbm, 717, rfl⟩
abbrev main_v450 : Ref sig .tc := ⟨.hbm, 718, rfl⟩
abbrev main_v451 : Ref sig .tc := ⟨.hbm, 719, rfl⟩
abbrev main_cst_130 : Ref sig .tc := ⟨.hbm, 720, rfl⟩
abbrev main_v452 : Ref sig .tc := ⟨.hbm, 721, rfl⟩
abbrev main_v453 : Ref sig .tc := ⟨.hbm, 722, rfl⟩
abbrev main_cst_131 : Ref sig .tc := ⟨.hbm, 723, rfl⟩
abbrev main_v454 : Ref sig .tc := ⟨.hbm, 724, rfl⟩
abbrev main_v455 : Ref sig .tc := ⟨.hbm, 725, rfl⟩
abbrev main_v456 : Ref sig .tc := ⟨.hbm, 726, rfl⟩
abbrev main_v457 : Ref sig .tc := ⟨.hbm, 727, rfl⟩
abbrev main_cst_132 : Ref sig .tc := ⟨.hbm, 728, rfl⟩
abbrev main_v458 : Ref sig .tc := ⟨.hbm, 729, rfl⟩
abbrev main_v459 : Ref sig .tc := ⟨.hbm, 730, rfl⟩
abbrev main_cst_133 : Ref sig .tc := ⟨.hbm, 731, rfl⟩
abbrev main_v460 : Ref sig .tc := ⟨.hbm, 732, rfl⟩
abbrev main_v461 : Ref sig .tc := ⟨.hbm, 733, rfl⟩
abbrev main_cst_134 : Ref sig .tc := ⟨.hbm, 734, rfl⟩
abbrev main_v462 : Ref sig .tc := ⟨.hbm, 735, rfl⟩
abbrev main_v463 : Ref sig .tc := ⟨.hbm, 736, rfl⟩
abbrev main_cst_135 : Ref sig .tc := ⟨.hbm, 737, rfl⟩
abbrev main_v464 : Ref sig .tc := ⟨.hbm, 738, rfl⟩
abbrev main_v465 : Ref sig .tc := ⟨.hbm, 739, rfl⟩
abbrev main_v466 : Ref sig .tc := ⟨.hbm, 740, rfl⟩
abbrev main_cst_136 : Ref sig .tc := ⟨.hbm, 741, rfl⟩
abbrev main_v467 : Ref sig .tc := ⟨.hbm, 742, rfl⟩
abbrev main_v468 : Ref sig .tc := ⟨.hbm, 743, rfl⟩
abbrev main_v469 : Ref sig .tc := ⟨.hbm, 744, rfl⟩
abbrev main_cst_137 : Ref sig .tc := ⟨.hbm, 745, rfl⟩
abbrev main_v470 : Ref sig .tc := ⟨.hbm, 746, rfl⟩
abbrev main_v471 : Ref sig .tc := ⟨.hbm, 747, rfl⟩
abbrev main_v472 : Ref sig .tc := ⟨.hbm, 748, rfl⟩
abbrev main_cst_138 : Ref sig .tc := ⟨.hbm, 749, rfl⟩
abbrev main_v473 : Ref sig .tc := ⟨.hbm, 750, rfl⟩
abbrev main_v474 : Ref sig .tc := ⟨.hbm, 751, rfl⟩
abbrev main_cst_139 : Ref sig .tc := ⟨.hbm, 752, rfl⟩
abbrev main_call24_v0 : Ref sig .tc := ⟨.hbm, 753, rfl⟩
abbrev main_call24_v1 : Ref sig .tc := ⟨.hbm, 754, rfl⟩
abbrev main_v475 : Ref sig .tc := ⟨.hbm, 755, rfl⟩
abbrev main_cst_140 : Ref sig .tc := ⟨.hbm, 756, rfl⟩
abbrev main_v476 : Ref sig .tc := ⟨.hbm, 757, rfl⟩
abbrev main_v477 : Ref sig .tc := ⟨.hbm, 758, rfl⟩
abbrev main_v478 : Ref sig .tc := ⟨.hbm, 759, rfl⟩
abbrev main_cst_141 : Ref sig .tc := ⟨.hbm, 760, rfl⟩
abbrev main_v479 : Ref sig .tc := ⟨.hbm, 761, rfl⟩
abbrev main_v480 : Ref sig .tc := ⟨.hbm, 762, rfl⟩
abbrev main_cst_142 : Ref sig .tc := ⟨.hbm, 763, rfl⟩
abbrev main_v481 : Ref sig .tc := ⟨.hbm, 764, rfl⟩
abbrev main_v482 : Ref sig .tc := ⟨.hbm, 765, rfl⟩
abbrev main_c_143 : Ref sig .tc := ⟨.hbm, 766, rfl⟩
abbrev main_call25_v0 : Ref sig .tc := ⟨.hbm, 767, rfl⟩
abbrev main_call25_v1 : Ref sig .tc := ⟨.hbm, 768, rfl⟩
abbrev main_v483 : Ref sig .tc := ⟨.hbm, 769, rfl⟩
abbrev main_v484 : Ref sig .tc := ⟨.hbm, 770, rfl⟩
abbrev main_v485 : Ref sig .tc := ⟨.hbm, 771, rfl⟩
abbrev main_c_144 : Ref sig .tc := ⟨.hbm, 772, rfl⟩
abbrev main_call26_v0 : Ref sig .tc := ⟨.hbm, 773, rfl⟩
abbrev main_call26_v1 : Ref sig .tc := ⟨.hbm, 774, rfl⟩
abbrev main_call26_v2 : Ref sig .tc := ⟨.hbm, 775, rfl⟩
abbrev main_v486 : Ref sig .tc := ⟨.hbm, 776, rfl⟩
abbrev main_cst_145 : Ref sig .tc := ⟨.hbm, 777, rfl⟩
abbrev main_v487 : Ref sig .tc := ⟨.hbm, 778, rfl⟩
abbrev main_v488 : Ref sig .tc := ⟨.hbm, 779, rfl⟩
abbrev main_cst_146 : Ref sig .tc := ⟨.hbm, 780, rfl⟩
abbrev main_v489 : Ref sig .tc := ⟨.hbm, 781, rfl⟩
abbrev main_v490 : Ref sig .tc := ⟨.hbm, 782, rfl⟩
abbrev main_v491 : Ref sig .tc := ⟨.hbm, 783, rfl⟩
abbrev main_v492 : Ref sig .tc := ⟨.hbm, 784, rfl⟩
abbrev main_c_147 : Ref sig .tc := ⟨.hbm, 785, rfl⟩
abbrev main_call27_v0 : Ref sig .tc := ⟨.hbm, 786, rfl⟩
abbrev main_call27_v1 : Ref sig .tc := ⟨.hbm, 787, rfl⟩
abbrev main_call27_v2 : Ref sig .tc := ⟨.hbm, 788, rfl⟩
abbrev main_v493 : Ref sig .tc := ⟨.hbm, 789, rfl⟩
abbrev main_v494 : Ref sig .tc := ⟨.hbm, 790, rfl⟩
abbrev main_v495 : Ref sig .tc := ⟨.hbm, 791, rfl⟩
abbrev main_v496 : Ref sig .tc := ⟨.hbm, 792, rfl⟩
abbrev main_v497 : Ref sig .tc := ⟨.hbm, 793, rfl⟩
abbrev main_v498 : Ref sig .tc := ⟨.hbm, 794, rfl⟩
abbrev main_cst_148 : Ref sig .tc := ⟨.hbm, 795, rfl⟩
abbrev main_v499 : Ref sig .tc := ⟨.hbm, 796, rfl⟩
abbrev main_v500 : Ref sig .tc := ⟨.hbm, 797, rfl⟩
abbrev main_v501 : Ref sig .tc := ⟨.hbm, 798, rfl⟩
abbrev main_v502 : Ref sig .tc := ⟨.hbm, 799, rfl⟩
abbrev main_v503 : Ref sig .tc := ⟨.hbm, 800, rfl⟩
abbrev main_v504 : Ref sig .tc := ⟨.hbm, 801, rfl⟩
abbrev main_cst_149 : Ref sig .tc := ⟨.hbm, 802, rfl⟩
abbrev main_v505 : Ref sig .tc := ⟨.hbm, 803, rfl⟩
abbrev main_v506 : Ref sig .tc := ⟨.hbm, 804, rfl⟩
abbrev main_v507 : Ref sig .tc := ⟨.hbm, 805, rfl⟩
abbrev main_v508 : Ref sig .tc := ⟨.hbm, 806, rfl⟩
abbrev main_v509 : Ref sig .tc := ⟨.hbm, 807, rfl⟩
abbrev main_v510 : Ref sig .tc := ⟨.hbm, 808, rfl⟩
abbrev main_v511 : Ref sig .tc := ⟨.hbm, 809, rfl⟩
abbrev main_v512 : Ref sig .tc := ⟨.hbm, 810, rfl⟩
abbrev main_v513 : Ref sig .tc := ⟨.hbm, 811, rfl⟩
abbrev main_v514 : Ref sig .tc := ⟨.hbm, 812, rfl⟩
abbrev main_v515 : Ref sig .tc := ⟨.hbm, 813, rfl⟩
abbrev main_v516 : Ref sig .tc := ⟨.hbm, 814, rfl⟩
abbrev main_v517 : Ref sig .tc := ⟨.hbm, 815, rfl⟩
abbrev main_cst_150 : Ref sig .tc := ⟨.hbm, 816, rfl⟩
abbrev main_v518 : Ref sig .tc := ⟨.hbm, 817, rfl⟩
abbrev main_v519 : Ref sig .tc := ⟨.hbm, 818, rfl⟩
abbrev main_cst_151 : Ref sig .tc := ⟨.hbm, 819, rfl⟩
abbrev main_v520 : Ref sig .tc := ⟨.hbm, 820, rfl⟩
abbrev main_v521 : Ref sig .tc := ⟨.hbm, 821, rfl⟩
abbrev main_v522 : Ref sig .tc := ⟨.hbm, 822, rfl⟩
abbrev main_v523 : Ref sig .tc := ⟨.hbm, 823, rfl⟩
abbrev main_v524 : Ref sig .tc := ⟨.hbm, 824, rfl⟩
abbrev main_v525 : Ref sig .tc := ⟨.hbm, 825, rfl⟩
abbrev main_v526 : Ref sig .tc := ⟨.hbm, 826, rfl⟩
abbrev main_v527 : Ref sig .tc := ⟨.hbm, 827, rfl⟩
abbrev main_cst_152 : Ref sig .tc := ⟨.hbm, 828, rfl⟩
abbrev main_v528 : Ref sig .tc := ⟨.hbm, 829, rfl⟩
abbrev main_v529 : Ref sig .tc := ⟨.hbm, 830, rfl⟩
abbrev main_v530 : Ref sig .tc := ⟨.hbm, 831, rfl⟩
abbrev main_v531 : Ref sig .tc := ⟨.hbm, 832, rfl⟩
abbrev main_cst_153 : Ref sig .tc := ⟨.hbm, 833, rfl⟩
abbrev main_v532 : Ref sig .tc := ⟨.hbm, 834, rfl⟩
abbrev main_v533 : Ref sig .tc := ⟨.hbm, 835, rfl⟩
abbrev main_v534 : Ref sig .tc := ⟨.hbm, 836, rfl⟩
abbrev main_v535 : Ref sig .tc := ⟨.hbm, 837, rfl⟩
abbrev main_v536 : Ref sig .tc := ⟨.hbm, 838, rfl⟩
abbrev main_cst_154 : Ref sig .tc := ⟨.hbm, 839, rfl⟩
abbrev main_v537 : Ref sig .tc := ⟨.hbm, 840, rfl⟩
abbrev main_v538 : Ref sig .tc := ⟨.hbm, 841, rfl⟩
abbrev main_v539 : Ref sig .tc := ⟨.hbm, 842, rfl⟩
abbrev main_v540 : Ref sig .tc := ⟨.hbm, 843, rfl⟩
abbrev main_call28_v0 : Ref sig .tc := ⟨.hbm, 844, rfl⟩
abbrev main_call28_cst : Ref sig .tc := ⟨.hbm, 845, rfl⟩
abbrev main_call28_c : Ref sig .tc := ⟨.hbm, 846, rfl⟩
abbrev main_call28_v1_0 : Ref sig .tc := ⟨.hbm, 847, rfl⟩
abbrev main_v541 : Ref sig .tc := ⟨.hbm, 848, rfl⟩
abbrev main_call29_c : Ref sig .tc := ⟨.hbm, 849, rfl⟩
abbrev main_call29_v0 : Ref sig .tc := ⟨.hbm, 850, rfl⟩
abbrev main_call29_v1 : Ref sig .tc := ⟨.hbm, 851, rfl⟩
abbrev main_call29_c_0 : Ref sig .tc := ⟨.hbm, 852, rfl⟩
abbrev main_call29_v2 : Ref sig .tc := ⟨.hbm, 853, rfl⟩
abbrev main_call29_v3 : Ref sig .tc := ⟨.hbm, 854, rfl⟩
abbrev main_call29_v4 : Ref sig .tc := ⟨.hbm, 855, rfl⟩
abbrev main_call29_v5 : Ref sig .tc := ⟨.hbm, 856, rfl⟩
abbrev main_call29_c_1 : Ref sig .tc := ⟨.hbm, 857, rfl⟩
abbrev main_call29_c_2 : Ref sig .tc := ⟨.hbm, 858, rfl⟩
abbrev main_call29_v6 : Ref sig .tc := ⟨.hbm, 859, rfl⟩
abbrev main_call29_v7 : Ref sig .tc := ⟨.hbm, 860, rfl⟩
abbrev main_call29_v8 : Ref sig .tc := ⟨.hbm, 861, rfl⟩
abbrev main_call29_v9 : Ref sig .tc := ⟨.hbm, 862, rfl⟩
abbrev main_call29_v10 : Ref sig .tc := ⟨.hbm, 863, rfl⟩
abbrev main_call29_v11 : Ref sig .tc := ⟨.hbm, 864, rfl⟩
abbrev main_call29_c_3 : Ref sig .tc := ⟨.hbm, 865, rfl⟩
abbrev main_call29_v12 : Ref sig .tc := ⟨.hbm, 866, rfl⟩
abbrev main_call29_v13 : Ref sig .tc := ⟨.hbm, 867, rfl⟩
abbrev main_call29_v14 : Ref sig .tc := ⟨.hbm, 868, rfl⟩
abbrev main_call29_cst : Ref sig .tc := ⟨.hbm, 869, rfl⟩
abbrev main_call29_v15 : Ref sig .tc := ⟨.hbm, 870, rfl⟩
abbrev main_v542 : Ref sig .tc := ⟨.hbm, 871, rfl⟩
abbrev main_v543 : Ref sig .tc := ⟨.hbm, 872, rfl⟩
abbrev main_v544 : Ref sig .tc := ⟨.hbm, 873, rfl⟩
abbrev main_v545 : Ref sig .tc := ⟨.hbm, 874, rfl⟩
abbrev main_v546 : Ref sig .tc := ⟨.hbm, 875, rfl⟩
abbrev main_cst_155 : Ref sig .tc := ⟨.hbm, 876, rfl⟩
abbrev main_v547 : Ref sig .tc := ⟨.hbm, 877, rfl⟩
abbrev main_cst_156 : Ref sig .tc := ⟨.hbm, 878, rfl⟩
abbrev main_v548 : Ref sig .tc := ⟨.hbm, 879, rfl⟩
abbrev main_cst_157 : Ref sig .tc := ⟨.hbm, 880, rfl⟩
abbrev main_v549 : Ref sig .tc := ⟨.hbm, 881, rfl⟩
abbrev main_v550 : Ref sig .tc := ⟨.hbm, 882, rfl⟩
abbrev main_v551 : Ref sig .tc := ⟨.hbm, 883, rfl⟩
abbrev main_cst_158 : Ref sig .tc := ⟨.hbm, 884, rfl⟩
abbrev main_v552 : Ref sig .tc := ⟨.hbm, 885, rfl⟩
abbrev main_cst_159 : Ref sig .tc := ⟨.hbm, 886, rfl⟩
abbrev main_v553 : Ref sig .tc := ⟨.hbm, 887, rfl⟩
abbrev main_v554 : Ref sig .tc := ⟨.hbm, 888, rfl⟩
abbrev main_v555 : Ref sig .tc := ⟨.hbm, 889, rfl⟩
abbrev main_v556 : Ref sig .tc := ⟨.hbm, 890, rfl⟩
abbrev main_v557 : Ref sig .tc := ⟨.hbm, 891, rfl⟩
abbrev main_v558 : Ref sig .tc := ⟨.hbm, 892, rfl⟩
abbrev main_v559 : Ref sig .tc := ⟨.hbm, 893, rfl⟩
abbrev main_v560 : Ref sig .tc := ⟨.hbm, 894, rfl⟩
abbrev main_v561 : Ref sig .tc := ⟨.hbm, 895, rfl⟩
abbrev main_v562 : Ref sig .tc := ⟨.hbm, 896, rfl⟩
abbrev main_v563 : Ref sig .tc := ⟨.hbm, 897, rfl⟩
abbrev main_v564 : Ref sig .tc := ⟨.hbm, 898, rfl⟩
abbrev main_v565 : Ref sig .tc := ⟨.hbm, 899, rfl⟩
abbrev main_v566 : Ref sig .tc := ⟨.hbm, 900, rfl⟩
abbrev main_v567 : Ref sig .tc := ⟨.hbm, 901, rfl⟩
abbrev main_v568 : Ref sig .tc := ⟨.hbm, 902, rfl⟩
abbrev main_v569 : Ref sig .tc := ⟨.hbm, 903, rfl⟩
abbrev main_v570 : Ref sig .tc := ⟨.hbm, 904, rfl⟩
abbrev main_cst_160 : Ref sig .tc := ⟨.hbm, 905, rfl⟩
abbrev main_v571 : Ref sig .tc := ⟨.hbm, 906, rfl⟩
abbrev main_v572 : Ref sig .tc := ⟨.hbm, 907, rfl⟩
abbrev main_cst_161 : Ref sig .tc := ⟨.hbm, 908, rfl⟩
abbrev main_v573 : Ref sig .tc := ⟨.hbm, 909, rfl⟩
abbrev main_v574 : Ref sig .tc := ⟨.hbm, 910, rfl⟩
abbrev main_v575 : Ref sig .tc := ⟨.hbm, 911, rfl⟩
abbrev main_v576 : Ref sig .tc := ⟨.hbm, 912, rfl⟩
abbrev main_v577 : Ref sig .tc := ⟨.hbm, 913, rfl⟩
abbrev main_cst_162 : Ref sig .tc := ⟨.hbm, 914, rfl⟩
abbrev main_v578 : Ref sig .tc := ⟨.hbm, 915, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc4_sem0_0 : DmaSem sig := 16
abbrev cc4_sem1_0 : DmaSem sig := 17
abbrev cc4_sem2_0 : DmaSem sig := 18
abbrev cc4_sem3_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x288 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S32x8192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x288 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x8192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S32x8192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S32x288 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x8192 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]
-- ==== ReferenceIdeal.lean ====
abbrev S32x32x16x16 : Shape := ⟨4, ![32, 32, 16, 16]⟩
abbrev S4096x32 : Shape := ⟨2, ![4096, 32]⟩
abbrev S5x32x32x3x3 : Shape := ⟨5, ![5, 32, 32, 3, 3]⟩
abbrev S5x32 : Shape := ⟨2, ![5, 32]⟩
abbrev S_ : Shape := ⟨0, ![]⟩
abbrev S32x32x1x16x1x16 : Shape := ⟨6, ![32, 32, 1, 16, 1, 16]⟩
abbrev S32x32x1x1 : Shape := ⟨4, ![32, 32, 1, 1]⟩
abbrev S32x1x1x32 : Shape := ⟨4, ![32, 1, 1, 32]⟩
abbrev S32x32 : Shape := ⟨2, ![32, 32]⟩
abbrev S32 : Shape := ⟨1, ![32]⟩
abbrev S32x1 : Shape := ⟨2, ![32, 1]⟩
abbrev S32x4096 : Shape := ⟨2, ![32, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S32x1x1 : Shape := ⟨3, ![32, 1, 1]⟩
abbrev S16 : Shape := ⟨1, ![16]⟩
abbrev S1x16 : Shape := ⟨2, ![1, 16]⟩
abbrev S16x32x32x1 : Shape := ⟨4, ![16, 32, 32, 1]⟩
abbrev S32x32x16x1 : Shape := ⟨4, ![32, 32, 16, 1]⟩
abbrev S1x32x32x3x3 : Shape := ⟨5, ![1, 32, 32, 3, 3]⟩
abbrev S32x32x3x3 : Shape := ⟨4, ![32, 32, 3, 3]⟩
abbrev S1x32 : Shape := ⟨2, ![1, 32]⟩
abbrev S32x32x18x18 : Shape := ⟨4, ![32, 32, 18, 18]⟩
abbrev S32x16x16x32 : Shape := ⟨4, ![32, 16, 16, 32]⟩
abbrev S1x32x1x1 : Shape := ⟨4, ![1, 32, 1, 1]⟩
abbrev S32x32x2x8x2x8 : Shape := ⟨6, ![32, 32, 2, 8, 2, 8]⟩
abbrev S32x32x2x2 : Shape := ⟨4, ![32, 32, 2, 2]⟩
abbrev S32x2x2x32 : Shape := ⟨4, ![32, 2, 2, 32]⟩
abbrev S128x32 : Shape := ⟨2, ![128, 32]⟩
abbrev S128 : Shape := ⟨1, ![128]⟩
abbrev S128x1 : Shape := ⟨2, ![128, 1]⟩
abbrev S128x4096 : Shape := ⟨2, ![128, 4096]⟩
abbrev S32x2x2 : Shape := ⟨3, ![32, 2, 2]⟩
abbrev S2 : Shape := ⟨1, ![2]⟩
abbrev S2x1 : Shape := ⟨2, ![2, 1]⟩
abbrev S2x16 : Shape := ⟨2, ![2, 16]⟩
abbrev S16x32x32x2 : Shape := ⟨4, ![16, 32, 32, 2]⟩
abbrev S32x32x16x2 : Shape := ⟨4, ![32, 32, 16, 2]⟩
abbrev S32x32x4x4x4x4 : Shape := ⟨6, ![32, 32, 4, 4, 4, 4]⟩
abbrev S32x32x4x4 : Shape := ⟨4, ![32, 32, 4, 4]⟩
abbrev S32x4x4x32 : Shape := ⟨4, ![32, 4, 4, 32]⟩
abbrev S512x32 : Shape := ⟨2, ![512, 32]⟩
abbrev S512 : Shape := ⟨1, ![512]⟩
abbrev S512x1 : Shape := ⟨2, ![512, 1]⟩
abbrev S512x4096 : Shape := ⟨2, ![512, 4096]⟩
abbrev S32x4x4 : Shape := ⟨3, ![32, 4, 4]⟩
abbrev S4 : Shape := ⟨1, ![4]⟩
abbrev S4x1 : Shape := ⟨2, ![4, 1]⟩
abbrev S4x16 : Shape := ⟨2, ![4, 16]⟩
abbrev S16x32x32x4 : Shape := ⟨4, ![16, 32, 32, 4]⟩
abbrev S32x32x16x4 : Shape := ⟨4, ![32, 32, 16, 4]⟩
abbrev S32x32x8x2x8x2 : Shape := ⟨6, ![32, 32, 8, 2, 8, 2]⟩
abbrev S32x32x8x8 : Shape := ⟨4, ![32, 32, 8, 8]⟩
abbrev S32x8x8x32 : Shape := ⟨4, ![32, 8, 8, 32]⟩
abbrev S2048x32 : Shape := ⟨2, ![2048, 32]⟩
abbrev S2048 : Shape := ⟨1, ![2048]⟩
abbrev S2048x1 : Shape := ⟨2, ![2048, 1]⟩
abbrev S2048x4096 : Shape := ⟨2, ![2048, 4096]⟩
abbrev S32x8x8 : Shape := ⟨3, ![32, 8, 8]⟩
abbrev S8 : Shape := ⟨1, ![8]⟩
abbrev S8x1 : Shape := ⟨2, ![8, 1]⟩
abbrev S8x16 : Shape := ⟨2, ![8, 16]⟩
abbrev S16x32x32x8 : Shape := ⟨4, ![16, 32, 32, 8]⟩
abbrev S32x32x16x8 : Shape := ⟨4, ![32, 32, 16, 8]⟩
abbrev S8192x32 : Shape := ⟨2, ![8192, 32]⟩
abbrev S8192 : Shape := ⟨1, ![8192]⟩
abbrev S8192x1 : Shape := ⟨2, ![8192, 1]⟩
abbrev S8192x4096 : Shape := ⟨2, ![8192, 4096]⟩
abbrev S32x16x16 : Shape := ⟨3, ![32, 16, 16]⟩

abbrev nBuf : Space → Nat
  | .hbm => 1140
  | .vmem => 0
  | .smem => 0
  | _ => 0

abbrev hbmTy0_0 (i : Nat) : BufTy := match i % 128 with
  | 0 => ⟨S32x32x16x16, .f32⟩
  | 1 => ⟨S4096x32, .f32⟩
  | 2 => ⟨S5x32x32x3x3, .f32⟩
  | 3 => ⟨S5x32, .f32⟩
  | 4 => ⟨S_, .f32⟩
  | 5 => ⟨S32x32x16x16, .f32⟩
  | 6 => ⟨S32x32x1x16x1x16, .f32⟩
  | 7 => ⟨S_, .f32⟩
  | 8 => ⟨S32x32x1x1, .f32⟩
  | 9 => ⟨S_, .f32⟩
  | 10 => ⟨S32x32x1x1, .f32⟩
  | 11 => ⟨S32x32x1x1, .f32⟩
  | 12 => ⟨S32x1x1x32, .f32⟩
  | 13 => ⟨S32x32, .f32⟩
  | 14 => ⟨S32x32, .f32⟩
  | 15 => ⟨S_, .f32⟩
  | 16 => ⟨S32, .f32⟩
  | 17 => ⟨S32x1, .f32⟩
  | 18 => ⟨S32x4096, .f32⟩
  | 19 => ⟨S32x4096, .f32⟩
  | 20 => ⟨S_, .f32⟩
  | 21 => ⟨S32x4096, .f32⟩
  | 22 => ⟨S32x4096, .f32⟩
  | 23 => ⟨S32x4096, .f32⟩
  | 24 => ⟨S32x4096, .f32⟩
  | 25 => ⟨S4096x32, .f32⟩
  | 26 => ⟨S_, .f32⟩
  | 27 => ⟨S4096, .f32⟩
  | 28 => ⟨S1x4096, .f32⟩
  | 29 => ⟨S32x4096, .f32⟩
  | 30 => ⟨S32x4096, .f32⟩
  | 31 => ⟨S32x4096, .i32⟩
  | 32 => ⟨S_, .f32⟩
  | 33 => ⟨S_, .i32⟩
  | 34 => ⟨S32, .f32⟩
  | 35 => ⟨S32, .i32⟩
  | 36 => ⟨S_, .i32⟩
  | 37 => ⟨S32, .i32⟩
  | 38 => ⟨S32, .i1⟩
  | 39 => ⟨S_, .i32⟩
  | 40 => ⟨S32, .i32⟩
  | 41 => ⟨S32, .i32⟩
  | 42 => ⟨S32, .i32⟩
  | 43 => ⟨S32x1, .i32⟩
  | 44 => ⟨S1, .i32⟩
  | 45 => ⟨S_, .i32⟩
  | 46 => ⟨S32x1, .i32⟩
  | 47 => ⟨S32x1, .i1⟩
  | 48 => ⟨S1x1, .i32⟩
  | 49 => ⟨S32x1, .i32⟩
  | 50 => ⟨S32x1, .i1⟩
  | 51 => ⟨S32x1, .i1⟩
  | 52 => ⟨S_, .i1⟩
  | 53 => ⟨S32, .i1⟩
  | 54 => ⟨S32x32, .f32⟩
  | 55 => ⟨S32x32, .i1⟩
  | 56 => ⟨S_, .f32⟩
  | 57 => ⟨S32x32, .f32⟩
  | 58 => ⟨S32x32, .f32⟩
  | 59 => ⟨S32x1x1x32, .f32⟩
  | 60 => ⟨S32x32x1x1, .f32⟩
  | 61 => ⟨S32x32x1x1, .f32⟩
  | 62 => ⟨S32x32x1x1, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S32x32x1x1, .f32⟩
  | 70 => ⟨S32x32x1x1, .f32⟩
  | 71 => ⟨S_, .f32⟩
  | 72 => ⟨S_, .f32⟩
  | 73 => ⟨S_, .f32⟩
  | 74 => ⟨S_, .f32⟩
  | 75 => ⟨S_, .f32⟩
  | 76 => ⟨S32x32x1x1, .f32⟩
  | 77 => ⟨S32x32x1x1, .f32⟩
  | 78 => ⟨S32x1x1, .i32⟩
  | 79 => ⟨S_, .f32⟩
  | 80 => ⟨S_, .f32⟩
  | 81 => ⟨S_, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S1, .f32⟩
  | 96 => ⟨S1x16, .f32⟩
  | 97 => ⟨S1x1, .f32⟩
  | 98 => ⟨S1x16, .f32⟩
  | 99 => ⟨S1x16, .f32⟩
  | 100 => ⟨S1x16, .f32⟩
  | 101 => ⟨S_, .f32⟩
  | 102 => ⟨S1x16, .f32⟩
  | 103 => ⟨S1x16, .f32⟩
  | 104 => ⟨S_, .f32⟩
  | 105 => ⟨S1x16, .f32⟩
  | 106 => ⟨S1x16, .f32⟩
  | 107 => ⟨S_, .f32⟩
  | 108 => ⟨S1x16, .f32⟩
  | 109 => ⟨S1x16, .f32⟩
  | 110 => ⟨S1x16, .f32⟩
  | 111 => ⟨S1x16, .f32⟩
  | 112 => ⟨S_, .f32⟩
  | 113 => ⟨S1x16, .f32⟩
  | 114 => ⟨S1x16, .f32⟩
  | 115 => ⟨S_, .f32⟩
  | 116 => ⟨S1x16, .f32⟩
  | 117 => ⟨S1x16, .i1⟩
  | 118 => ⟨S_, .f32⟩
  | 119 => ⟨S1x16, .f32⟩
  | 120 => ⟨S1x16, .f32⟩
  | 121 => ⟨S_, .f32⟩
  | 122 => ⟨S1x16, .f32⟩
  | 123 => ⟨S1x16, .f32⟩
  | 124 => ⟨S1x16, .f32⟩
  | 125 => ⟨S_, .f32⟩
  | 126 => ⟨S1x16, .f32⟩
  | 127 => ⟨S1x16, .f32⟩
  | _ => ⟨S32x32x16x16, .f32⟩

abbrev hbmTy0_1 (i : Nat) : BufTy := match i % 128 with
  | 0 => ⟨S1x16, .f32⟩
  | 1 => ⟨S_, .f32⟩
  | 2 => ⟨S1x16, .f32⟩
  | 3 => ⟨S1x16, .f32⟩
  | 4 => ⟨S1x16, .f32⟩
  | 5 => ⟨S_, .f32⟩
  | 6 => ⟨S1x16, .f32⟩
  | 7 => ⟨S1x16, .i1⟩
  | 8 => ⟨S_, .f32⟩
  | 9 => ⟨S_, .f32⟩
  | 10 => ⟨S1x16, .f32⟩
  | 11 => ⟨S1x16, .f32⟩
  | 12 => ⟨S_, .f32⟩
  | 13 => ⟨S16, .f32⟩
  | 14 => ⟨S1x16, .f32⟩
  | 15 => ⟨S1x16, .f32⟩
  | 16 => ⟨S_, .f32⟩
  | 17 => ⟨S1x16, .f32⟩
  | 18 => ⟨S1x16, .i1⟩
  | 19 => ⟨S_, .f32⟩
  | 20 => ⟨S1x16, .f32⟩
  | 21 => ⟨S1x16, .i1⟩
  | 22 => ⟨S_, .i32⟩
  | 23 => ⟨S_, .f32⟩
  | 24 => ⟨S1x16, .f32⟩
  | 25 => ⟨S1x16, .f32⟩
  | 26 => ⟨S1x16, .f32⟩
  | 27 => ⟨S_, .i32⟩
  | 28 => ⟨S_, .f32⟩
  | 29 => ⟨S1x16, .f32⟩
  | 30 => ⟨S1x16, .f32⟩
  | 31 => ⟨S_, .f32⟩
  | 32 => ⟨S16, .f32⟩
  | 33 => ⟨S16, .i1⟩
  | 34 => ⟨S_, .f32⟩
  | 35 => ⟨S16, .f32⟩
  | 36 => ⟨S16, .i1⟩
  | 37 => ⟨S16, .i1⟩
  | 38 => ⟨S1x16, .i1⟩
  | 39 => ⟨S_, .i32⟩
  | 40 => ⟨S_, .f32⟩
  | 41 => ⟨S1x16, .f32⟩
  | 42 => ⟨S1x16, .f32⟩
  | 43 => ⟨S16x32x32x1, .f32⟩
  | 44 => ⟨S32x32x16x1, .f32⟩
  | 45 => ⟨S32x32x16x16, .f32⟩
  | 46 => ⟨S1x32x32x3x3, .f32⟩
  | 47 => ⟨S32x32x3x3, .f32⟩
  | 48 => ⟨S1x32, .f32⟩
  | 49 => ⟨S32, .f32⟩
  | 50 => ⟨S_, .f32⟩
  | 51 => ⟨S32x32x16x16, .f32⟩
  | 52 => ⟨S32x32x16x16, .f32⟩
  | 53 => ⟨S_, .i32⟩
  | 54 => ⟨S_, .f32⟩
  | 55 => ⟨S32x32x18x18, .f32⟩
  | 56 => ⟨S32x32x1x1, .f32⟩
  | 57 => ⟨S32x32, .f32⟩
  | 58 => ⟨S32x32x16x16, .f32⟩
  | 59 => ⟨S32x16x16x32, .f32⟩
  | 60 => ⟨S32x32x16x16, .f32⟩
  | 61 => ⟨S_, .f32⟩
  | 62 => ⟨S32x32x16x16, .f32⟩
  | 63 => ⟨S32x32x16x16, .f32⟩
  | 64 => ⟨S32x32x1x1, .f32⟩
  | 65 => ⟨S32x32, .f32⟩
  | 66 => ⟨S32x32x16x16, .f32⟩
  | 67 => ⟨S32x16x16x32, .f32⟩
  | 68 => ⟨S32x32x16x16, .f32⟩
  | 69 => ⟨S32x32x16x16, .f32⟩
  | 70 => ⟨S32x32x1x1, .f32⟩
  | 71 => ⟨S32x32, .f32⟩
  | 72 => ⟨S32x32x16x16, .f32⟩
  | 73 => ⟨S32x16x16x32, .f32⟩
  | 74 => ⟨S32x32x16x16, .f32⟩
  | 75 => ⟨S32x32x16x16, .f32⟩
  | 76 => ⟨S32x32x1x1, .f32⟩
  | 77 => ⟨S32x32, .f32⟩
  | 78 => ⟨S32x32x16x16, .f32⟩
  | 79 => ⟨S32x16x16x32, .f32⟩
  | 80 => ⟨S32x32x16x16, .f32⟩
  | 81 => ⟨S32x32x16x16, .f32⟩
  | 82 => ⟨S32x32x1x1, .f32⟩
  | 83 => ⟨S32x32, .f32⟩
  | 84 => ⟨S32x32x16x16, .f32⟩
  | 85 => ⟨S32x16x16x32, .f32⟩
  | 86 => ⟨S32x32x16x16, .f32⟩
  | 87 => ⟨S32x32x16x16, .f32⟩
  | 88 => ⟨S32x32x1x1, .f32⟩
  | 89 => ⟨S32x32, .f32⟩
  | 90 => ⟨S32x32x16x16, .f32⟩
  | 91 => ⟨S32x16x16x32, .f32⟩
  | 92 => ⟨S32x32x16x16, .f32⟩
  | 93 => ⟨S32x32x16x16, .f32⟩
  | 94 => ⟨S32x32x1x1, .f32⟩
  | 95 => ⟨S32x32, .f32⟩
  | 96 => ⟨S32x32x16x16, .f32⟩
  | 97 => ⟨S32x16x16x32, .f32⟩
  | 98 => ⟨S32x32x16x16, .f32⟩
  | 99 => ⟨S32x32x16x16, .f32⟩
  | 100 => ⟨S32x32x1x1, .f32⟩
  | 101 => ⟨S32x32, .f32⟩
  | 102 => ⟨S32x32x16x16, .f32⟩
  | 103 => ⟨S32x16x16x32, .f32⟩
  | 104 => ⟨S32x32x16x16, .f32⟩
  | 105 => ⟨S32x32x16x16, .f32⟩
  | 106 => ⟨S32x32x1x1, .f32⟩
  | 107 => ⟨S32x32, .f32⟩
  | 108 => ⟨S32x32x16x16, .f32⟩
  | 109 => ⟨S32x16x16x32, .f32⟩
  | 110 => ⟨S32x32x16x16, .f32⟩
  | 111 => ⟨S32x32x16x16, .f32⟩
  | 112 => ⟨S1x32x1x1, .f32⟩
  | 113 => ⟨S32x32x16x16, .f32⟩
  | 114 => ⟨S32x32x16x16, .f32⟩
  | 115 => ⟨S_, .f32⟩
  | 116 => ⟨S32x32x16x16, .f32⟩
  | 117 => ⟨S32x32x16x16, .f32⟩
  | 118 => ⟨S32x32x16x16, .f32⟩
  | 119 => ⟨S32x32x16x16, .f32⟩
  | 120 => ⟨S32x32x16x16, .f32⟩
  | 121 => ⟨S_, .f32⟩
  | 122 => ⟨S_, .f32⟩
  | 123 => ⟨S32x32x2x8x2x8, .f32⟩
  | 124 => ⟨S_, .f32⟩
  | 125 => ⟨S32x32x2x2, .f32⟩
  | 126 => ⟨S_, .f32⟩
  | 127 => ⟨S32x32x2x2, .f32⟩
  | _ => ⟨S32x32x16x16, .f32⟩

abbrev hbmTy0_2 (i : Nat) : BufTy := match i % 128 with
  | 0 => ⟨S32x32x2x2, .f32⟩
  | 1 => ⟨S32x2x2x32, .f32⟩
  | 2 => ⟨S128x32, .f32⟩
  | 3 => ⟨S128x32, .f32⟩
  | 4 => ⟨S_, .f32⟩
  | 5 => ⟨S128, .f32⟩
  | 6 => ⟨S128x1, .f32⟩
  | 7 => ⟨S32x4096, .f32⟩
  | 8 => ⟨S128x4096, .f32⟩
  | 9 => ⟨S_, .f32⟩
  | 10 => ⟨S128x4096, .f32⟩
  | 11 => ⟨S128x4096, .f32⟩
  | 12 => ⟨S128x4096, .f32⟩
  | 13 => ⟨S128x4096, .f32⟩
  | 14 => ⟨S4096x32, .f32⟩
  | 15 => ⟨S_, .f32⟩
  | 16 => ⟨S4096, .f32⟩
  | 17 => ⟨S1x4096, .f32⟩
  | 18 => ⟨S128x4096, .f32⟩
  | 19 => ⟨S128x4096, .f32⟩
  | 20 => ⟨S128x4096, .i32⟩
  | 21 => ⟨S_, .f32⟩
  | 22 => ⟨S_, .i32⟩
  | 23 => ⟨S128, .f32⟩
  | 24 => ⟨S128, .i32⟩
  | 25 => ⟨S_, .i32⟩
  | 26 => ⟨S128, .i32⟩
  | 27 => ⟨S128, .i1⟩
  | 28 => ⟨S_, .i32⟩
  | 29 => ⟨S128, .i32⟩
  | 30 => ⟨S128, .i32⟩
  | 31 => ⟨S128, .i32⟩
  | 32 => ⟨S128x1, .i32⟩
  | 33 => ⟨S1, .i32⟩
  | 34 => ⟨S_, .i32⟩
  | 35 => ⟨S128x1, .i32⟩
  | 36 => ⟨S128x1, .i1⟩
  | 37 => ⟨S1x1, .i32⟩
  | 38 => ⟨S128x1, .i32⟩
  | 39 => ⟨S128x1, .i1⟩
  | 40 => ⟨S128x1, .i1⟩
  | 41 => ⟨S_, .i1⟩
  | 42 => ⟨S128, .i1⟩
  | 43 => ⟨S128x32, .f32⟩
  | 44 => ⟨S128x32, .i1⟩
  | 45 => ⟨S_, .f32⟩
  | 46 => ⟨S128x32, .f32⟩
  | 47 => ⟨S128x32, .f32⟩
  | 48 => ⟨S32x2x2x32, .f32⟩
  | 49 => ⟨S32x32x2x2, .f32⟩
  | 50 => ⟨S32x32x2x2, .f32⟩
  | 51 => ⟨S32x32x2x2, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S32x32x2x2, .f32⟩
  | 59 => ⟨S32x32x2x2, .f32⟩
  | 60 => ⟨S_, .f32⟩
  | 61 => ⟨S_, .f32⟩
  | 62 => ⟨S_, .f32⟩
  | 63 => ⟨S_, .f32⟩
  | 64 => ⟨S_, .f32⟩
  | 65 => ⟨S32x32x2x2, .f32⟩
  | 66 => ⟨S32x32x2x2, .f32⟩
  | 67 => ⟨S32x2x2, .i32⟩
  | 68 => ⟨S_, .f32⟩
  | 69 => ⟨S_, .f32⟩
  | 70 => ⟨S_, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2, .f32⟩
  | 85 => ⟨S1x16, .f32⟩
  | 86 => ⟨S2x1, .f32⟩
  | 87 => ⟨S2x16, .f32⟩
  | 88 => ⟨S2x16, .f32⟩
  | 89 => ⟨S2x16, .f32⟩
  | 90 => ⟨S2x16, .f32⟩
  | 91 => ⟨S_, .f32⟩
  | 92 => ⟨S2x16, .f32⟩
  | 93 => ⟨S2x16, .f32⟩
  | 94 => ⟨S_, .f32⟩
  | 95 => ⟨S2x16, .f32⟩
  | 96 => ⟨S2x16, .f32⟩
  | 97 => ⟨S_, .f32⟩
  | 98 => ⟨S2x16, .f32⟩
  | 99 => ⟨S2x16, .f32⟩
  | 100 => ⟨S2x16, .f32⟩
  | 101 => ⟨S2x16, .f32⟩
  | 102 => ⟨S_, .f32⟩
  | 103 => ⟨S2x16, .f32⟩
  | 104 => ⟨S2x16, .f32⟩
  | 105 => ⟨S_, .f32⟩
  | 106 => ⟨S2x16, .f32⟩
  | 107 => ⟨S2x16, .i1⟩
  | 108 => ⟨S_, .f32⟩
  | 109 => ⟨S2x16, .f32⟩
  | 110 => ⟨S2x16, .f32⟩
  | 111 => ⟨S_, .f32⟩
  | 112 => ⟨S2x16, .f32⟩
  | 113 => ⟨S2x16, .f32⟩
  | 114 => ⟨S2x16, .f32⟩
  | 115 => ⟨S_, .f32⟩
  | 116 => ⟨S2x16, .f32⟩
  | 117 => ⟨S2x16, .f32⟩
  | 118 => ⟨S2x16, .f32⟩
  | 119 => ⟨S_, .f32⟩
  | 120 => ⟨S2x16, .f32⟩
  | 121 => ⟨S2x16, .f32⟩
  | 122 => ⟨S2x16, .f32⟩
  | 123 => ⟨S_, .f32⟩
  | 124 => ⟨S2x16, .f32⟩
  | 125 => ⟨S2x16, .i1⟩
  | 126 => ⟨S_, .f32⟩
  | 127 => ⟨S_, .f32⟩
  | _ => ⟨S32x32x16x16, .f32⟩

abbrev hbmTy0_3 (i : Nat) : BufTy := match i % 128 with
  | 0 => ⟨S2x16, .f32⟩
  | 1 => ⟨S2x16, .f32⟩
  | 2 => ⟨S_, .f32⟩
  | 3 => ⟨S16, .f32⟩
  | 4 => ⟨S1x16, .f32⟩
  | 5 => ⟨S1x16, .f32⟩
  | 6 => ⟨S_, .f32⟩
  | 7 => ⟨S1x16, .f32⟩
  | 8 => ⟨S1x16, .i1⟩
  | 9 => ⟨S_, .f32⟩
  | 10 => ⟨S1x16, .f32⟩
  | 11 => ⟨S1x16, .i1⟩
  | 12 => ⟨S_, .i32⟩
  | 13 => ⟨S_, .f32⟩
  | 14 => ⟨S1x16, .f32⟩
  | 15 => ⟨S1x16, .f32⟩
  | 16 => ⟨S2x16, .f32⟩
  | 17 => ⟨S2x16, .f32⟩
  | 18 => ⟨S_, .i32⟩
  | 19 => ⟨S_, .f32⟩
  | 20 => ⟨S2x16, .i1⟩
  | 21 => ⟨S2x16, .f32⟩
  | 22 => ⟨S2x16, .f32⟩
  | 23 => ⟨S_, .f32⟩
  | 24 => ⟨S16, .f32⟩
  | 25 => ⟨S16, .i1⟩
  | 26 => ⟨S_, .f32⟩
  | 27 => ⟨S16, .f32⟩
  | 28 => ⟨S16, .i1⟩
  | 29 => ⟨S16, .i1⟩
  | 30 => ⟨S1x16, .i1⟩
  | 31 => ⟨S_, .i32⟩
  | 32 => ⟨S_, .f32⟩
  | 33 => ⟨S2x16, .i1⟩
  | 34 => ⟨S2x16, .f32⟩
  | 35 => ⟨S2x16, .f32⟩
  | 36 => ⟨S16x32x32x2, .f32⟩
  | 37 => ⟨S32x32x16x2, .f32⟩
  | 38 => ⟨S32x32x16x16, .f32⟩
  | 39 => ⟨S1x32x32x3x3, .f32⟩
  | 40 => ⟨S32x32x3x3, .f32⟩
  | 41 => ⟨S1x32, .f32⟩
  | 42 => ⟨S32, .f32⟩
  | 43 => ⟨S_, .f32⟩
  | 44 => ⟨S32x32x16x16, .f32⟩
  | 45 => ⟨S32x32x16x16, .f32⟩
  | 46 => ⟨S_, .i32⟩
  | 47 => ⟨S_, .f32⟩
  | 48 => ⟨S32x32x18x18, .f32⟩
  | 49 => ⟨S32x32x1x1, .f32⟩
  | 50 => ⟨S32x32, .f32⟩
  | 51 => ⟨S32x32x16x16, .f32⟩
  | 52 => ⟨S32x16x16x32, .f32⟩
  | 53 => ⟨S32x32x16x16, .f32⟩
  | 54 => ⟨S_, .f32⟩
  | 55 => ⟨S32x32x16x16, .f32⟩
  | 56 => ⟨S32x32x16x16, .f32⟩
  | 57 => ⟨S32x32x1x1, .f32⟩
  | 58 => ⟨S32x32, .f32⟩
  | 59 => ⟨S32x32x16x16, .f32⟩
  | 60 => ⟨S32x16x16x32, .f32⟩
  | 61 => ⟨S32x32x16x16, .f32⟩
  | 62 => ⟨S32x32x16x16, .f32⟩
  | 63 => ⟨S32x32x1x1, .f32⟩
  | 64 => ⟨S32x32, .f32⟩
  | 65 => ⟨S32x32x16x16, .f32⟩
  | 66 => ⟨S32x16x16x32, .f32⟩
  | 67 => ⟨S32x32x16x16, .f32⟩
  | 68 => ⟨S32x32x16x16, .f32⟩
  | 69 => ⟨S32x32x1x1, .f32⟩
  | 70 => ⟨S32x32, .f32⟩
  | 71 => ⟨S32x32x16x16, .f32⟩
  | 72 => ⟨S32x16x16x32, .f32⟩
  | 73 => ⟨S32x32x16x16, .f32⟩
  | 74 => ⟨S32x32x16x16, .f32⟩
  | 75 => ⟨S32x32x1x1, .f32⟩
  | 76 => ⟨S32x32, .f32⟩
  | 77 => ⟨S32x32x16x16, .f32⟩
  | 78 => ⟨S32x16x16x32, .f32⟩
  | 79 => ⟨S32x32x16x16, .f32⟩
  | 80 => ⟨S32x32x16x16, .f32⟩
  | 81 => ⟨S32x32x1x1, .f32⟩
  | 82 => ⟨S32x32, .f32⟩
  | 83 => ⟨S32x32x16x16, .f32⟩
  | 84 => ⟨S32x16x16x32, .f32⟩
  | 85 => ⟨S32x32x16x16, .f32⟩
  | 86 => ⟨S32x32x16x16, .f32⟩
  | 87 => ⟨S32x32x1x1, .f32⟩
  | 88 => ⟨S32x32, .f32⟩
  | 89 => ⟨S32x32x16x16, .f32⟩
  | 90 => ⟨S32x16x16x32, .f32⟩
  | 91 => ⟨S32x32x16x16, .f32⟩
  | 92 => ⟨S32x32x16x16, .f32⟩
  | 93 => ⟨S32x32x1x1, .f32⟩
  | 94 => ⟨S32x32, .f32⟩
  | 95 => ⟨S32x32x16x16, .f32⟩
  | 96 => ⟨S32x16x16x32, .f32⟩
  | 97 => ⟨S32x32x16x16, .f32⟩
  | 98 => ⟨S32x32x16x16, .f32⟩
  | 99 => ⟨S32x32x1x1, .f32⟩
  | 100 => ⟨S32x32, .f32⟩
  | 101 => ⟨S32x32x16x16, .f32⟩
  | 102 => ⟨S32x16x16x32, .f32⟩
  | 103 => ⟨S32x32x16x16, .f32⟩
  | 104 => ⟨S32x32x16x16, .f32⟩
  | 105 => ⟨S1x32x1x1, .f32⟩
  | 106 => ⟨S32x32x16x16, .f32⟩
  | 107 => ⟨S32x32x16x16, .f32⟩
  | 108 => ⟨S_, .f32⟩
  | 109 => ⟨S32x32x16x16, .f32⟩
  | 110 => ⟨S32x32x16x16, .f32⟩
  | 111 => ⟨S32x32x16x16, .f32⟩
  | 112 => ⟨S32x32x16x16, .f32⟩
  | 113 => ⟨S32x32x16x16, .f32⟩
  | 114 => ⟨S_, .f32⟩
  | 115 => ⟨S32x32x4x4x4x4, .f32⟩
  | 116 => ⟨S_, .f32⟩
  | 117 => ⟨S32x32x4x4, .f32⟩
  | 118 => ⟨S_, .f32⟩
  | 119 => ⟨S32x32x4x4, .f32⟩
  | 120 => ⟨S32x32x4x4, .f32⟩
  | 121 => ⟨S32x4x4x32, .f32⟩
  | 122 => ⟨S512x32, .f32⟩
  | 123 => ⟨S512x32, .f32⟩
  | 124 => ⟨S_, .f32⟩
  | 125 => ⟨S512, .f32⟩
  | 126 => ⟨S512x1, .f32⟩
  | 127 => ⟨S32x4096, .f32⟩
  | _ => ⟨S32x32x16x16, .f32⟩

abbrev hbmTy0_4 (i : Nat) : BufTy := match i % 128 with
  | 0 => ⟨S512x4096, .f32⟩
  | 1 => ⟨S_, .f32⟩
  | 2 => ⟨S512x4096, .f32⟩
  | 3 => ⟨S512x4096, .f32⟩
  | 4 => ⟨S512x4096, .f32⟩
  | 5 => ⟨S512x4096, .f32⟩
  | 6 => ⟨S4096x32, .f32⟩
  | 7 => ⟨S_, .f32⟩
  | 8 => ⟨S4096, .f32⟩
  | 9 => ⟨S1x4096, .f32⟩
  | 10 => ⟨S512x4096, .f32⟩
  | 11 => ⟨S512x4096, .f32⟩
  | 12 => ⟨S512x4096, .i32⟩
  | 13 => ⟨S_, .f32⟩
  | 14 => ⟨S_, .i32⟩
  | 15 => ⟨S512, .f32⟩
  | 16 => ⟨S512, .i32⟩
  | 17 => ⟨S_, .i32⟩
  | 18 => ⟨S512, .i32⟩
  | 19 => ⟨S512, .i1⟩
  | 20 => ⟨S_, .i32⟩
  | 21 => ⟨S512, .i32⟩
  | 22 => ⟨S512, .i32⟩
  | 23 => ⟨S512, .i32⟩
  | 24 => ⟨S512x1, .i32⟩
  | 25 => ⟨S1, .i32⟩
  | 26 => ⟨S_, .i32⟩
  | 27 => ⟨S512x1, .i32⟩
  | 28 => ⟨S512x1, .i1⟩
  | 29 => ⟨S1x1, .i32⟩
  | 30 => ⟨S512x1, .i32⟩
  | 31 => ⟨S512x1, .i1⟩
  | 32 => ⟨S512x1, .i1⟩
  | 33 => ⟨S_, .i1⟩
  | 34 => ⟨S512, .i1⟩
  | 35 => ⟨S512x32, .f32⟩
  | 36 => ⟨S512x32, .i1⟩
  | 37 => ⟨S_, .f32⟩
  | 38 => ⟨S512x32, .f32⟩
  | 39 => ⟨S512x32, .f32⟩
  | 40 => ⟨S32x4x4x32, .f32⟩
  | 41 => ⟨S32x32x4x4, .f32⟩
  | 42 => ⟨S32x32x4x4, .f32⟩
  | 43 => ⟨S32x32x4x4, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S32x32x4x4, .f32⟩
  | 51 => ⟨S32x32x4x4, .f32⟩
  | 52 => ⟨S_, .f32⟩
  | 53 => ⟨S_, .f32⟩
  | 54 => ⟨S_, .f32⟩
  | 55 => ⟨S_, .f32⟩
  | 56 => ⟨S_, .f32⟩
  | 57 => ⟨S32x32x4x4, .f32⟩
  | 58 => ⟨S32x32x4x4, .f32⟩
  | 59 => ⟨S32x4x4, .i32⟩
  | 60 => ⟨S_, .f32⟩
  | 61 => ⟨S_, .f32⟩
  | 62 => ⟨S_, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S4, .f32⟩
  | 77 => ⟨S1x16, .f32⟩
  | 78 => ⟨S4x1, .f32⟩
  | 79 => ⟨S4x16, .f32⟩
  | 80 => ⟨S4x16, .f32⟩
  | 81 => ⟨S4x16, .f32⟩
  | 82 => ⟨S4x16, .f32⟩
  | 83 => ⟨S_, .f32⟩
  | 84 => ⟨S4x16, .f32⟩
  | 85 => ⟨S4x16, .f32⟩
  | 86 => ⟨S_, .f32⟩
  | 87 => ⟨S4x16, .f32⟩
  | 88 => ⟨S4x16, .f32⟩
  | 89 => ⟨S_, .f32⟩
  | 90 => ⟨S4x16, .f32⟩
  | 91 => ⟨S4x16, .f32⟩
  | 92 => ⟨S4x16, .f32⟩
  | 93 => ⟨S4x16, .f32⟩
  | 94 => ⟨S_, .f32⟩
  | 95 => ⟨S4x16, .f32⟩
  | 96 => ⟨S4x16, .f32⟩
  | 97 => ⟨S_, .f32⟩
  | 98 => ⟨S4x16, .f32⟩
  | 99 => ⟨S4x16, .i1⟩
  | 100 => ⟨S_, .f32⟩
  | 101 => ⟨S4x16, .f32⟩
  | 102 => ⟨S4x16, .f32⟩
  | 103 => ⟨S_, .f32⟩
  | 104 => ⟨S4x16, .f32⟩
  | 105 => ⟨S4x16, .f32⟩
  | 106 => ⟨S4x16, .f32⟩
  | 107 => ⟨S_, .f32⟩
  | 108 => ⟨S4x16, .f32⟩
  | 109 => ⟨S4x16, .f32⟩
  | 110 => ⟨S4x16, .f32⟩
  | 111 => ⟨S_, .f32⟩
  | 112 => ⟨S4x16, .f32⟩
  | 113 => ⟨S4x16, .f32⟩
  | 114 => ⟨S4x16, .f32⟩
  | 115 => ⟨S_, .f32⟩
  | 116 => ⟨S4x16, .f32⟩
  | 117 => ⟨S4x16, .i1⟩
  | 118 => ⟨S_, .f32⟩
  | 119 => ⟨S_, .f32⟩
  | 120 => ⟨S4x16, .f32⟩
  | 121 => ⟨S4x16, .f32⟩
  | 122 => ⟨S_, .f32⟩
  | 123 => ⟨S16, .f32⟩
  | 124 => ⟨S1x16, .f32⟩
  | 125 => ⟨S1x16, .f32⟩
  | 126 => ⟨S_, .f32⟩
  | 127 => ⟨S1x16, .f32⟩
  | _ => ⟨S32x32x16x16, .f32⟩

abbrev hbmTy0_5 (i : Nat) : BufTy := match i % 128 with
  | 0 => ⟨S1x16, .i1⟩
  | 1 => ⟨S_, .f32⟩
  | 2 => ⟨S1x16, .f32⟩
  | 3 => ⟨S1x16, .i1⟩
  | 4 => ⟨S_, .i32⟩
  | 5 => ⟨S_, .f32⟩
  | 6 => ⟨S1x16, .f32⟩
  | 7 => ⟨S1x16, .f32⟩
  | 8 => ⟨S4x16, .f32⟩
  | 9 => ⟨S4x16, .f32⟩
  | 10 => ⟨S_, .i32⟩
  | 11 => ⟨S_, .f32⟩
  | 12 => ⟨S4x16, .i1⟩
  | 13 => ⟨S4x16, .f32⟩
  | 14 => ⟨S4x16, .f32⟩
  | 15 => ⟨S_, .f32⟩
  | 16 => ⟨S16, .f32⟩
  | 17 => ⟨S16, .i1⟩
  | 18 => ⟨S_, .f32⟩
  | 19 => ⟨S16, .f32⟩
  | 20 => ⟨S16, .i1⟩
  | 21 => ⟨S16, .i1⟩
  | 22 => ⟨S1x16, .i1⟩
  | 23 => ⟨S_, .i32⟩
  | 24 => ⟨S_, .f32⟩
  | 25 => ⟨S4x16, .i1⟩
  | 26 => ⟨S4x16, .f32⟩
  | 27 => ⟨S4x16, .f32⟩
  | 28 => ⟨S16x32x32x4, .f32⟩
  | 29 => ⟨S32x32x16x4, .f32⟩
  | 30 => ⟨S32x32x16x16, .f32⟩
  | 31 => ⟨S1x32x32x3x3, .f32⟩
  | 32 => ⟨S32x32x3x3, .f32⟩
  | 33 => ⟨S1x32, .f32⟩
  | 34 => ⟨S32, .f32⟩
  | 35 => ⟨S_, .f32⟩
  | 36 => ⟨S32x32x16x16, .f32⟩
  | 37 => ⟨S32x32x16x16, .f32⟩
  | 38 => ⟨S_, .i32⟩
  | 39 => ⟨S_, .f32⟩
  | 40 => ⟨S32x32x18x18, .f32⟩
  | 41 => ⟨S32x32x1x1, .f32⟩
  | 42 => ⟨S32x32, .f32⟩
  | 43 => ⟨S32x32x16x16, .f32⟩
  | 44 => ⟨S32x16x16x32, .f32⟩
  | 45 => ⟨S32x32x16x16, .f32⟩
  | 46 => ⟨S_, .f32⟩
  | 47 => ⟨S32x32x16x16, .f32⟩
  | 48 => ⟨S32x32x16x16, .f32⟩
  | 49 => ⟨S32x32x1x1, .f32⟩
  | 50 => ⟨S32x32, .f32⟩
  | 51 => ⟨S32x32x16x16, .f32⟩
  | 52 => ⟨S32x16x16x32, .f32⟩
  | 53 => ⟨S32x32x16x16, .f32⟩
  | 54 => ⟨S32x32x16x16, .f32⟩
  | 55 => ⟨S32x32x1x1, .f32⟩
  | 56 => ⟨S32x32, .f32⟩
  | 57 => ⟨S32x32x16x16, .f32⟩
  | 58 => ⟨S32x16x16x32, .f32⟩
  | 59 => ⟨S32x32x16x16, .f32⟩
  | 60 => ⟨S32x32x16x16, .f32⟩
  | 61 => ⟨S32x32x1x1, .f32⟩
  | 62 => ⟨S32x32, .f32⟩
  | 63 => ⟨S32x32x16x16, .f32⟩
  | 64 => ⟨S32x16x16x32, .f32⟩
  | 65 => ⟨S32x32x16x16, .f32⟩
  | 66 => ⟨S32x32x16x16, .f32⟩
  | 67 => ⟨S32x32x1x1, .f32⟩
  | 68 => ⟨S32x32, .f32⟩
  | 69 => ⟨S32x32x16x16, .f32⟩
  | 70 => ⟨S32x16x16x32, .f32⟩
  | 71 => ⟨S32x32x16x16, .f32⟩
  | 72 => ⟨S32x32x16x16, .f32⟩
  | 73 => ⟨S32x32x1x1, .f32⟩
  | 74 => ⟨S32x32, .f32⟩
  | 75 => ⟨S32x32x16x16, .f32⟩
  | 76 => ⟨S32x16x16x32, .f32⟩
  | 77 => ⟨S32x32x16x16, .f32⟩
  | 78 => ⟨S32x32x16x16, .f32⟩
  | 79 => ⟨S32x32x1x1, .f32⟩
  | 80 => ⟨S32x32, .f32⟩
  | 81 => ⟨S32x32x16x16, .f32⟩
  | 82 => ⟨S32x16x16x32, .f32⟩
  | 83 => ⟨S32x32x16x16, .f32⟩
  | 84 => ⟨S32x32x16x16, .f32⟩
  | 85 => ⟨S32x32x1x1, .f32⟩
  | 86 => ⟨S32x32, .f32⟩
  | 87 => ⟨S32x32x16x16, .f32⟩
  | 88 => ⟨S32x16x16x32, .f32⟩
  | 89 => ⟨S32x32x16x16, .f32⟩
  | 90 => ⟨S32x32x16x16, .f32⟩
  | 91 => ⟨S32x32x1x1, .f32⟩
  | 92 => ⟨S32x32, .f32⟩
  | 93 => ⟨S32x32x16x16, .f32⟩
  | 94 => ⟨S32x16x16x32, .f32⟩
  | 95 => ⟨S32x32x16x16, .f32⟩
  | 96 => ⟨S32x32x16x16, .f32⟩
  | 97 => ⟨S1x32x1x1, .f32⟩
  | 98 => ⟨S32x32x16x16, .f32⟩
  | 99 => ⟨S32x32x16x16, .f32⟩
  | 100 => ⟨S_, .f32⟩
  | 101 => ⟨S32x32x16x16, .f32⟩
  | 102 => ⟨S32x32x16x16, .f32⟩
  | 103 => ⟨S32x32x16x16, .f32⟩
  | 104 => ⟨S32x32x16x16, .f32⟩
  | 105 => ⟨S32x32x16x16, .f32⟩
  | 106 => ⟨S_, .f32⟩
  | 107 => ⟨S32x32x8x2x8x2, .f32⟩
  | 108 => ⟨S_, .f32⟩
  | 109 => ⟨S32x32x8x8, .f32⟩
  | 110 => ⟨S_, .f32⟩
  | 111 => ⟨S32x32x8x8, .f32⟩
  | 112 => ⟨S32x32x8x8, .f32⟩
  | 113 => ⟨S32x8x8x32, .f32⟩
  | 114 => ⟨S2048x32, .f32⟩
  | 115 => ⟨S2048x32, .f32⟩
  | 116 => ⟨S_, .f32⟩
  | 117 => ⟨S2048, .f32⟩
  | 118 => ⟨S2048x1, .f32⟩
  | 119 => ⟨S32x4096, .f32⟩
  | 120 => ⟨S2048x4096, .f32⟩
  | 121 => ⟨S_, .f32⟩
  | 122 => ⟨S2048x4096, .f32⟩
  | 123 => ⟨S2048x4096, .f32⟩
  | 124 => ⟨S2048x4096, .f32⟩
  | 125 => ⟨S2048x4096, .f32⟩
  | 126 => ⟨S4096x32, .f32⟩
  | 127 => ⟨S_, .f32⟩
  | _ => ⟨S32x32x16x16, .f32⟩

abbrev hbmTy0_6 (i : Nat) : BufTy := match i % 128 with
  | 0 => ⟨S4096, .f32⟩
  | 1 => ⟨S1x4096, .f32⟩
  | 2 => ⟨S2048x4096, .f32⟩
  | 3 => ⟨S2048x4096, .f32⟩
  | 4 => ⟨S2048x4096, .i32⟩
  | 5 => ⟨S_, .f32⟩
  | 6 => ⟨S_, .i32⟩
  | 7 => ⟨S2048, .f32⟩
  | 8 => ⟨S2048, .i32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S1, .i32⟩
  | 18 => ⟨S_, .i32⟩
  | 19 => ⟨S2048x1, .i32⟩
  | 20 => ⟨S2048x1, .i1⟩
  | 21 => ⟨S1x1, .i32⟩
  | 22 => ⟨S2048x1, .i32⟩
  | 23 => ⟨S2048x1, .i1⟩
  | 24 => ⟨S2048x1, .i1⟩
  | 25 => ⟨S_, .i1⟩
  | 26 => ⟨S2048, .i1⟩
  | 27 => ⟨S2048x32, .f32⟩
  | 28 => ⟨S2048x32, .i1⟩
  | 29 => ⟨S_, .f32⟩
  | 30 => ⟨S2048x32, .f32⟩
  | 31 => ⟨S2048x32, .f32⟩
  | 32 => ⟨S32x8x8x32, .f32⟩
  | 33 => ⟨S32x32x8x8, .f32⟩
  | 34 => ⟨S32x32x8x8, .f32⟩
  | 35 => ⟨S32x32x8x8, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S32x32x8x8, .f32⟩
  | 43 => ⟨S32x32x8x8, .f32⟩
  | 44 => ⟨S_, .f32⟩
  | 45 => ⟨S_, .f32⟩
  | 46 => ⟨S_, .f32⟩
  | 47 => ⟨S_, .f32⟩
  | 48 => ⟨S_, .f32⟩
  | 49 => ⟨S32x32x8x8, .f32⟩
  | 50 => ⟨S32x32x8x8, .f32⟩
  | 51 => ⟨S32x8x8, .i32⟩
  | 52 => ⟨S_, .f32⟩
  | 53 => ⟨S_, .f32⟩
  | 54 => ⟨S_, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S8, .f32⟩
  | 69 => ⟨S1x16, .f32⟩
  | 70 => ⟨S8x1, .f32⟩
  | 71 => ⟨S8x16, .f32⟩
  | 72 => ⟨S8x16, .f32⟩
  | 73 => ⟨S8x16, .f32⟩
  | 74 => ⟨S8x16, .f32⟩
  | 75 => ⟨S_, .f32⟩
  | 76 => ⟨S8x16, .f32⟩
  | 77 => ⟨S8x16, .f32⟩
  | 78 => ⟨S_, .f32⟩
  | 79 => ⟨S8x16, .f32⟩
  | 80 => ⟨S8x16, .f32⟩
  | 81 => ⟨S_, .f32⟩
  | 82 => ⟨S8x16, .f32⟩
  | 83 => ⟨S8x16, .f32⟩
  | 84 => ⟨S8x16, .f32⟩
  | 85 => ⟨S8x16, .f32⟩
  | 86 => ⟨S_, .f32⟩
  | 87 => ⟨S8x16, .f32⟩
  | 88 => ⟨S8x16, .f32⟩
  | 89 => ⟨S_, .f32⟩
  | 90 => ⟨S8x16, .f32⟩
  | 91 => ⟨S8x16, .i1⟩
  | 92 => ⟨S_, .f32⟩
  | 93 => ⟨S8x16, .f32⟩
  | 94 => ⟨S8x16, .f32⟩
  | 95 => ⟨S_, .f32⟩
  | 96 => ⟨S8x16, .f32⟩
  | 97 => ⟨S8x16, .f32⟩
  | 98 => ⟨S8x16, .f32⟩
  | 99 => ⟨S_, .f32⟩
  | 100 => ⟨S8x16, .f32⟩
  | 101 => ⟨S8x16, .f32⟩
  | 102 => ⟨S8x16, .f32⟩
  | 103 => ⟨S_, .f32⟩
  | 104 => ⟨S8x16, .f32⟩
  | 105 => ⟨S8x16, .f32⟩
  | 106 => ⟨S8x16, .f32⟩
  | 107 => ⟨S_, .f32⟩
  | 108 => ⟨S8x16, .f32⟩
  | 109 => ⟨S8x16, .i1⟩
  | 110 => ⟨S_, .f32⟩
  | 111 => ⟨S_, .f32⟩
  | 112 => ⟨S8x16, .f32⟩
  | 113 => ⟨S8x16, .f32⟩
  | 114 => ⟨S_, .f32⟩
  | 115 => ⟨S16, .f32⟩
  | 116 => ⟨S1x16, .f32⟩
  | 117 => ⟨S1x16, .f32⟩
  | 118 => ⟨S_, .f32⟩
  | 119 => ⟨S1x16, .f32⟩
  | 120 => ⟨S1x16, .i1⟩
  | 121 => ⟨S_, .f32⟩
  | 122 => ⟨S1x16, .f32⟩
  | 123 => ⟨S1x16, .i1⟩
  | 124 => ⟨S_, .i32⟩
  | 125 => ⟨S_, .f32⟩
  | 126 => ⟨S1x16, .f32⟩
  | 127 => ⟨S1x16, .f32⟩
  | _ => ⟨S32x32x16x16, .f32⟩

abbrev hbmTy0_7 (i : Nat) : BufTy := match i % 128 with
  | 0 => ⟨S8x16, .f32⟩
  | 1 => ⟨S8x16, .f32⟩
  | 2 => ⟨S_, .i32⟩
  | 3 => ⟨S_, .f32⟩
  | 4 => ⟨S8x16, .i1⟩
  | 5 => ⟨S8x16, .f32⟩
  | 6 => ⟨S8x16, .f32⟩
  | 7 => ⟨S_, .f32⟩
  | 8 => ⟨S16, .f32⟩
  | 9 => ⟨S16, .i1⟩
  | 10 => ⟨S_, .f32⟩
  | 11 => ⟨S16, .f32⟩
  | 12 => ⟨S16, .i1⟩
  | 13 => ⟨S16, .i1⟩
  | 14 => ⟨S1x16, .i1⟩
  | 15 => ⟨S_, .i32⟩
  | 16 => ⟨S_, .f32⟩
  | 17 => ⟨S8x16, .i1⟩
  | 18 => ⟨S8x16, .f32⟩
  | 19 => ⟨S8x16, .f32⟩
  | 20 => ⟨S16x32x32x8, .f32⟩
  | 21 => ⟨S32x32x16x8, .f32⟩
  | 22 => ⟨S32x32x16x16, .f32⟩
  | 23 => ⟨S1x32x32x3x3, .f32⟩
  | 24 => ⟨S32x32x3x3, .f32⟩
  | 25 => ⟨S1x32, .f32⟩
  | 26 => ⟨S32, .f32⟩
  | 27 => ⟨S_, .f32⟩
  | 28 => ⟨S32x32x16x16, .f32⟩
  | 29 => ⟨S32x32x16x16, .f32⟩
  | 30 => ⟨S_, .i32⟩
  | 31 => ⟨S_, .f32⟩
  | 32 => ⟨S32x32x18x18, .f32⟩
  | 33 => ⟨S32x32x1x1, .f32⟩
  | 34 => ⟨S32x32, .f32⟩
  | 35 => ⟨S32x32x16x16, .f32⟩
  | 36 => ⟨S32x16x16x32, .f32⟩
  | 37 => ⟨S32x32x16x16, .f32⟩
  | 38 => ⟨S_, .f32⟩
  | 39 => ⟨S32x32x16x16, .f32⟩
  | 40 => ⟨S32x32x16x16, .f32⟩
  | 41 => ⟨S32x32x1x1, .f32⟩
  | 42 => ⟨S32x32, .f32⟩
  | 43 => ⟨S32x32x16x16, .f32⟩
  | 44 => ⟨S32x16x16x32, .f32⟩
  | 45 => ⟨S32x32x16x16, .f32⟩
  | 46 => ⟨S32x32x16x16, .f32⟩
  | 47 => ⟨S32x32x1x1, .f32⟩
  | 48 => ⟨S32x32, .f32⟩
  | 49 => ⟨S32x32x16x16, .f32⟩
  | 50 => ⟨S32x16x16x32, .f32⟩
  | 51 => ⟨S32x32x16x16, .f32⟩
  | 52 => ⟨S32x32x16x16, .f32⟩
  | 53 => ⟨S32x32x1x1, .f32⟩
  | 54 => ⟨S32x32, .f32⟩
  | 55 => ⟨S32x32x16x16, .f32⟩
  | 56 => ⟨S32x16x16x32, .f32⟩
  | 57 => ⟨S32x32x16x16, .f32⟩
  | 58 => ⟨S32x32x16x16, .f32⟩
  | 59 => ⟨S32x32x1x1, .f32⟩
  | 60 => ⟨S32x32, .f32⟩
  | 61 => ⟨S32x32x16x16, .f32⟩
  | 62 => ⟨S32x16x16x32, .f32⟩
  | 63 => ⟨S32x32x16x16, .f32⟩
  | 64 => ⟨S32x32x16x16, .f32⟩
  | 65 => ⟨S32x32x1x1, .f32⟩
  | 66 => ⟨S32x32, .f32⟩
  | 67 => ⟨S32x32x16x16, .f32⟩
  | 68 => ⟨S32x16x16x32, .f32⟩
  | 69 => ⟨S32x32x16x16, .f32⟩
  | 70 => ⟨S32x32x16x16, .f32⟩
  | 71 => ⟨S32x32x1x1, .f32⟩
  | 72 => ⟨S32x32, .f32⟩
  | 73 => ⟨S32x32x16x16, .f32⟩
  | 74 => ⟨S32x16x16x32, .f32⟩
  | 75 => ⟨S32x32x16x16, .f32⟩
  | 76 => ⟨S32x32x16x16, .f32⟩
  | 77 => ⟨S32x32x1x1, .f32⟩
  | 78 => ⟨S32x32, .f32⟩
  | 79 => ⟨S32x32x16x16, .f32⟩
  | 80 => ⟨S32x16x16x32, .f32⟩
  | 81 => ⟨S32x32x16x16, .f32⟩
  | 82 => ⟨S32x32x16x16, .f32⟩
  | 83 => ⟨S32x32x1x1, .f32⟩
  | 84 => ⟨S32x32, .f32⟩
  | 85 => ⟨S32x32x16x16, .f32⟩
  | 86 => ⟨S32x16x16x32, .f32⟩
  | 87 => ⟨S32x32x16x16, .f32⟩
  | 88 => ⟨S32x32x16x16, .f32⟩
  | 89 => ⟨S1x32x1x1, .f32⟩
  | 90 => ⟨S32x32x16x16, .f32⟩
  | 91 => ⟨S32x32x16x16, .f32⟩
  | 92 => ⟨S_, .f32⟩
  | 93 => ⟨S32x32x16x16, .f32⟩
  | 94 => ⟨S32x32x16x16, .f32⟩
  | 95 => ⟨S32x32x16x16, .f32⟩
  | 96 => ⟨S32x32x16x16, .f32⟩
  | 97 => ⟨S32x32x16x16, .f32⟩
  | 98 => ⟨S_, .f32⟩
  | 99 => ⟨S32x16x16x32, .f32⟩
  | 100 => ⟨S8192x32, .f32⟩
  | 101 => ⟨S8192x32, .f32⟩
  | 102 => ⟨S_, .f32⟩
  | 103 => ⟨S8192, .f32⟩
  | 104 => ⟨S8192x1, .f32⟩
  | 105 => ⟨S32x4096, .f32⟩
  | 106 => ⟨S8192x4096, .f32⟩
  | 107 => ⟨S_, .f32⟩
  | 108 => ⟨S8192x4096, .f32⟩
  | 109 => ⟨S8192x4096, .f32⟩
  | 110 => ⟨S8192x4096, .f32⟩
  | 111 => ⟨S8192x4096, .f32⟩
  | 112 => ⟨S4096x32, .f32⟩
  | 113 => ⟨S_, .f32⟩
  | 114 => ⟨S4096, .f32⟩
  | 115 => ⟨S1x4096, .f32⟩
  | 116 => ⟨S8192x4096, .f32⟩
  | 117 => ⟨S8192x4096, .f32⟩
  | 118 => ⟨S8192x4096, .i32⟩
  | 119 => ⟨S_, .f32⟩
  | 120 => ⟨S_, .i32⟩
  | 121 => ⟨S8192, .f32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S32x32x16x16, .f32⟩

abbrev hbmTy0_8 (i : Nat) : BufTy := match i % 128 with
  | 0 => ⟨S8192, .i32⟩
  | 1 => ⟨S8192, .i32⟩
  | 2 => ⟨S8192x1, .i32⟩
  | 3 => ⟨S1, .i32⟩
  | 4 => ⟨S_, .i32⟩
  | 5 => ⟨S8192x1, .i32⟩
  | 6 => ⟨S8192x1, .i1⟩
  | 7 => ⟨S1x1, .i32⟩
  | 8 => ⟨S8192x1, .i32⟩
  | 9 => ⟨S8192x1, .i1⟩
  | 10 => ⟨S8192x1, .i1⟩
  | 11 => ⟨S_, .i1⟩
  | 12 => ⟨S8192, .i1⟩
  | 13 => ⟨S8192x32, .f32⟩
  | 14 => ⟨S8192x32, .i1⟩
  | 15 => ⟨S_, .f32⟩
  | 16 => ⟨S8192x32, .f32⟩
  | 17 => ⟨S8192x32, .f32⟩
  | 18 => ⟨S32x16x16x32, .f32⟩
  | 19 => ⟨S32x32x16x16, .f32⟩
  | 20 => ⟨S32x32x16x16, .f32⟩
  | 21 => ⟨S32x32x16x16, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S32x32x16x16, .f32⟩
  | 29 => ⟨S32x32x16x16, .f32⟩
  | 30 => ⟨S_, .f32⟩
  | 31 => ⟨S_, .f32⟩
  | 32 => ⟨S_, .f32⟩
  | 33 => ⟨S_, .f32⟩
  | 34 => ⟨S_, .f32⟩
  | 35 => ⟨S32x32x16x16, .f32⟩
  | 36 => ⟨S32x32x16x16, .f32⟩
  | 37 => ⟨S32x16x16, .i32⟩
  | 38 => ⟨S1x32x32x3x3, .f32⟩
  | 39 => ⟨S32x32x3x3, .f32⟩
  | 40 => ⟨S1x32, .f32⟩
  | 41 => ⟨S32, .f32⟩
  | 42 => ⟨S_, .f32⟩
  | 43 => ⟨S32x32x16x16, .f32⟩
  | 44 => ⟨S32x32x16x16, .f32⟩
  | 45 => ⟨S_, .i32⟩
  | 46 => ⟨S_, .f32⟩
  | 47 => ⟨S32x32x18x18, .f32⟩
  | 48 => ⟨S32x32x1x1, .f32⟩
  | 49 => ⟨S32x32, .f32⟩
  | 50 => ⟨S32x32x16x16, .f32⟩
  | 51 => ⟨S32x16x16x32, .f32⟩
  | 52 => ⟨S32x32x16x16, .f32⟩
  | 53 => ⟨S_, .f32⟩
  | 54 => ⟨S32x32x16x16, .f32⟩
  | 55 => ⟨S32x32x16x16, .f32⟩
  | 56 => ⟨S32x32x1x1, .f32⟩
  | 57 => ⟨S32x32, .f32⟩
  | 58 => ⟨S32x32x16x16, .f32⟩
  | 59 => ⟨S32x16x16x32, .f32⟩
  | 60 => ⟨S32x32x16x16, .f32⟩
  | 61 => ⟨S32x32x16x16, .f32⟩
  | 62 => ⟨S32x32x1x1, .f32⟩
  | 63 => ⟨S32x32, .f32⟩
  | 64 => ⟨S32x32x16x16, .f32⟩
  | 65 => ⟨S32x16x16x32, .f32⟩
  | 66 => ⟨S32x32x16x16, .f32⟩
  | 67 => ⟨S32x32x16x16, .f32⟩
  | 68 => ⟨S32x32x1x1, .f32⟩
  | 69 => ⟨S32x32, .f32⟩
  | 70 => ⟨S32x32x16x16, .f32⟩
  | 71 => ⟨S32x16x16x32, .f32⟩
  | 72 => ⟨S32x32x16x16, .f32⟩
  | 73 => ⟨S32x32x16x16, .f32⟩
  | 74 => ⟨S32x32x1x1, .f32⟩
  | 75 => ⟨S32x32, .f32⟩
  | 76 => ⟨S32x32x16x16, .f32⟩
  | 77 => ⟨S32x16x16x32, .f32⟩
  | 78 => ⟨S32x32x16x16, .f32⟩
  | 79 => ⟨S32x32x16x16, .f32⟩
  | 80 => ⟨S32x32x1x1, .f32⟩
  | 81 => ⟨S32x32, .f32⟩
  | 82 => ⟨S32x32x16x16, .f32⟩
  | 83 => ⟨S32x16x16x32, .f32⟩
  | 84 => ⟨S32x32x16x16, .f32⟩
  | 85 => ⟨S32x32x16x16, .f32⟩
  | 86 => ⟨S32x32x1x1, .f32⟩
  | 87 => ⟨S32x32, .f32⟩
  | 88 => ⟨S32x32x16x16, .f32⟩
  | 89 => ⟨S32x16x16x32, .f32⟩
  | 90 => ⟨S32x32x16x16, .f32⟩
  | 91 => ⟨S32x32x16x16, .f32⟩
  | 92 => ⟨S32x32x1x1, .f32⟩
  | 93 => ⟨S32x32, .f32⟩
  | 94 => ⟨S32x32x16x16, .f32⟩
  | 95 => ⟨S32x16x16x32, .f32⟩
  | 96 => ⟨S32x32x16x16, .f32⟩
  | 97 => ⟨S32x32x16x16, .f32⟩
  | 98 => ⟨S32x32x1x1, .f32⟩
  | 99 => ⟨S32x32, .f32⟩
  | 100 => ⟨S32x32x16x16, .f32⟩
  | 101 => ⟨S32x16x16x32, .f32⟩
  | 102 => ⟨S32x32x16x16, .f32⟩
  | 103 => ⟨S32x32x16x16, .f32⟩
  | 104 => ⟨S1x32x1x1, .f32⟩
  | 105 => ⟨S32x32x16x16, .f32⟩
  | 106 => ⟨S32x32x16x16, .f32⟩
  | 107 => ⟨S_, .f32⟩
  | 108 => ⟨S32x32x16x16, .f32⟩
  | 109 => ⟨S32x32x16x16, .f32⟩
  | 110 => ⟨S32x32x16x16, .f32⟩
  | 111 => ⟨S32x32x16x16, .f32⟩
  | 112 => ⟨S32x32x16x16, .f32⟩
  | 113 => ⟨S_, .f32⟩
  | 114 => ⟨S_, .f32⟩
  | 115 => ⟨S_, .f32⟩
  | _ => ⟨S32x32x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S32x32x16x16, .f32⟩

abbrev bufTy : (tb : Table) → Fin (tcTables nBuf tb) → BufTy
  | .hbm, ⟨i, _⟩ => hbmTy i
  | _, _ => ⟨S32x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v21 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_5 : Ref sig .tc := ⟨.hbm, 63, rfl⟩
abbrev main_v27 : Ref sig .tc := ⟨.hbm, 64, rfl⟩
abbrev main_cst_6 : Ref sig .tc := ⟨.hbm, 65, rfl⟩
abbrev main_v28 : Ref sig .tc := ⟨.hbm, 66, rfl⟩
abbrev main_cst_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_8 : Ref sig .tc := ⟨.hbm, 71, rfl⟩
abbrev main_v32 : Ref sig .tc := ⟨.hbm, 72, rfl⟩
abbrev main_cst_9 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_10 : Ref sig .tc := ⟨.hbm, 79, rfl⟩
abbrev main_cst_11 : Ref sig .tc := ⟨.hbm, 80, rfl⟩
abbrev main_v38 : Ref sig .tc := ⟨.hbm, 81, rfl⟩
abbrev main_v39 : Ref sig .tc := ⟨.hbm, 82, rfl⟩
abbrev main_cst_12 : Ref sig .tc := ⟨.hbm, 83, rfl⟩
abbrev main_v40 : Ref sig .tc := ⟨.hbm, 84, rfl⟩
abbrev main_v41 : Ref sig .tc := ⟨.hbm, 85, rfl⟩
abbrev main_cst_13 : Ref sig .tc := ⟨.hbm, 86, rfl⟩
abbrev main_v42 : Ref sig .tc := ⟨.hbm, 87, rfl⟩
abbrev main_v43 : Ref sig .tc := ⟨.hbm, 88, rfl⟩
abbrev main_cst_14 : Ref sig .tc := ⟨.hbm, 89, rfl⟩
abbrev main_v44 : Ref sig .tc := ⟨.hbm, 90, rfl⟩
abbrev main_v45 : Ref sig .tc := ⟨.hbm, 91, rfl⟩
abbrev main_cst_15 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_16 : Ref sig .tc := ⟨.hbm, 104, rfl⟩
abbrev main_v57 : Ref sig .tc := ⟨.hbm, 105, rfl⟩
abbrev main_v58 : Ref sig .tc := ⟨.hbm, 106, rfl⟩
abbrev main_cst_17 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_18 : Ref sig .tc := ⟨.hbm, 112, rfl⟩
abbrev main_v63 : Ref sig .tc := ⟨.hbm, 113, rfl⟩
abbrev main_v64 : Ref sig .tc := ⟨.hbm, 114, rfl⟩
abbrev main_cst_19 : Ref sig .tc := ⟨.hbm, 115, rfl⟩
abbrev main_v65 : Ref sig .tc := ⟨.hbm, 116, rfl⟩
abbrev main_v66 : Ref sig .tc := ⟨.hbm, 117, rfl⟩
abbrev main_cst_20 : Ref sig .tc := ⟨.hbm, 118, rfl⟩
abbrev main_v67 : Ref sig .tc := ⟨.hbm, 119, rfl⟩
abbrev main_v68 : Ref sig .tc := ⟨.hbm, 120, rfl⟩
abbrev main_cst_21 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_22 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_23 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_24 : Ref sig .tc := ⟨.hbm, 133, rfl⟩
abbrev main_v78 : Ref sig .tc := ⟨.hbm, 134, rfl⟩
abbrev main_v79 : Ref sig .tc := ⟨.hbm, 135, rfl⟩
abbrev main_cst_25 : Ref sig .tc := ⟨.hbm, 136, rfl⟩
abbrev main_call3_v0 : Ref sig .tc := ⟨.hbm, 137, rfl⟩
abbrev main_call3_v1 : Ref sig .tc := ⟨.hbm, 138, rfl⟩
abbrev main_v80 : Ref sig .tc := ⟨.hbm, 139, rfl⟩
abbrev main_cst_26 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_27 : Ref sig .tc := ⟨.hbm, 144, rfl⟩
abbrev main_v84 : Ref sig .tc := ⟨.hbm, 145, rfl⟩
abbrev main_v85 : Ref sig .tc := ⟨.hbm, 146, rfl⟩
abbrev main_cst_28 : Ref sig .tc := ⟨.hbm, 147, rfl⟩
abbrev main_v86 : Ref sig .tc := ⟨.hbm, 148, rfl⟩
abbrev main_v87 : Ref sig .tc := ⟨.hbm, 149, rfl⟩
abbrev main_c : Ref sig .tc := ⟨.hbm, 150, rfl⟩
abbrev main_call4_v0 : Ref sig .tc := ⟨.hbm, 151, rfl⟩
abbrev main_call4_v1 : Ref sig .tc := ⟨.hbm, 152, rfl⟩
abbrev main_v88 : Ref sig .tc := ⟨.hbm, 153, rfl⟩
abbrev main_v89 : Ref sig .tc := ⟨.hbm, 154, rfl⟩
abbrev main_c_29 : Ref sig .tc := ⟨.hbm, 155, rfl⟩
abbrev main_call5_v0 : Ref sig .tc := ⟨.hbm, 156, rfl⟩
abbrev main_call5_v1 : Ref sig .tc := ⟨.hbm, 157, rfl⟩
abbrev main_v90 : Ref sig .tc := ⟨.hbm, 158, rfl⟩
abbrev main_cst_30 : Ref sig .tc := ⟨.hbm, 159, rfl⟩
abbrev main_v91 : Ref sig .tc := ⟨.hbm, 160, rfl⟩
abbrev main_v92 : Ref sig .tc := ⟨.hbm, 161, rfl⟩
abbrev main_cst_31 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_32 : Ref sig .tc := ⟨.hbm, 167, rfl⟩
abbrev main_call6_v0 : Ref sig .tc := ⟨.hbm, 168, rfl⟩
abbrev main_call6_v1 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_33 : Ref sig .tc := ⟨.hbm, 178, rfl⟩
abbrev main_v105 : Ref sig .tc := ⟨.hbm, 179, rfl⟩
abbrev main_v106 : Ref sig .tc := ⟨.hbm, 180, rfl⟩
abbrev main_c_34 : Ref sig .tc := ⟨.hbm, 181, rfl⟩
abbrev main_call7_v0 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_35 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_36 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_cst_37 : Ref sig .tc := ⟨.hbm, 249, rfl⟩
abbrev main_v171 : Ref sig .tc := ⟨.hbm, 250, rfl⟩
abbrev main_v172 : Ref sig .tc := ⟨.hbm, 251, rfl⟩
abbrev main_cst_38 : Ref sig .tc := ⟨.hbm, 252, rfl⟩
abbrev main_v173 : Ref sig .tc := ⟨.hbm, 253, rfl⟩
abbrev main_cst_39 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_40 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_cst_41 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_cst_42 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_call8_v0 : Ref sig .tc := ⟨.hbm, 276, rfl⟩
abbrev main_call8_cst : Ref sig .tc := ⟨.hbm, 277, rfl⟩
abbrev main_call8_c : Ref sig .tc := ⟨.hbm, 278, rfl⟩
abbrev main_call8_v1_0 : Ref sig .tc := ⟨.hbm, 279, rfl⟩
abbrev main_v192 : Ref sig .tc := ⟨.hbm, 280, rfl⟩
abbrev main_call9_c : Ref sig .tc := ⟨.hbm, 281, rfl⟩
abbrev main_call9_v0 : Ref sig .tc := ⟨.hbm, 282, rfl⟩
abbrev main_call9_v1 : Ref sig .tc := ⟨.hbm, 283, rfl⟩
abbrev main_call9_c_0 : Ref sig .tc := ⟨.hbm, 284, rfl⟩
abbrev main_call9_v2 : Ref sig .tc := ⟨.hbm, 285, rfl⟩
abbrev main_call9_v3 : Ref sig .tc := ⟨.hbm, 286, rfl⟩
abbrev main_call9_v4 : Ref sig .tc := ⟨.hbm, 287, rfl⟩
abbrev main_call9_v5 : Ref sig .tc := ⟨.hbm, 288, rfl⟩
abbrev main_call9_c_1 : Ref sig .tc := ⟨.hbm, 289, rfl⟩
abbrev main_call9_c_2 : Ref sig .tc := ⟨.hbm, 290, rfl⟩
abbrev main_call9_v6 : Ref sig .tc := ⟨.hbm, 291, rfl⟩
abbrev main_call9_v7 : Ref sig .tc := ⟨.hbm, 292, rfl⟩
abbrev main_call9_v8 : Ref sig .tc := ⟨.hbm, 293, rfl⟩
abbrev main_call9_v9 : Ref sig .tc := ⟨.hbm, 294, rfl⟩
abbrev main_call9_v10 : Ref sig .tc := ⟨.hbm, 295, rfl⟩
abbrev main_call9_v11 : Ref sig .tc := ⟨.hbm, 296, rfl⟩
abbrev main_call9_c_3 : Ref sig .tc := ⟨.hbm, 297, rfl⟩
abbrev main_call9_v12 : Ref sig .tc := ⟨.hbm, 298, rfl⟩
abbrev main_call9_v13 : Ref sig .tc := ⟨.hbm, 299, rfl⟩
abbrev main_call9_v14 : Ref sig .tc := ⟨.hbm, 300, rfl⟩
abbrev main_call9_cst : Ref sig .tc := ⟨.hbm, 301, rfl⟩
abbrev main_call9_v15 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_cst_43 : Ref sig .tc := ⟨.hbm, 308, rfl⟩
abbrev main_v198 : Ref sig .tc := ⟨.hbm, 309, rfl⟩
abbrev main_cst_44 : Ref sig .tc := ⟨.hbm, 310, rfl⟩
abbrev main_v199 : Ref sig .tc := ⟨.hbm, 311, rfl⟩
abbrev main_cst_45 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_cst_46 : Ref sig .tc := ⟨.hbm, 316, rfl⟩
abbrev main_v203 : Ref sig .tc := ⟨.hbm, 317, rfl⟩
abbrev main_cst_47 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_cst_48 : Ref sig .tc := ⟨.hbm, 324, rfl⟩
abbrev main_cst_49 : Ref sig .tc := ⟨.hbm, 325, rfl⟩
abbrev main_v209 : Ref sig .tc := ⟨.hbm, 326, rfl⟩
abbrev main_v210 : Ref sig .tc := ⟨.hbm, 327, rfl⟩
abbrev main_cst_50 : Ref sig .tc := ⟨.hbm, 328, rfl⟩
abbrev main_v211 : Ref sig .tc := ⟨.hbm, 329, rfl⟩
abbrev main_v212 : Ref sig .tc := ⟨.hbm, 330, rfl⟩
abbrev main_cst_51 : Ref sig .tc := ⟨.hbm, 331, rfl⟩
abbrev main_v213 : Ref sig .tc := ⟨.hbm, 332, rfl⟩
abbrev main_v214 : Ref sig .tc := ⟨.hbm, 333, rfl⟩
abbrev main_cst_52 : Ref sig .tc := ⟨.hbm, 334, rfl⟩
abbrev main_v215 : Ref sig .tc := ⟨.hbm, 335, rfl⟩
abbrev main_v216 : Ref sig .tc := ⟨.hbm, 336, rfl⟩
abbrev main_cst_53 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_cst_54 : Ref sig .tc := ⟨.hbm, 350, rfl⟩
abbrev main_v229 : Ref sig .tc := ⟨.hbm, 351, rfl⟩
abbrev main_v230 : Ref sig .tc := ⟨.hbm, 352, rfl⟩
abbrev main_cst_55 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_cst_56 : Ref sig .tc := ⟨.hbm, 358, rfl⟩
abbrev main_v235 : Ref sig .tc := ⟨.hbm, 359, rfl⟩
abbrev main_v236 : Ref sig .tc := ⟨.hbm, 360, rfl⟩
abbrev main_cst_57 : Ref sig .tc := ⟨.hbm, 361, rfl⟩
abbrev main_v237 : Ref sig .tc := ⟨.hbm, 362, rfl⟩
abbrev main_v238 : Ref sig .tc := ⟨.hbm, 363, rfl⟩
abbrev main_cst_58 : Ref sig .tc := ⟨.hbm, 364, rfl⟩
abbrev main_v239 : Ref sig .tc := ⟨.hbm, 365, rfl⟩
abbrev main_v240 : Ref sig .tc := ⟨.hbm, 366, rfl⟩
abbrev main_cst_59 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_cst_60 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_cst_61 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_cst_62 : Ref sig .tc := ⟨.hbm, 379, rfl⟩
abbrev main_v250 : Ref sig .tc := ⟨.hbm, 380, rfl⟩
abbrev main_v251 : Ref sig .tc := ⟨.hbm, 381, rfl⟩
abbrev main_cst_63 : Ref sig .tc := ⟨.hbm, 382, rfl⟩
abbrev main_call11_v0 : Ref sig .tc := ⟨.hbm, 383, rfl⟩
abbrev main_call11_v1 : Ref sig .tc := ⟨.hbm, 384, rfl⟩
abbrev main_v252 : Ref sig .tc := ⟨.hbm, 385, rfl⟩
abbrev main_cst_64 : Ref sig .tc := ⟨.hbm, 386, rfl⟩
abbrev main_v253 : Ref sig .tc := ⟨.hbm, 387, rfl⟩
abbrev main_v254 : Ref sig .tc := ⟨.hbm, 388, rfl⟩
abbrev main_v255 : Ref sig .tc := ⟨.hbm, 389, rfl⟩
abbrev main_cst_65 : Ref sig .tc := ⟨.hbm, 390, rfl⟩
abbrev main_v256 : Ref sig .tc := ⟨.hbm, 391, rfl⟩
abbrev main_v257 : Ref sig .tc := ⟨.hbm, 392, rfl⟩
abbrev main_cst_66 : Ref sig .tc := ⟨.hbm, 393, rfl⟩
abbrev main_v258 : Ref sig .tc := ⟨.hbm, 394, rfl⟩
abbrev main_v259 : Ref sig .tc := ⟨.hbm, 395, rfl⟩
abbrev main_c_67 : Ref sig .tc := ⟨.hbm, 396, rfl⟩
abbrev main_call12_v0 : Ref sig .tc := ⟨.hbm, 397, rfl⟩
abbrev main_call12_v1 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_c_68 : Ref sig .tc := ⟨.hbm, 402, rfl⟩
abbrev main_call13_v0 : Ref sig .tc := ⟨.hbm, 403, rfl⟩
abbrev main_call13_v1 : Ref sig .tc := ⟨.hbm, 404, rfl⟩
abbrev main_call13_v2 : Ref sig .tc := ⟨.hbm, 405, rfl⟩
abbrev main_v263 : Ref sig .tc := ⟨.hbm, 406, rfl⟩
abbrev main_cst_69 : Ref sig .tc := ⟨.hbm, 407, rfl⟩
abbrev main_v264 : Ref sig .tc := ⟨.hbm, 408, rfl⟩
abbrev main_v265 : Ref sig .tc := ⟨.hbm, 409, rfl⟩
abbrev main_cst_70 : Ref sig .tc := ⟨.hbm, 410, rfl⟩
abbrev main_v266 : Ref sig .tc := ⟨.hbm, 411, rfl⟩
abbrev main_v267 : Ref sig .tc := ⟨.hbm, 412, rfl⟩
abbrev main_v268 : Ref sig .tc := ⟨.hbm, 413, rfl⟩
abbrev main_v269 : Ref sig .tc := ⟨.hbm, 414, rfl⟩
abbrev main_c_71 : Ref sig .tc := ⟨.hbm, 415, rfl⟩
abbrev main_call14_v0 : Ref sig .tc := ⟨.hbm, 416, rfl⟩
abbrev main_call14_v1 : Ref sig .tc := ⟨.hbm, 417, rfl⟩
abbrev main_call14_v2 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_cst_72 : Ref sig .tc := ⟨.hbm, 427, rfl⟩
abbrev main_v278 : Ref sig .tc := ⟨.hbm, 428, rfl⟩
abbrev main_v279 : Ref sig .tc := ⟨.hbm, 429, rfl⟩
abbrev main_c_73 : Ref sig .tc := ⟨.hbm, 430, rfl⟩
abbrev main_call15_v0 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_cst_74 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_v299 : Ref sig .tc := ⟨.hbm, 452, rfl⟩
abbrev main_v300 : Ref sig .tc := ⟨.hbm, 453, rfl⟩
abbrev main_v301 : Ref sig .tc := ⟨.hbm, 454, rfl⟩
abbrev main_v302 : Ref sig .tc := ⟨.hbm, 455, rfl⟩
abbrev main_v303 : Ref sig .tc := ⟨.hbm, 456, rfl⟩
abbrev main_v304 : Ref sig .tc := ⟨.hbm, 457, rfl⟩
abbrev main_v305 : Ref sig .tc := ⟨.hbm, 458, rfl⟩
abbrev main_v306 : Ref sig .tc := ⟨.hbm, 459, rfl⟩
abbrev main_v307 : Ref sig .tc := ⟨.hbm, 460, rfl⟩
abbrev main_v308 : Ref sig .tc := ⟨.hbm, 461, rfl⟩
abbrev main_v309 : Ref sig .tc := ⟨.hbm, 462, rfl⟩
abbrev main_v310 : Ref sig .tc := ⟨.hbm, 463, rfl⟩
abbrev main_v311 : Ref sig .tc := ⟨.hbm, 464, rfl⟩
abbrev main_v312 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_v316 : Ref sig .tc := ⟨.hbm, 469, rfl⟩
abbrev main_v317 : Ref sig .tc := ⟨.hbm, 470, rfl⟩
abbrev main_v318 : Ref sig .tc := ⟨.hbm, 471, rfl⟩
abbrev main_v319 : Ref sig .tc := ⟨.hbm, 472, rfl⟩
abbrev main_v320 : Ref sig .tc := ⟨.hbm, 473, rfl⟩
abbrev main_v321 : Ref sig .tc := ⟨.hbm, 474, rfl⟩
abbrev main_v322 : Ref sig .tc := ⟨.hbm, 475, rfl⟩
abbrev main_v323 : Ref sig .tc := ⟨.hbm, 476, rfl⟩
abbrev main_v324 : Ref sig .tc := ⟨.hbm, 477, rfl⟩
abbrev main_v325 : Ref sig .tc := ⟨.hbm, 478, rfl⟩
abbrev main_v326 : Ref sig .tc := ⟨.hbm, 479, rfl⟩
abbrev main_v327 : Ref sig .tc := ⟨.hbm, 480, rfl⟩
abbrev main_v328 : Ref sig .tc := ⟨.hbm, 481, rfl⟩
abbrev main_v329 : Ref sig .tc := ⟨.hbm, 482, rfl⟩
abbrev main_v330 : Ref sig .tc := ⟨.hbm, 483, rfl⟩
abbrev main_v331 : Ref sig .tc := ⟨.hbm, 484, rfl⟩
abbrev main_v332 : Ref sig .tc := ⟨.hbm, 485, rfl⟩
abbrev main_v333 : Ref sig .tc := ⟨.hbm, 486, rfl⟩
abbrev main_v334 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_v338 : Ref sig .tc := ⟨.hbm, 491, rfl⟩
abbrev main_cst_75 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_v344 : Ref sig .tc := ⟨.hbm, 498, rfl⟩
abbrev main_v345 : Ref sig .tc := ⟨.hbm, 499, rfl⟩
abbrev main_cst_76 : Ref sig .tc := ⟨.hbm, 500, rfl⟩
abbrev main_v346 : Ref sig .tc := ⟨.hbm, 501, rfl⟩
abbrev main_cst_77 : Ref sig .tc := ⟨.hbm, 502, rfl⟩
abbrev main_v347 : Ref sig .tc := ⟨.hbm, 503, rfl⟩
abbrev main_v348 : Ref sig .tc := ⟨.hbm, 504, rfl⟩
abbrev main_v349 : Ref sig .tc := ⟨.hbm, 505, rfl⟩
abbrev main_v350 : Ref sig .tc := ⟨.hbm, 506, rfl⟩
abbrev main_v351 : Ref sig .tc := ⟨.hbm, 507, rfl⟩
abbrev main_cst_78 : Ref sig .tc := ⟨.hbm, 508, rfl⟩
abbrev main_v352 : Ref sig .tc := ⟨.hbm, 509, rfl⟩
abbrev main_v353 : Ref sig .tc := ⟨.hbm, 510, rfl⟩
abbrev main_v354 : Ref sig .tc := ⟨.hbm, 511, rfl⟩
abbrev main_v355 : Ref sig .tc := ⟨.hbm, 512, rfl⟩
abbrev main_cst_79 : Ref sig .tc := ⟨.hbm, 513, rfl⟩
abbrev main_v356 : Ref sig .tc := ⟨.hbm, 514, rfl⟩
abbrev main_v357 : Ref sig .tc := ⟨.hbm, 515, rfl⟩
abbrev main_v358 : Ref sig .tc := ⟨.hbm, 516, rfl⟩
abbrev main_v359 : Ref sig .tc := ⟨.hbm, 517, rfl⟩
abbrev main_v360 : Ref sig .tc := ⟨.hbm, 518, rfl⟩
abbrev main_cst_80 : Ref sig .tc := ⟨.hbm, 519, rfl⟩
abbrev main_v361 : Ref sig .tc := ⟨.hbm, 520, rfl⟩
abbrev main_v362 : Ref sig .tc := ⟨.hbm, 521, rfl⟩
abbrev main_v363 : Ref sig .tc := ⟨.hbm, 522, rfl⟩
abbrev main_v364 : Ref sig .tc := ⟨.hbm, 523, rfl⟩
abbrev main_call16_v0 : Ref sig .tc := ⟨.hbm, 524, rfl⟩
abbrev main_call16_cst : Ref sig .tc := ⟨.hbm, 525, rfl⟩
abbrev main_call16_c : Ref sig .tc := ⟨.hbm, 526, rfl⟩
abbrev main_call16_v1_0 : Ref sig .tc := ⟨.hbm, 527, rfl⟩
abbrev main_v365 : Ref sig .tc := ⟨.hbm, 528, rfl⟩
abbrev main_call17_c : Ref sig .tc := ⟨.hbm, 529, rfl⟩
abbrev main_call17_v0 : Ref sig .tc := ⟨.hbm, 530, rfl⟩
abbrev main_call17_v1 : Ref sig .tc := ⟨.hbm, 531, rfl⟩
abbrev main_call17_c_0 : Ref sig .tc := ⟨.hbm, 532, rfl⟩
abbrev main_call17_v2 : Ref sig .tc := ⟨.hbm, 533, rfl⟩
abbrev main_call17_v3 : Ref sig .tc := ⟨.hbm, 534, rfl⟩
abbrev main_call17_v4 : Ref sig .tc := ⟨.hbm, 535, rfl⟩
abbrev main_call17_v5 : Ref sig .tc := ⟨.hbm, 536, rfl⟩
abbrev main_call17_c_1 : Ref sig .tc := ⟨.hbm, 537, rfl⟩
abbrev main_call17_c_2 : Ref sig .tc := ⟨.hbm, 538, rfl⟩
abbrev main_call17_v6 : Ref sig .tc := ⟨.hbm, 539, rfl⟩
abbrev main_call17_v7 : Ref sig .tc := ⟨.hbm, 540, rfl⟩
abbrev main_call17_v8 : Ref sig .tc := ⟨.hbm, 541, rfl⟩
abbrev main_call17_v9 : Ref sig .tc := ⟨.hbm, 542, rfl⟩
abbrev main_call17_v10 : Ref sig .tc := ⟨.hbm, 543, rfl⟩
abbrev main_call17_v11 : Ref sig .tc := ⟨.hbm, 544, rfl⟩
abbrev main_call17_c_3 : Ref sig .tc := ⟨.hbm, 545, rfl⟩
abbrev main_call17_v12 : Ref sig .tc := ⟨.hbm, 546, rfl⟩
abbrev main_call17_v13 : Ref sig .tc := ⟨.hbm, 547, rfl⟩
abbrev main_call17_v14 : Ref sig .tc := ⟨.hbm, 548, rfl⟩
abbrev main_call17_cst : Ref sig .tc := ⟨.hbm, 549, rfl⟩
abbrev main_call17_v15 : Ref sig .tc := ⟨.hbm, 550, rfl⟩
abbrev main_v366 : Ref sig .tc := ⟨.hbm, 551, rfl⟩
abbrev main_v367 : Ref sig .tc := ⟨.hbm, 552, rfl⟩
abbrev main_v368 : Ref sig .tc := ⟨.hbm, 553, rfl⟩
abbrev main_v369 : Ref sig .tc := ⟨.hbm, 554, rfl⟩
abbrev main_v370 : Ref sig .tc := ⟨.hbm, 555, rfl⟩
abbrev main_cst_81 : Ref sig .tc := ⟨.hbm, 556, rfl⟩
abbrev main_v371 : Ref sig .tc := ⟨.hbm, 557, rfl⟩
abbrev main_cst_82 : Ref sig .tc := ⟨.hbm, 558, rfl⟩
abbrev main_v372 : Ref sig .tc := ⟨.hbm, 559, rfl⟩
abbrev main_cst_83 : Ref sig .tc := ⟨.hbm, 560, rfl⟩
abbrev main_v373 : Ref sig .tc := ⟨.hbm, 561, rfl⟩
abbrev main_v374 : Ref sig .tc := ⟨.hbm, 562, rfl⟩
abbrev main_v375 : Ref sig .tc := ⟨.hbm, 563, rfl⟩
abbrev main_cst_84 : Ref sig .tc := ⟨.hbm, 564, rfl⟩
abbrev main_v376 : Ref sig .tc := ⟨.hbm, 565, rfl⟩
abbrev main_cst_85 : Ref sig .tc := ⟨.hbm, 566, rfl⟩
abbrev main_v377 : Ref sig .tc := ⟨.hbm, 567, rfl⟩
abbrev main_v378 : Ref sig .tc := ⟨.hbm, 568, rfl⟩
abbrev main_v379 : Ref sig .tc := ⟨.hbm, 569, rfl⟩
abbrev main_v380 : Ref sig .tc := ⟨.hbm, 570, rfl⟩
abbrev main_v381 : Ref sig .tc := ⟨.hbm, 571, rfl⟩
abbrev main_cst_86 : Ref sig .tc := ⟨.hbm, 572, rfl⟩
abbrev main_cst_87 : Ref sig .tc := ⟨.hbm, 573, rfl⟩
abbrev main_v382 : Ref sig .tc := ⟨.hbm, 574, rfl⟩
abbrev main_v383 : Ref sig .tc := ⟨.hbm, 575, rfl⟩
abbrev main_cst_88 : Ref sig .tc := ⟨.hbm, 576, rfl⟩
abbrev main_v384 : Ref sig .tc := ⟨.hbm, 577, rfl⟩
abbrev main_v385 : Ref sig .tc := ⟨.hbm, 578, rfl⟩
abbrev main_cst_89 : Ref sig .tc := ⟨.hbm, 579, rfl⟩
abbrev main_v386 : Ref sig .tc := ⟨.hbm, 580, rfl⟩
abbrev main_v387 : Ref sig .tc := ⟨.hbm, 581, rfl⟩
abbrev main_cst_90 : Ref sig .tc := ⟨.hbm, 582, rfl⟩
abbrev main_v388 : Ref sig .tc := ⟨.hbm, 583, rfl⟩
abbrev main_v389 : Ref sig .tc := ⟨.hbm, 584, rfl⟩
abbrev main_cst_91 : Ref sig .tc := ⟨.hbm, 585, rfl⟩
abbrev main_v390 : Ref sig .tc := ⟨.hbm, 586, rfl⟩
abbrev main_v391 : Ref sig .tc := ⟨.hbm, 587, rfl⟩
abbrev main_v392 : Ref sig .tc := ⟨.hbm, 588, rfl⟩
abbrev main_v393 : Ref sig .tc := ⟨.hbm, 589, rfl⟩
abbrev main_v394 : Ref sig .tc := ⟨.hbm, 590, rfl⟩
abbrev main_v395 : Ref sig .tc := ⟨.hbm, 591, rfl⟩
abbrev main_v396 : Ref sig .tc := ⟨.hbm, 592, rfl⟩
abbrev main_v397 : Ref sig .tc := ⟨.hbm, 593, rfl⟩
abbrev main_v398 : Ref sig .tc := ⟨.hbm, 594, rfl⟩
abbrev main_v399 : Ref sig .tc := ⟨.hbm, 595, rfl⟩
abbrev main_v400 : Ref sig .tc := ⟨.hbm, 596, rfl⟩
abbrev main_v401 : Ref sig .tc := ⟨.hbm, 597, rfl⟩
abbrev main_cst_92 : Ref sig .tc := ⟨.hbm, 598, rfl⟩
abbrev main_v402 : Ref sig .tc := ⟨.hbm, 599, rfl⟩
abbrev main_v403 : Ref sig .tc := ⟨.hbm, 600, rfl⟩
abbrev main_cst_93 : Ref sig .tc := ⟨.hbm, 601, rfl⟩
abbrev main_v404 : Ref sig .tc := ⟨.hbm, 602, rfl⟩
abbrev main_v405 : Ref sig .tc := ⟨.hbm, 603, rfl⟩
abbrev main_v406 : Ref sig .tc := ⟨.hbm, 604, rfl⟩
abbrev main_v407 : Ref sig .tc := ⟨.hbm, 605, rfl⟩
abbrev main_cst_94 : Ref sig .tc := ⟨.hbm, 606, rfl⟩
abbrev main_v408 : Ref sig .tc := ⟨.hbm, 607, rfl⟩
abbrev main_v409 : Ref sig .tc := ⟨.hbm, 608, rfl⟩
abbrev main_cst_95 : Ref sig .tc := ⟨.hbm, 609, rfl⟩
abbrev main_v410 : Ref sig .tc := ⟨.hbm, 610, rfl⟩
abbrev main_v411 : Ref sig .tc := ⟨.hbm, 611, rfl⟩
abbrev main_cst_96 : Ref sig .tc := ⟨.hbm, 612, rfl⟩
abbrev main_v412 : Ref sig .tc := ⟨.hbm, 613, rfl⟩
abbrev main_v413 : Ref sig .tc := ⟨.hbm, 614, rfl⟩
abbrev main_cst_97 : Ref sig .tc := ⟨.hbm, 615, rfl⟩
abbrev main_v414 : Ref sig .tc := ⟨.hbm, 616, rfl⟩
abbrev main_v415 : Ref sig .tc := ⟨.hbm, 617, rfl⟩
abbrev main_v416 : Ref sig .tc := ⟨.hbm, 618, rfl⟩
abbrev main_cst_98 : Ref sig .tc := ⟨.hbm, 619, rfl⟩
abbrev main_v417 : Ref sig .tc := ⟨.hbm, 620, rfl⟩
abbrev main_v418 : Ref sig .tc := ⟨.hbm, 621, rfl⟩
abbrev main_v419 : Ref sig .tc := ⟨.hbm, 622, rfl⟩
abbrev main_cst_99 : Ref sig .tc := ⟨.hbm, 623, rfl⟩
abbrev main_v420 : Ref sig .tc := ⟨.hbm, 624, rfl⟩
abbrev main_v421 : Ref sig .tc := ⟨.hbm, 625, rfl⟩
abbrev main_v422 : Ref sig .tc := ⟨.hbm, 626, rfl⟩
abbrev main_cst_100 : Ref sig .tc := ⟨.hbm, 627, rfl⟩
abbrev main_v423 : Ref sig .tc := ⟨.hbm, 628, rfl⟩
abbrev main_v424 : Ref sig .tc := ⟨.hbm, 629, rfl⟩
abbrev main_cst_101 : Ref sig .tc := ⟨.hbm, 630, rfl⟩
abbrev main_call19_v0 : Ref sig .tc := ⟨.hbm, 631, rfl⟩
abbrev main_call19_v1 : Ref sig .tc := ⟨.hbm, 632, rfl⟩
abbrev main_v425 : Ref sig .tc := ⟨.hbm, 633, rfl⟩
abbrev main_cst_102 : Ref sig .tc := ⟨.hbm, 634, rfl⟩
abbrev main_v426 : Ref sig .tc := ⟨.hbm, 635, rfl⟩
abbrev main_v427 : Ref sig .tc := ⟨.hbm, 636, rfl⟩
abbrev main_v428 : Ref sig .tc := ⟨.hbm, 637, rfl⟩
abbrev main_cst_103 : Ref sig .tc := ⟨.hbm, 638, rfl⟩
abbrev main_v429 : Ref sig .tc := ⟨.hbm, 639, rfl⟩
abbrev main_v430 : Ref sig .tc := ⟨.hbm, 640, rfl⟩
abbrev main_cst_104 : Ref sig .tc := ⟨.hbm, 641, rfl⟩
abbrev main_v431 : Ref sig .tc := ⟨.hbm, 642, rfl⟩
abbrev main_v432 : Ref sig .tc := ⟨.hbm, 643, rfl⟩
abbrev main_c_105 : Ref sig .tc := ⟨.hbm, 644, rfl⟩
abbrev main_call20_v0 : Ref sig .tc := ⟨.hbm, 645, rfl⟩
abbrev main_call20_v1 : Ref sig .tc := ⟨.hbm, 646, rfl⟩
abbrev main_v433 : Ref sig .tc := ⟨.hbm, 647, rfl⟩
abbrev main_v434 : Ref sig .tc := ⟨.hbm, 648, rfl⟩
abbrev main_v435 : Ref sig .tc := ⟨.hbm, 649, rfl⟩
abbrev main_c_106 : Ref sig .tc := ⟨.hbm, 650, rfl⟩
abbrev main_call21_v0 : Ref sig .tc := ⟨.hbm, 651, rfl⟩
abbrev main_call21_v1 : Ref sig .tc := ⟨.hbm, 652, rfl⟩
abbrev main_call21_v2 : Ref sig .tc := ⟨.hbm, 653, rfl⟩
abbrev main_v436 : Ref sig .tc := ⟨.hbm, 654, rfl⟩
abbrev main_cst_107 : Ref sig .tc := ⟨.hbm, 655, rfl⟩
abbrev main_v437 : Ref sig .tc := ⟨.hbm, 656, rfl⟩
abbrev main_v438 : Ref sig .tc := ⟨.hbm, 657, rfl⟩
abbrev main_cst_108 : Ref sig .tc := ⟨.hbm, 658, rfl⟩
abbrev main_v439 : Ref sig .tc := ⟨.hbm, 659, rfl⟩
abbrev main_v440 : Ref sig .tc := ⟨.hbm, 660, rfl⟩
abbrev main_v441 : Ref sig .tc := ⟨.hbm, 661, rfl⟩
abbrev main_v442 : Ref sig .tc := ⟨.hbm, 662, rfl⟩
abbrev main_c_109 : Ref sig .tc := ⟨.hbm, 663, rfl⟩
abbrev main_call22_v0 : Ref sig .tc := ⟨.hbm, 664, rfl⟩
abbrev main_call22_v1 : Ref sig .tc := ⟨.hbm, 665, rfl⟩
abbrev main_call22_v2 : Ref sig .tc := ⟨.hbm, 666, rfl⟩
abbrev main_v443 : Ref sig .tc := ⟨.hbm, 667, rfl⟩
abbrev main_v444 : Ref sig .tc := ⟨.hbm, 668, rfl⟩
abbrev main_v445 : Ref sig .tc := ⟨.hbm, 669, rfl⟩
abbrev main_v446 : Ref sig .tc := ⟨.hbm, 670, rfl⟩
abbrev main_v447 : Ref sig .tc := ⟨.hbm, 671, rfl⟩
abbrev main_v448 : Ref sig .tc := ⟨.hbm, 672, rfl⟩
abbrev main_v449 : Ref sig .tc := ⟨.hbm, 673, rfl⟩
abbrev main_v450 : Ref sig .tc := ⟨.hbm, 674, rfl⟩
abbrev main_cst_110 : Ref sig .tc := ⟨.hbm, 675, rfl⟩
abbrev main_v451 : Ref sig .tc := ⟨.hbm, 676, rfl⟩
abbrev main_v452 : Ref sig .tc := ⟨.hbm, 677, rfl⟩
abbrev main_c_111 : Ref sig .tc := ⟨.hbm, 678, rfl⟩
abbrev main_call23_v0 : Ref sig .tc := ⟨.hbm, 679, rfl⟩
abbrev main_v453 : Ref sig .tc := ⟨.hbm, 680, rfl⟩
abbrev main_v454 : Ref sig .tc := ⟨.hbm, 681, rfl⟩
abbrev main_v455 : Ref sig .tc := ⟨.hbm, 682, rfl⟩
abbrev main_v456 : Ref sig .tc := ⟨.hbm, 683, rfl⟩
abbrev main_v457 : Ref sig .tc := ⟨.hbm, 684, rfl⟩
abbrev main_v458 : Ref sig .tc := ⟨.hbm, 685, rfl⟩
abbrev main_cst_112 : Ref sig .tc := ⟨.hbm, 686, rfl⟩
abbrev main_v459 : Ref sig .tc := ⟨.hbm, 687, rfl⟩
abbrev main_v460 : Ref sig .tc := ⟨.hbm, 688, rfl⟩
abbrev main_v461 : Ref sig .tc := ⟨.hbm, 689, rfl⟩
abbrev main_v462 : Ref sig .tc := ⟨.hbm, 690, rfl⟩
abbrev main_v463 : Ref sig .tc := ⟨.hbm, 691, rfl⟩
abbrev main_v464 : Ref sig .tc := ⟨.hbm, 692, rfl⟩
abbrev main_v465 : Ref sig .tc := ⟨.hbm, 693, rfl⟩
abbrev main_v466 : Ref sig .tc := ⟨.hbm, 694, rfl⟩
abbrev main_v467 : Ref sig .tc := ⟨.hbm, 695, rfl⟩
abbrev main_v468 : Ref sig .tc := ⟨.hbm, 696, rfl⟩
abbrev main_v469 : Ref sig .tc := ⟨.hbm, 697, rfl⟩
abbrev main_v470 : Ref sig .tc := ⟨.hbm, 698, rfl⟩
abbrev main_v471 : Ref sig .tc := ⟨.hbm, 699, rfl⟩
abbrev main_v472 : Ref sig .tc := ⟨.hbm, 700, rfl⟩
abbrev main_v473 : Ref sig .tc := ⟨.hbm, 701, rfl⟩
abbrev main_v474 : Ref sig .tc := ⟨.hbm, 702, rfl⟩
abbrev main_v475 : Ref sig .tc := ⟨.hbm, 703, rfl⟩
abbrev main_v476 : Ref sig .tc := ⟨.hbm, 704, rfl⟩
abbrev main_v477 : Ref sig .tc := ⟨.hbm, 705, rfl⟩
abbrev main_v478 : Ref sig .tc := ⟨.hbm, 706, rfl⟩
abbrev main_v479 : Ref sig .tc := ⟨.hbm, 707, rfl⟩
abbrev main_v480 : Ref sig .tc := ⟨.hbm, 708, rfl⟩
abbrev main_v481 : Ref sig .tc := ⟨.hbm, 709, rfl⟩
abbrev main_v482 : Ref sig .tc := ⟨.hbm, 710, rfl⟩
abbrev main_v483 : Ref sig .tc := ⟨.hbm, 711, rfl⟩
abbrev main_v484 : Ref sig .tc := ⟨.hbm, 712, rfl⟩
abbrev main_v485 : Ref sig .tc := ⟨.hbm, 713, rfl⟩
abbrev main_v486 : Ref sig .tc := ⟨.hbm, 714, rfl⟩
abbrev main_v487 : Ref sig .tc := ⟨.hbm, 715, rfl⟩
abbrev main_v488 : Ref sig .tc := ⟨.hbm, 716, rfl⟩
abbrev main_v489 : Ref sig .tc := ⟨.hbm, 717, rfl⟩
abbrev main_v490 : Ref sig .tc := ⟨.hbm, 718, rfl⟩
abbrev main_v491 : Ref sig .tc := ⟨.hbm, 719, rfl⟩
abbrev main_v492 : Ref sig .tc := ⟨.hbm, 720, rfl⟩
abbrev main_v493 : Ref sig .tc := ⟨.hbm, 721, rfl⟩
abbrev main_v494 : Ref sig .tc := ⟨.hbm, 722, rfl⟩
abbrev main_v495 : Ref sig .tc := ⟨.hbm, 723, rfl⟩
abbrev main_v496 : Ref sig .tc := ⟨.hbm, 724, rfl⟩
abbrev main_v497 : Ref sig .tc := ⟨.hbm, 725, rfl⟩
abbrev main_v498 : Ref sig .tc := ⟨.hbm, 726, rfl⟩
abbrev main_v499 : Ref sig .tc := ⟨.hbm, 727, rfl⟩
abbrev main_v500 : Ref sig .tc := ⟨.hbm, 728, rfl⟩
abbrev main_v501 : Ref sig .tc := ⟨.hbm, 729, rfl⟩
abbrev main_v502 : Ref sig .tc := ⟨.hbm, 730, rfl⟩
abbrev main_v503 : Ref sig .tc := ⟨.hbm, 731, rfl⟩
abbrev main_v504 : Ref sig .tc := ⟨.hbm, 732, rfl⟩
abbrev main_v505 : Ref sig .tc := ⟨.hbm, 733, rfl⟩
abbrev main_v506 : Ref sig .tc := ⟨.hbm, 734, rfl⟩
abbrev main_v507 : Ref sig .tc := ⟨.hbm, 735, rfl⟩
abbrev main_v508 : Ref sig .tc := ⟨.hbm, 736, rfl⟩
abbrev main_v509 : Ref sig .tc := ⟨.hbm, 737, rfl⟩
abbrev main_v510 : Ref sig .tc := ⟨.hbm, 738, rfl⟩
abbrev main_v511 : Ref sig .tc := ⟨.hbm, 739, rfl⟩
abbrev main_cst_113 : Ref sig .tc := ⟨.hbm, 740, rfl⟩
abbrev main_v512 : Ref sig .tc := ⟨.hbm, 741, rfl⟩
abbrev main_v513 : Ref sig .tc := ⟨.hbm, 742, rfl⟩
abbrev main_v514 : Ref sig .tc := ⟨.hbm, 743, rfl⟩
abbrev main_v515 : Ref sig .tc := ⟨.hbm, 744, rfl⟩
abbrev main_v516 : Ref sig .tc := ⟨.hbm, 745, rfl⟩
abbrev main_v517 : Ref sig .tc := ⟨.hbm, 746, rfl⟩
abbrev main_v518 : Ref sig .tc := ⟨.hbm, 747, rfl⟩
abbrev main_cst_114 : Ref sig .tc := ⟨.hbm, 748, rfl⟩
abbrev main_v519 : Ref sig .tc := ⟨.hbm, 749, rfl⟩
abbrev main_cst_115 : Ref sig .tc := ⟨.hbm, 750, rfl⟩
abbrev main_v520 : Ref sig .tc := ⟨.hbm, 751, rfl⟩
abbrev main_v521 : Ref sig .tc := ⟨.hbm, 752, rfl⟩
abbrev main_v522 : Ref sig .tc := ⟨.hbm, 753, rfl⟩
abbrev main_v523 : Ref sig .tc := ⟨.hbm, 754, rfl⟩
abbrev main_v524 : Ref sig .tc := ⟨.hbm, 755, rfl⟩
abbrev main_cst_116 : Ref sig .tc := ⟨.hbm, 756, rfl⟩
abbrev main_v525 : Ref sig .tc := ⟨.hbm, 757, rfl⟩
abbrev main_v526 : Ref sig .tc := ⟨.hbm, 758, rfl⟩
abbrev main_v527 : Ref sig .tc := ⟨.hbm, 759, rfl⟩
abbrev main_v528 : Ref sig .tc := ⟨.hbm, 760, rfl⟩
abbrev main_cst_117 : Ref sig .tc := ⟨.hbm, 761, rfl⟩
abbrev main_v529 : Ref sig .tc := ⟨.hbm, 762, rfl⟩
abbrev main_v530 : Ref sig .tc := ⟨.hbm, 763, rfl⟩
abbrev main_v531 : Ref sig .tc := ⟨.hbm, 764, rfl⟩
abbrev main_v532 : Ref sig .tc := ⟨.hbm, 765, rfl⟩
abbrev main_v533 : Ref sig .tc := ⟨.hbm, 766, rfl⟩
abbrev main_cst_118 : Ref sig .tc := ⟨.hbm, 767, rfl⟩
abbrev main_v534 : Ref sig .tc := ⟨.hbm, 768, rfl⟩
abbrev main_v535 : Ref sig .tc := ⟨.hbm, 769, rfl⟩
abbrev main_v536 : Ref sig .tc := ⟨.hbm, 770, rfl⟩
abbrev main_v537 : Ref sig .tc := ⟨.hbm, 771, rfl⟩
abbrev main_call24_v0 : Ref sig .tc := ⟨.hbm, 772, rfl⟩
abbrev main_call24_cst : Ref sig .tc := ⟨.hbm, 773, rfl⟩
abbrev main_call24_c : Ref sig .tc := ⟨.hbm, 774, rfl⟩
abbrev main_call24_v1_0 : Ref sig .tc := ⟨.hbm, 775, rfl⟩
abbrev main_v538 : Ref sig .tc := ⟨.hbm, 776, rfl⟩
abbrev main_call25_c : Ref sig .tc := ⟨.hbm, 777, rfl⟩
abbrev main_call25_v0 : Ref sig .tc := ⟨.hbm, 778, rfl⟩
abbrev main_call25_v1 : Ref sig .tc := ⟨.hbm, 779, rfl⟩
abbrev main_call25_c_0 : Ref sig .tc := ⟨.hbm, 780, rfl⟩
abbrev main_call25_v2 : Ref sig .tc := ⟨.hbm, 781, rfl⟩
abbrev main_call25_v3 : Ref sig .tc := ⟨.hbm, 782, rfl⟩
abbrev main_call25_v4 : Ref sig .tc := ⟨.hbm, 783, rfl⟩
abbrev main_call25_v5 : Ref sig .tc := ⟨.hbm, 784, rfl⟩
abbrev main_call25_c_1 : Ref sig .tc := ⟨.hbm, 785, rfl⟩
abbrev main_call25_c_2 : Ref sig .tc := ⟨.hbm, 786, rfl⟩
abbrev main_call25_v6 : Ref sig .tc := ⟨.hbm, 787, rfl⟩
abbrev main_call25_v7 : Ref sig .tc := ⟨.hbm, 788, rfl⟩
abbrev main_call25_v8 : Ref sig .tc := ⟨.hbm, 789, rfl⟩
abbrev main_call25_v9 : Ref sig .tc := ⟨.hbm, 790, rfl⟩
abbrev main_call25_v10 : Ref sig .tc := ⟨.hbm, 791, rfl⟩
abbrev main_call25_v11 : Ref sig .tc := ⟨.hbm, 792, rfl⟩
abbrev main_call25_c_3 : Ref sig .tc := ⟨.hbm, 793, rfl⟩
abbrev main_call25_v12 : Ref sig .tc := ⟨.hbm, 794, rfl⟩
abbrev main_call25_v13 : Ref sig .tc := ⟨.hbm, 795, rfl⟩
abbrev main_call25_v14 : Ref sig .tc := ⟨.hbm, 796, rfl⟩
abbrev main_call25_cst : Ref sig .tc := ⟨.hbm, 797, rfl⟩
abbrev main_call25_v15 : Ref sig .tc := ⟨.hbm, 798, rfl⟩
abbrev main_v539 : Ref sig .tc := ⟨.hbm, 799, rfl⟩
abbrev main_v540 : Ref sig .tc := ⟨.hbm, 800, rfl⟩
abbrev main_v541 : Ref sig .tc := ⟨.hbm, 801, rfl⟩
abbrev main_v542 : Ref sig .tc := ⟨.hbm, 802, rfl⟩
abbrev main_v543 : Ref sig .tc := ⟨.hbm, 803, rfl⟩
abbrev main_cst_119 : Ref sig .tc := ⟨.hbm, 804, rfl⟩
abbrev main_v544 : Ref sig .tc := ⟨.hbm, 805, rfl⟩
abbrev main_cst_120 : Ref sig .tc := ⟨.hbm, 806, rfl⟩
abbrev main_v545 : Ref sig .tc := ⟨.hbm, 807, rfl⟩
abbrev main_cst_121 : Ref sig .tc := ⟨.hbm, 808, rfl⟩
abbrev main_v546 : Ref sig .tc := ⟨.hbm, 809, rfl⟩
abbrev main_v547 : Ref sig .tc := ⟨.hbm, 810, rfl⟩
abbrev main_v548 : Ref sig .tc := ⟨.hbm, 811, rfl⟩
abbrev main_cst_122 : Ref sig .tc := ⟨.hbm, 812, rfl⟩
abbrev main_v549 : Ref sig .tc := ⟨.hbm, 813, rfl⟩
abbrev main_cst_123 : Ref sig .tc := ⟨.hbm, 814, rfl⟩
abbrev main_v550 : Ref sig .tc := ⟨.hbm, 815, rfl⟩
abbrev main_v551 : Ref sig .tc := ⟨.hbm, 816, rfl⟩
abbrev main_v552 : Ref sig .tc := ⟨.hbm, 817, rfl⟩
abbrev main_v553 : Ref sig .tc := ⟨.hbm, 818, rfl⟩
abbrev main_v554 : Ref sig .tc := ⟨.hbm, 819, rfl⟩
abbrev main_cst_124 : Ref sig .tc := ⟨.hbm, 820, rfl⟩
abbrev main_cst_125 : Ref sig .tc := ⟨.hbm, 821, rfl⟩
abbrev main_v555 : Ref sig .tc := ⟨.hbm, 822, rfl⟩
abbrev main_v556 : Ref sig .tc := ⟨.hbm, 823, rfl⟩
abbrev main_cst_126 : Ref sig .tc := ⟨.hbm, 824, rfl⟩
abbrev main_v557 : Ref sig .tc := ⟨.hbm, 825, rfl⟩
abbrev main_v558 : Ref sig .tc := ⟨.hbm, 826, rfl⟩
abbrev main_cst_127 : Ref sig .tc := ⟨.hbm, 827, rfl⟩
abbrev main_v559 : Ref sig .tc := ⟨.hbm, 828, rfl⟩
abbrev main_v560 : Ref sig .tc := ⟨.hbm, 829, rfl⟩
abbrev main_cst_128 : Ref sig .tc := ⟨.hbm, 830, rfl⟩
abbrev main_v561 : Ref sig .tc := ⟨.hbm, 831, rfl⟩
abbrev main_v562 : Ref sig .tc := ⟨.hbm, 832, rfl⟩
abbrev main_cst_129 : Ref sig .tc := ⟨.hbm, 833, rfl⟩
abbrev main_v563 : Ref sig .tc := ⟨.hbm, 834, rfl⟩
abbrev main_v564 : Ref sig .tc := ⟨.hbm, 835, rfl⟩
abbrev main_v565 : Ref sig .tc := ⟨.hbm, 836, rfl⟩
abbrev main_v566 : Ref sig .tc := ⟨.hbm, 837, rfl⟩
abbrev main_v567 : Ref sig .tc := ⟨.hbm, 838, rfl⟩
abbrev main_v568 : Ref sig .tc := ⟨.hbm, 839, rfl⟩
abbrev main_v569 : Ref sig .tc := ⟨.hbm, 840, rfl⟩
abbrev main_v570 : Ref sig .tc := ⟨.hbm, 841, rfl⟩
abbrev main_v571 : Ref sig .tc := ⟨.hbm, 842, rfl⟩
abbrev main_v572 : Ref sig .tc := ⟨.hbm, 843, rfl⟩
abbrev main_v573 : Ref sig .tc := ⟨.hbm, 844, rfl⟩
abbrev main_v574 : Ref sig .tc := ⟨.hbm, 845, rfl⟩
abbrev main_cst_130 : Ref sig .tc := ⟨.hbm, 846, rfl⟩
abbrev main_v575 : Ref sig .tc := ⟨.hbm, 847, rfl⟩
abbrev main_v576 : Ref sig .tc := ⟨.hbm, 848, rfl⟩
abbrev main_cst_131 : Ref sig .tc := ⟨.hbm, 849, rfl⟩
abbrev main_v577 : Ref sig .tc := ⟨.hbm, 850, rfl⟩
abbrev main_v578 : Ref sig .tc := ⟨.hbm, 851, rfl⟩
abbrev main_v579 : Ref sig .tc := ⟨.hbm, 852, rfl⟩
abbrev main_v580 : Ref sig .tc := ⟨.hbm, 853, rfl⟩
abbrev main_cst_132 : Ref sig .tc := ⟨.hbm, 854, rfl⟩
abbrev main_v581 : Ref sig .tc := ⟨.hbm, 855, rfl⟩
abbrev main_v582 : Ref sig .tc := ⟨.hbm, 856, rfl⟩
abbrev main_cst_133 : Ref sig .tc := ⟨.hbm, 857, rfl⟩
abbrev main_v583 : Ref sig .tc := ⟨.hbm, 858, rfl⟩
abbrev main_v584 : Ref sig .tc := ⟨.hbm, 859, rfl⟩
abbrev main_cst_134 : Ref sig .tc := ⟨.hbm, 860, rfl⟩
abbrev main_v585 : Ref sig .tc := ⟨.hbm, 861, rfl⟩
abbrev main_v586 : Ref sig .tc := ⟨.hbm, 862, rfl⟩
abbrev main_cst_135 : Ref sig .tc := ⟨.hbm, 863, rfl⟩
abbrev main_v587 : Ref sig .tc := ⟨.hbm, 864, rfl⟩
abbrev main_v588 : Ref sig .tc := ⟨.hbm, 865, rfl⟩
abbrev main_v589 : Ref sig .tc := ⟨.hbm, 866, rfl⟩
abbrev main_cst_136 : Ref sig .tc := ⟨.hbm, 867, rfl⟩
abbrev main_v590 : Ref sig .tc := ⟨.hbm, 868, rfl⟩
abbrev main_v591 : Ref sig .tc := ⟨.hbm, 869, rfl⟩
abbrev main_v592 : Ref sig .tc := ⟨.hbm, 870, rfl⟩
abbrev main_cst_137 : Ref sig .tc := ⟨.hbm, 871, rfl⟩
abbrev main_v593 : Ref sig .tc := ⟨.hbm, 872, rfl⟩
abbrev main_v594 : Ref sig .tc := ⟨.hbm, 873, rfl⟩
abbrev main_v595 : Ref sig .tc := ⟨.hbm, 874, rfl⟩
abbrev main_cst_138 : Ref sig .tc := ⟨.hbm, 875, rfl⟩
abbrev main_v596 : Ref sig .tc := ⟨.hbm, 876, rfl⟩
abbrev main_v597 : Ref sig .tc := ⟨.hbm, 877, rfl⟩
abbrev main_cst_139 : Ref sig .tc := ⟨.hbm, 878, rfl⟩
abbrev main_call27_v0 : Ref sig .tc := ⟨.hbm, 879, rfl⟩
abbrev main_call27_v1 : Ref sig .tc := ⟨.hbm, 880, rfl⟩
abbrev main_v598 : Ref sig .tc := ⟨.hbm, 881, rfl⟩
abbrev main_cst_140 : Ref sig .tc := ⟨.hbm, 882, rfl⟩
abbrev main_v599 : Ref sig .tc := ⟨.hbm, 883, rfl⟩
abbrev main_v600 : Ref sig .tc := ⟨.hbm, 884, rfl⟩
abbrev main_v601 : Ref sig .tc := ⟨.hbm, 885, rfl⟩
abbrev main_cst_141 : Ref sig .tc := ⟨.hbm, 886, rfl⟩
abbrev main_v602 : Ref sig .tc := ⟨.hbm, 887, rfl⟩
abbrev main_v603 : Ref sig .tc := ⟨.hbm, 888, rfl⟩
abbrev main_cst_142 : Ref sig .tc := ⟨.hbm, 889, rfl⟩
abbrev main_v604 : Ref sig .tc := ⟨.hbm, 890, rfl⟩
abbrev main_v605 : Ref sig .tc := ⟨.hbm, 891, rfl⟩
abbrev main_c_143 : Ref sig .tc := ⟨.hbm, 892, rfl⟩
abbrev main_call28_v0 : Ref sig .tc := ⟨.hbm, 893, rfl⟩
abbrev main_call28_v1 : Ref sig .tc := ⟨.hbm, 894, rfl⟩
abbrev main_v606 : Ref sig .tc := ⟨.hbm, 895, rfl⟩
abbrev main_v607 : Ref sig .tc := ⟨.hbm, 896, rfl⟩
abbrev main_v608 : Ref sig .tc := ⟨.hbm, 897, rfl⟩
abbrev main_c_144 : Ref sig .tc := ⟨.hbm, 898, rfl⟩
abbrev main_call29_v0 : Ref sig .tc := ⟨.hbm, 899, rfl⟩
abbrev main_call29_v1 : Ref sig .tc := ⟨.hbm, 900, rfl⟩
abbrev main_call29_v2 : Ref sig .tc := ⟨.hbm, 901, rfl⟩
abbrev main_v609 : Ref sig .tc := ⟨.hbm, 902, rfl⟩
abbrev main_cst_145 : Ref sig .tc := ⟨.hbm, 903, rfl⟩
abbrev main_v610 : Ref sig .tc := ⟨.hbm, 904, rfl⟩
abbrev main_v611 : Ref sig .tc := ⟨.hbm, 905, rfl⟩
abbrev main_cst_146 : Ref sig .tc := ⟨.hbm, 906, rfl⟩
abbrev main_v612 : Ref sig .tc := ⟨.hbm, 907, rfl⟩
abbrev main_v613 : Ref sig .tc := ⟨.hbm, 908, rfl⟩
abbrev main_v614 : Ref sig .tc := ⟨.hbm, 909, rfl⟩
abbrev main_v615 : Ref sig .tc := ⟨.hbm, 910, rfl⟩
abbrev main_c_147 : Ref sig .tc := ⟨.hbm, 911, rfl⟩
abbrev main_call30_v0 : Ref sig .tc := ⟨.hbm, 912, rfl⟩
abbrev main_call30_v1 : Ref sig .tc := ⟨.hbm, 913, rfl⟩
abbrev main_call30_v2 : Ref sig .tc := ⟨.hbm, 914, rfl⟩
abbrev main_v616 : Ref sig .tc := ⟨.hbm, 915, rfl⟩
abbrev main_v617 : Ref sig .tc := ⟨.hbm, 916, rfl⟩
abbrev main_v618 : Ref sig .tc := ⟨.hbm, 917, rfl⟩
abbrev main_v619 : Ref sig .tc := ⟨.hbm, 918, rfl⟩
abbrev main_v620 : Ref sig .tc := ⟨.hbm, 919, rfl⟩
abbrev main_v621 : Ref sig .tc := ⟨.hbm, 920, rfl⟩
abbrev main_v622 : Ref sig .tc := ⟨.hbm, 921, rfl⟩
abbrev main_v623 : Ref sig .tc := ⟨.hbm, 922, rfl⟩
abbrev main_cst_148 : Ref sig .tc := ⟨.hbm, 923, rfl⟩
abbrev main_v624 : Ref sig .tc := ⟨.hbm, 924, rfl⟩
abbrev main_v625 : Ref sig .tc := ⟨.hbm, 925, rfl⟩
abbrev main_c_149 : Ref sig .tc := ⟨.hbm, 926, rfl⟩
abbrev main_call31_v0 : Ref sig .tc := ⟨.hbm, 927, rfl⟩
abbrev main_v626 : Ref sig .tc := ⟨.hbm, 928, rfl⟩
abbrev main_v627 : Ref sig .tc := ⟨.hbm, 929, rfl⟩
abbrev main_v628 : Ref sig .tc := ⟨.hbm, 930, rfl⟩
abbrev main_v629 : Ref sig .tc := ⟨.hbm, 931, rfl⟩
abbrev main_v630 : Ref sig .tc := ⟨.hbm, 932, rfl⟩
abbrev main_v631 : Ref sig .tc := ⟨.hbm, 933, rfl⟩
abbrev main_cst_150 : Ref sig .tc := ⟨.hbm, 934, rfl⟩
abbrev main_v632 : Ref sig .tc := ⟨.hbm, 935, rfl⟩
abbrev main_v633 : Ref sig .tc := ⟨.hbm, 936, rfl⟩
abbrev main_v634 : Ref sig .tc := ⟨.hbm, 937, rfl⟩
abbrev main_v635 : Ref sig .tc := ⟨.hbm, 938, rfl⟩
abbrev main_v636 : Ref sig .tc := ⟨.hbm, 939, rfl⟩
abbrev main_v637 : Ref sig .tc := ⟨.hbm, 940, rfl⟩
abbrev main_v638 : Ref sig .tc := ⟨.hbm, 941, rfl⟩
abbrev main_v639 : Ref sig .tc := ⟨.hbm, 942, rfl⟩
abbrev main_v640 : Ref sig .tc := ⟨.hbm, 943, rfl⟩
abbrev main_v641 : Ref sig .tc := ⟨.hbm, 944, rfl⟩
abbrev main_v642 : Ref sig .tc := ⟨.hbm, 945, rfl⟩
abbrev main_v643 : Ref sig .tc := ⟨.hbm, 946, rfl⟩
abbrev main_v644 : Ref sig .tc := ⟨.hbm, 947, rfl⟩
abbrev main_v645 : Ref sig .tc := ⟨.hbm, 948, rfl⟩
abbrev main_v646 : Ref sig .tc := ⟨.hbm, 949, rfl⟩
abbrev main_v647 : Ref sig .tc := ⟨.hbm, 950, rfl⟩
abbrev main_v648 : Ref sig .tc := ⟨.hbm, 951, rfl⟩
abbrev main_v649 : Ref sig .tc := ⟨.hbm, 952, rfl⟩
abbrev main_v650 : Ref sig .tc := ⟨.hbm, 953, rfl⟩
abbrev main_v651 : Ref sig .tc := ⟨.hbm, 954, rfl⟩
abbrev main_v652 : Ref sig .tc := ⟨.hbm, 955, rfl⟩
abbrev main_v653 : Ref sig .tc := ⟨.hbm, 956, rfl⟩
abbrev main_v654 : Ref sig .tc := ⟨.hbm, 957, rfl⟩
abbrev main_v655 : Ref sig .tc := ⟨.hbm, 958, rfl⟩
abbrev main_v656 : Ref sig .tc := ⟨.hbm, 959, rfl⟩
abbrev main_v657 : Ref sig .tc := ⟨.hbm, 960, rfl⟩
abbrev main_v658 : Ref sig .tc := ⟨.hbm, 961, rfl⟩
abbrev main_v659 : Ref sig .tc := ⟨.hbm, 962, rfl⟩
abbrev main_v660 : Ref sig .tc := ⟨.hbm, 963, rfl⟩
abbrev main_v661 : Ref sig .tc := ⟨.hbm, 964, rfl⟩
abbrev main_v662 : Ref sig .tc := ⟨.hbm, 965, rfl⟩
abbrev main_v663 : Ref sig .tc := ⟨.hbm, 966, rfl⟩
abbrev main_v664 : Ref sig .tc := ⟨.hbm, 967, rfl⟩
abbrev main_v665 : Ref sig .tc := ⟨.hbm, 968, rfl⟩
abbrev main_v666 : Ref sig .tc := ⟨.hbm, 969, rfl⟩
abbrev main_v667 : Ref sig .tc := ⟨.hbm, 970, rfl⟩
abbrev main_v668 : Ref sig .tc := ⟨.hbm, 971, rfl⟩
abbrev main_v669 : Ref sig .tc := ⟨.hbm, 972, rfl⟩
abbrev main_v670 : Ref sig .tc := ⟨.hbm, 973, rfl⟩
abbrev main_v671 : Ref sig .tc := ⟨.hbm, 974, rfl⟩
abbrev main_v672 : Ref sig .tc := ⟨.hbm, 975, rfl⟩
abbrev main_v673 : Ref sig .tc := ⟨.hbm, 976, rfl⟩
abbrev main_v674 : Ref sig .tc := ⟨.hbm, 977, rfl⟩
abbrev main_v675 : Ref sig .tc := ⟨.hbm, 978, rfl⟩
abbrev main_v676 : Ref sig .tc := ⟨.hbm, 979, rfl⟩
abbrev main_v677 : Ref sig .tc := ⟨.hbm, 980, rfl⟩
abbrev main_v678 : Ref sig .tc := ⟨.hbm, 981, rfl⟩
abbrev main_v679 : Ref sig .tc := ⟨.hbm, 982, rfl⟩
abbrev main_v680 : Ref sig .tc := ⟨.hbm, 983, rfl⟩
abbrev main_v681 : Ref sig .tc := ⟨.hbm, 984, rfl⟩
abbrev main_v682 : Ref sig .tc := ⟨.hbm, 985, rfl⟩
abbrev main_v683 : Ref sig .tc := ⟨.hbm, 986, rfl⟩
abbrev main_v684 : Ref sig .tc := ⟨.hbm, 987, rfl⟩
abbrev main_cst_151 : Ref sig .tc := ⟨.hbm, 988, rfl⟩
abbrev main_v685 : Ref sig .tc := ⟨.hbm, 989, rfl⟩
abbrev main_v686 : Ref sig .tc := ⟨.hbm, 990, rfl⟩
abbrev main_v687 : Ref sig .tc := ⟨.hbm, 991, rfl⟩
abbrev main_v688 : Ref sig .tc := ⟨.hbm, 992, rfl⟩
abbrev main_v689 : Ref sig .tc := ⟨.hbm, 993, rfl⟩
abbrev main_v690 : Ref sig .tc := ⟨.hbm, 994, rfl⟩
abbrev main_v691 : Ref sig .tc := ⟨.hbm, 995, rfl⟩
abbrev main_v692 : Ref sig .tc := ⟨.hbm, 996, rfl⟩
abbrev main_v693 : Ref sig .tc := ⟨.hbm, 997, rfl⟩
abbrev main_cst_152 : Ref sig .tc := ⟨.hbm, 998, rfl⟩
abbrev main_v694 : Ref sig .tc := ⟨.hbm, 999, rfl⟩
abbrev main_v695 : Ref sig .tc := ⟨.hbm, 1000, rfl⟩
abbrev main_v696 : Ref sig .tc := ⟨.hbm, 1001, rfl⟩
abbrev main_v697 : Ref sig .tc := ⟨.hbm, 1002, rfl⟩
abbrev main_cst_153 : Ref sig .tc := ⟨.hbm, 1003, rfl⟩
abbrev main_v698 : Ref sig .tc := ⟨.hbm, 1004, rfl⟩
abbrev main_v699 : Ref sig .tc := ⟨.hbm, 1005, rfl⟩
abbrev main_v700 : Ref sig .tc := ⟨.hbm, 1006, rfl⟩
abbrev main_v701 : Ref sig .tc := ⟨.hbm, 1007, rfl⟩
abbrev main_v702 : Ref sig .tc := ⟨.hbm, 1008, rfl⟩
abbrev main_cst_154 : Ref sig .tc := ⟨.hbm, 1009, rfl⟩
abbrev main_v703 : Ref sig .tc := ⟨.hbm, 1010, rfl⟩
abbrev main_v704 : Ref sig .tc := ⟨.hbm, 1011, rfl⟩
abbrev main_v705 : Ref sig .tc := ⟨.hbm, 1012, rfl⟩
abbrev main_v706 : Ref sig .tc := ⟨.hbm, 1013, rfl⟩
abbrev main_call32_v0 : Ref sig .tc := ⟨.hbm, 1014, rfl⟩
abbrev main_call32_cst : Ref sig .tc := ⟨.hbm, 1015, rfl⟩
abbrev main_call32_c : Ref sig .tc := ⟨.hbm, 1016, rfl⟩
abbrev main_call32_v1_0 : Ref sig .tc := ⟨.hbm, 1017, rfl⟩
abbrev main_v707 : Ref sig .tc := ⟨.hbm, 1018, rfl⟩
abbrev main_call33_c : Ref sig .tc := ⟨.hbm, 1019, rfl⟩
abbrev main_call33_v0 : Ref sig .tc := ⟨.hbm, 1020, rfl⟩
abbrev main_call33_v1 : Ref sig .tc := ⟨.hbm, 1021, rfl⟩
abbrev main_call33_c_0 : Ref sig .tc := ⟨.hbm, 1022, rfl⟩
abbrev main_call33_v2 : Ref sig .tc := ⟨.hbm, 1023, rfl⟩
abbrev main_call33_v3 : Ref sig .tc := ⟨.hbm, 1024, rfl⟩
abbrev main_call33_v4 : Ref sig .tc := ⟨.hbm, 1025, rfl⟩
abbrev main_call33_v5 : Ref sig .tc := ⟨.hbm, 1026, rfl⟩
abbrev main_call33_c_1 : Ref sig .tc := ⟨.hbm, 1027, rfl⟩
abbrev main_call33_c_2 : Ref sig .tc := ⟨.hbm, 1028, rfl⟩
abbrev main_call33_v6 : Ref sig .tc := ⟨.hbm, 1029, rfl⟩
abbrev main_call33_v7 : Ref sig .tc := ⟨.hbm, 1030, rfl⟩
abbrev main_call33_v8 : Ref sig .tc := ⟨.hbm, 1031, rfl⟩
abbrev main_call33_v9 : Ref sig .tc := ⟨.hbm, 1032, rfl⟩
abbrev main_call33_v10 : Ref sig .tc := ⟨.hbm, 1033, rfl⟩
abbrev main_call33_v11 : Ref sig .tc := ⟨.hbm, 1034, rfl⟩
abbrev main_call33_c_3 : Ref sig .tc := ⟨.hbm, 1035, rfl⟩
abbrev main_call33_v12 : Ref sig .tc := ⟨.hbm, 1036, rfl⟩
abbrev main_call33_v13 : Ref sig .tc := ⟨.hbm, 1037, rfl⟩
abbrev main_call33_v14 : Ref sig .tc := ⟨.hbm, 1038, rfl⟩
abbrev main_call33_cst : Ref sig .tc := ⟨.hbm, 1039, rfl⟩
abbrev main_call33_v15 : Ref sig .tc := ⟨.hbm, 1040, rfl⟩
abbrev main_v708 : Ref sig .tc := ⟨.hbm, 1041, rfl⟩
abbrev main_v709 : Ref sig .tc := ⟨.hbm, 1042, rfl⟩
abbrev main_v710 : Ref sig .tc := ⟨.hbm, 1043, rfl⟩
abbrev main_v711 : Ref sig .tc := ⟨.hbm, 1044, rfl⟩
abbrev main_v712 : Ref sig .tc := ⟨.hbm, 1045, rfl⟩
abbrev main_cst_155 : Ref sig .tc := ⟨.hbm, 1046, rfl⟩
abbrev main_v713 : Ref sig .tc := ⟨.hbm, 1047, rfl⟩
abbrev main_cst_156 : Ref sig .tc := ⟨.hbm, 1048, rfl⟩
abbrev main_v714 : Ref sig .tc := ⟨.hbm, 1049, rfl⟩
abbrev main_cst_157 : Ref sig .tc := ⟨.hbm, 1050, rfl⟩
abbrev main_v715 : Ref sig .tc := ⟨.hbm, 1051, rfl⟩
abbrev main_v716 : Ref sig .tc := ⟨.hbm, 1052, rfl⟩
abbrev main_v717 : Ref sig .tc := ⟨.hbm, 1053, rfl⟩
abbrev main_cst_158 : Ref sig .tc := ⟨.hbm, 1054, rfl⟩
abbrev main_v718 : Ref sig .tc := ⟨.hbm, 1055, rfl⟩
abbrev main_cst_159 : Ref sig .tc := ⟨.hbm, 1056, rfl⟩
abbrev main_v719 : Ref sig .tc := ⟨.hbm, 1057, rfl⟩
abbrev main_v720 : Ref sig .tc := ⟨.hbm, 1058, rfl⟩
abbrev main_v721 : Ref sig .tc := ⟨.hbm, 1059, rfl⟩
abbrev main_v722 : Ref sig .tc := ⟨.hbm, 1060, rfl⟩
abbrev main_v723 : Ref sig .tc := ⟨.hbm, 1061, rfl⟩
abbrev main_v724 : Ref sig .tc := ⟨.hbm, 1062, rfl⟩
abbrev main_v725 : Ref sig .tc := ⟨.hbm, 1063, rfl⟩
abbrev main_v726 : Ref sig .tc := ⟨.hbm, 1064, rfl⟩
abbrev main_v727 : Ref sig .tc := ⟨.hbm, 1065, rfl⟩
abbrev main_cst_160 : Ref sig .tc := ⟨.hbm, 1066, rfl⟩
abbrev main_v728 : Ref sig .tc := ⟨.hbm, 1067, rfl⟩
abbrev main_v729 : Ref sig .tc := ⟨.hbm, 1068, rfl⟩
abbrev main_c_161 : Ref sig .tc := ⟨.hbm, 1069, rfl⟩
abbrev main_call34_v0 : Ref sig .tc := ⟨.hbm, 1070, rfl⟩
abbrev main_v730 : Ref sig .tc := ⟨.hbm, 1071, rfl⟩
abbrev main_v731 : Ref sig .tc := ⟨.hbm, 1072, rfl⟩
abbrev main_v732 : Ref sig .tc := ⟨.hbm, 1073, rfl⟩
abbrev main_v733 : Ref sig .tc := ⟨.hbm, 1074, rfl⟩
abbrev main_v734 : Ref sig .tc := ⟨.hbm, 1075, rfl⟩
abbrev main_v735 : Ref sig .tc := ⟨.hbm, 1076, rfl⟩
abbrev main_cst_162 : Ref sig .tc := ⟨.hbm, 1077, rfl⟩
abbrev main_v736 : Ref sig .tc := ⟨.hbm, 1078, rfl⟩
abbrev main_v737 : Ref sig .tc := ⟨.hbm, 1079, rfl⟩
abbrev main_v738 : Ref sig .tc := ⟨.hbm, 1080, rfl⟩
abbrev main_v739 : Ref sig .tc := ⟨.hbm, 1081, rfl⟩
abbrev main_v740 : Ref sig .tc := ⟨.hbm, 1082, rfl⟩
abbrev main_v741 : Ref sig .tc := ⟨.hbm, 1083, rfl⟩
abbrev main_v742 : Ref sig .tc := ⟨.hbm, 1084, rfl⟩
abbrev main_v743 : Ref sig .tc := ⟨.hbm, 1085, rfl⟩
abbrev main_v744 : Ref sig .tc := ⟨.hbm, 1086, rfl⟩
abbrev main_v745 : Ref sig .tc := ⟨.hbm, 1087, rfl⟩
abbrev main_v746 : Ref sig .tc := ⟨.hbm, 1088, rfl⟩
abbrev main_v747 : Ref sig .tc := ⟨.hbm, 1089, rfl⟩
abbrev main_v748 : Ref sig .tc := ⟨.hbm, 1090, rfl⟩
abbrev main_v749 : Ref sig .tc := ⟨.hbm, 1091, rfl⟩
abbrev main_v750 : Ref sig .tc := ⟨.hbm, 1092, rfl⟩
abbrev main_v751 : Ref sig .tc := ⟨.hbm, 1093, rfl⟩
abbrev main_v752 : Ref sig .tc := ⟨.hbm, 1094, rfl⟩
abbrev main_v753 : Ref sig .tc := ⟨.hbm, 1095, rfl⟩
abbrev main_v754 : Ref sig .tc := ⟨.hbm, 1096, rfl⟩
abbrev main_v755 : Ref sig .tc := ⟨.hbm, 1097, rfl⟩
abbrev main_v756 : Ref sig .tc := ⟨.hbm, 1098, rfl⟩
abbrev main_v757 : Ref sig .tc := ⟨.hbm, 1099, rfl⟩
abbrev main_v758 : Ref sig .tc := ⟨.hbm, 1100, rfl⟩
abbrev main_v759 : Ref sig .tc := ⟨.hbm, 1101, rfl⟩
abbrev main_v760 : Ref sig .tc := ⟨.hbm, 1102, rfl⟩
abbrev main_v761 : Ref sig .tc := ⟨.hbm, 1103, rfl⟩
abbrev main_v762 : Ref sig .tc := ⟨.hbm, 1104, rfl⟩
abbrev main_v763 : Ref sig .tc := ⟨.hbm, 1105, rfl⟩
abbrev main_v764 : Ref sig .tc := ⟨.hbm, 1106, rfl⟩
abbrev main_v765 : Ref sig .tc := ⟨.hbm, 1107, rfl⟩
abbrev main_v766 : Ref sig .tc := ⟨.hbm, 1108, rfl⟩
abbrev main_v767 : Ref sig .tc := ⟨.hbm, 1109, rfl⟩
abbrev main_v768 : Ref sig .tc := ⟨.hbm, 1110, rfl⟩
abbrev main_v769 : Ref sig .tc := ⟨.hbm, 1111, rfl⟩
abbrev main_v770 : Ref sig .tc := ⟨.hbm, 1112, rfl⟩
abbrev main_v771 : Ref sig .tc := ⟨.hbm, 1113, rfl⟩
abbrev main_v772 : Ref sig .tc := ⟨.hbm, 1114, rfl⟩
abbrev main_v773 : Ref sig .tc := ⟨.hbm, 1115, rfl⟩
abbrev main_v774 : Ref sig .tc := ⟨.hbm, 1116, rfl⟩
abbrev main_v775 : Ref sig .tc := ⟨.hbm, 1117, rfl⟩
abbrev main_v776 : Ref sig .tc := ⟨.hbm, 1118, rfl⟩
abbrev main_v777 : Ref sig .tc := ⟨.hbm, 1119, rfl⟩
abbrev main_v778 : Ref sig .tc := ⟨.hbm, 1120, rfl⟩
abbrev main_v779 : Ref sig .tc := ⟨.hbm, 1121, rfl⟩
abbrev main_v780 : Ref sig .tc := ⟨.hbm, 1122, rfl⟩
abbrev main_v781 : Ref sig .tc := ⟨.hbm, 1123, rfl⟩
abbrev main_v782 : Ref sig .tc := ⟨.hbm, 1124, rfl⟩
abbrev main_v783 : Ref sig .tc := ⟨.hbm, 1125, rfl⟩
abbrev main_v784 : Ref sig .tc := ⟨.hbm, 1126, rfl⟩
abbrev main_v785 : Ref sig .tc := ⟨.hbm, 1127, rfl⟩
abbrev main_v786 : Ref sig .tc := ⟨.hbm, 1128, rfl⟩
abbrev main_v787 : Ref sig .tc := ⟨.hbm, 1129, rfl⟩
abbrev main_v788 : Ref sig .tc := ⟨.hbm, 1130, rfl⟩
abbrev main_cst_163 : Ref sig .tc := ⟨.hbm, 1131, rfl⟩
abbrev main_v789 : Ref sig .tc := ⟨.hbm, 1132, rfl⟩
abbrev main_v790 : Ref sig .tc := ⟨.hbm, 1133, rfl⟩
abbrev main_v791 : Ref sig .tc := ⟨.hbm, 1134, rfl⟩
abbrev main_v792 : Ref sig .tc := ⟨.hbm, 1135, rfl⟩
abbrev main_v793 : Ref sig .tc := ⟨.hbm, 1136, rfl⟩
abbrev main_v794 : Ref sig .tc := ⟨.hbm, 1137, rfl⟩
abbrev main_cst_164 : Ref sig .tc := ⟨.hbm, 1138, rfl⟩
abbrev main_v795 : Ref sig .tc := ⟨.hbm, 1139, rfl⟩

abbrev nD : Nat := 1
abbrev τ : Topo := Topo.v7x

variable {F : FTy → Type} [FloatOps F]
-- ==== Proof.RefOps.lean ====
/-
  The reference's operations, read off its printed text: `Pieces p ls` says that the program `p` runs the lines
  `ls`, one after the other, and `main_pieces` is the whole program. A call of a local function is a line of its own,
  so that the lines are cut where the kernel's host part is cut.
-/
module

public import proofs.«01_k».proof.Proof.Gen.ReferenceIdeal
public import Idealize.ShloMosaic.Lib.StableHlo.RunHlo
public import Idealize.ShloMosaic.Lib.StableHlo.RunRead
public import Idealize.ShloMosaic.Lib.Quiescent
public import Idealize.ShloMosaic.PureOps.Ideal

@[expose] public section

set_option maxRecDepth 16384

noncomputable section

namespace Cert.RefOps

open Idealize.ShloMosaic Idealize.SL.Sem Idealize.ShloMosaic.StableHlo

section
variable {nD : Nat} {τ : Topo} {sig : RefSig} {Val : EltTy → Type} {Λ : Labels}

/-- An operation over the TensorCore's buffers that determines what it writes. -/
def Plain (op : HloOp τ sig Val) : Prop := op.bufs ⊆ tcRefs τ sig ∧ op.fresh = ∅

/-- The program `p` runs the operations `l`, each of them plain. -/
def Line (p : Prog (TpuEff nD τ sig Val Λ .tc) PUnit) (l : List (HloOp τ sig Val)) : Prop :=
  p = seq l ∧ ∀ op ∈ l, Plain op

/-- The program `p` runs the lines `ls` in order. -/
def Pieces (p : Prog (TpuEff nD τ sig Val Λ .tc) PUnit) (ls : List (List (HloOp τ sig Val))) : Prop :=
  Line p ls.flatten

theorem Line.nil : Line (nD := nD) (Λ := Λ) (pure ⟨⟩ : Prog (TpuEff nD τ sig Val Λ .tc) PUnit)
    ([] : List (HloOp τ sig Val)) := ⟨rfl, fun _ h => nomatch h⟩

theorem Line.cons {op : HloOp τ sig Val} {k : Prog (TpuEff nD τ sig Val Λ .tc) PUnit}
    {l : List (HloOp τ sig Val)} (ho : Plain op) (h : Line k l) :
    Line ((hlo rfl op fun _ => .ret (⟨⟩ : PUnit)) >>= fun _ => k) (op :: l) := by
  refine ⟨by rw [h.1]; rfl, fun o hm => ?_⟩
  rcases List.mem_cons.mp hm with e | hm
  · exact e ▸ ho
  · exact h.2 o hm

theorem Line.call {p k : Prog (TpuEff nD τ sig Val Λ .tc) PUnit} {l ls : List (HloOp τ sig Val)}
    (hp : Line p l) (h : Line k ls) : Line (p >>= fun _ => k) (l ++ ls) := by
  refine ⟨by rw [hp.1, h.1, seq_append], fun o hm => ?_⟩
  rcases List.mem_append.mp hm with hm | hm
  · exact hp.2 o hm
  · exact h.2 o hm

theorem Pieces.nil : Pieces (nD := nD) (Λ := Λ) (pure ⟨⟩ : Prog (TpuEff nD τ sig Val Λ .tc) PUnit)
    ([[]] : List (List (HloOp τ sig Val))) := Line.nil

theorem Pieces.cons {op : HloOp τ sig Val} {k : Prog (TpuEff nD τ sig Val Λ .tc) PUnit}
    {l : List (HloOp τ sig Val)} {ls : List (List (HloOp τ sig Val))} (ho : Plain op) (h : Pieces k (l :: ls)) :
    Pieces ((hlo rfl op fun _ => .ret (⟨⟩ : PUnit)) >>= fun _ => k) ((op :: l) :: ls) := Line.cons ho h

theorem Pieces.last {op : HloOp τ sig Val} (ho : Plain op) :
    Pieces (nD := nD) (Λ := Λ) (hlo rfl op fun _ => .ret (⟨⟩ : PUnit)) ([[op]] : List (List (HloOp τ sig Val))) := by
  have h := Pieces.cons (nD := nD) (Λ := Λ) ho Pieces.nil
  rwa [show (fun _ : PUnit => (pure ⟨⟩ : Prog (TpuEff nD τ sig Val Λ .tc) PUnit)) = pure from rfl, bind_pure] at h

theorem Pieces.call {p k : Prog (TpuEff nD τ sig Val Λ .tc) PUnit}
    {l : List (HloOp τ sig Val)} {ls : List (List (HloOp τ sig Val))} (hp : Line p l) (h : Pieces k ls) :
    Pieces (p >>= fun _ => k) ([] :: l :: ls) := by
  unfold Pieces at *; simpa using Line.call hp h

theorem Pieces.callLast {p : Prog (TpuEff nD τ sig Val Λ .tc) PUnit} {l : List (HloOp τ sig Val)} (hp : Line p l) :
    Pieces p [[], l] := by
  unfold Pieces; simpa using hp

theorem Pieces.append {p k : Prog (TpuEff nD τ sig Val Λ .tc) PUnit} {ls ms : List (List (HloOp τ sig Val))}
    (hp : Pieces p ls) (h : Pieces k ms) : Pieces (p >>= fun _ => k) (ls ++ ms) := by
  unfold Pieces at *
  rw [List.flatten_append]; exact Line.call hp h

end

open Cert.ReferenceIdeal

/-- Part 0 of the program, as lines. -/
def q0 : {ls : List (List (HloOp τ sig (Elt Ideal))) // ∀ d, Pieces (main_part0 (F := Ideal) d) ls} := by
  apply Subtype.mk
  intro d
  unfold main_part0
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 1 of the program, as lines. -/
def q1 : {ls : List (List (HloOp τ sig (Elt Ideal))) // ∀ d, Pieces (main_part1 (F := Ideal) d) ls} := by
  apply Subtype.mk
  intro d
  unfold main_part1
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 2 of the program, as lines. -/
def q2 : {ls : List (List (HloOp τ sig (Elt Ideal))) // ∀ d, Pieces (main_part2 (F := Ideal) d) ls} := by
  apply Subtype.mk
  intro d
  unfold main_part2
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 3 of the program, as lines. -/
def q3 : {ls : List (List (HloOp τ sig (Elt Ideal))) // ∀ d, Pieces (main_part3 (F := Ideal) d) ls} := by
  apply Subtype.mk
  intro d
  unfold main_part3
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 4 of the program, as lines. -/
def q4 : {ls : List (List (HloOp τ sig (Elt Ideal))) // ∀ d, Pieces (main_part4 (F := Ideal) d) ls} := by
  apply Subtype.mk
  intro d
  unfold main_part4
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 5 of the program, as lines. -/
def q5 : {ls : List (List (HloOp τ sig (Elt Ideal))) // ∀ d, Pieces (main_part5 (F := Ideal) d) ls} := by
  apply Subtype.mk
  intro d
  unfold main_part5
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 6 of the program, as lines. -/
def q6 : {ls : List (List (HloOp τ sig (Elt Ideal))) // ∀ d, Pieces (main_part6 (F := Ideal) d) ls} := by
  apply Subtype.mk
  intro d
  unfold main_part6
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 7 of the program, as lines. -/
def q7 : {ls : List (List (HloOp τ sig (Elt Ideal))) // ∀ d, Pieces (main_part7 (F := Ideal) d) ls} := by
  apply Subtype.mk
  intro d
  unfold main_part7
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 8 of the program, as lines. -/
def q8 : {ls : List (List (HloOp τ sig (Elt Ideal))) // ∀ d, Pieces (main_part8 (F := Ideal) d) ls} := by
  apply Subtype.mk
  intro d
  unfold main_part8
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 9 of the program, as lines. -/
def q9 : {ls : List (List (HloOp τ sig (Elt Ideal))) // ∀ d, Pieces (main_part9 (F := Ideal) d) ls} := by
  apply Subtype.mk
  intro d
  unfold main_part9
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 10 of the program, as lines. -/
def q10 : {ls : List (List (HloOp τ sig (Elt Ideal))) // ∀ d, Pieces (main_part10 (F := Ideal) d) ls} := by
  apply Subtype.mk
  intro d
  unfold main_part10
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 11 of the program, as lines. -/
def q11 : {ls : List (List (HloOp τ sig (Elt Ideal))) // ∀ d, Pieces (main_part11 (F := Ideal) d) ls} := by
  apply Subtype.mk
  intro d
  unfold main_part11
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 12 of the program, as lines. -/
def q12 : {ls : List (List (HloOp τ sig (Elt Ideal))) // ∀ d, Pieces (main_part12 (F := Ideal) d) ls} := by
  apply Subtype.mk
  intro d
  unfold main_part12
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 13 of the program, as lines. -/
def q13 : {ls : List (List (HloOp τ sig (Elt Ideal))) // ∀ d, Pieces (main_part13 (F := Ideal) d) ls} := by
  apply Subtype.mk
  intro d
  unfold main_part13
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 14 of the program, as lines. -/
def q14 : {ls : List (List (HloOp τ sig (Elt Ideal))) // ∀ d, Pieces (main_part14 (F := Ideal) d) ls} := by
  apply Subtype.mk
  intro d
  unfold main_part14
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 15 of the program, as lines. -/
def q15 : {ls : List (List (HloOp τ sig (Elt Ideal))) // ∀ d, Pieces (main_part15 (F := Ideal) d) ls} := by
  apply Subtype.mk
  intro d
  unfold main_part15
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- Part 16 of the program, as lines. -/
def q16 : {ls : List (List (HloOp τ sig (Elt Ideal))) // ∀ d, Pieces (main_part16 (F := Ideal) d) ls} := by
  apply Subtype.mk
  intro d
  unfold main_part16
  repeat (first
    | exact Pieces.nil | exact Pieces.last ⟨by simp, rfl⟩
    | (apply Pieces.cons; exact ⟨by simp, rfl⟩)
    | (apply Pieces.call; (repeat (first | exact Line.nil | (apply Line.cons; exact ⟨by simp, rfl⟩) | apply Line.call)))
    | (apply Pieces.callLast; (repeat (first | exact Line.nil | (apply Line.cons; exact ⟨by simp, rfl⟩) | apply Line.call))))

/-- The program's lines. -/
def lines : List (List (HloOp τ sig (Elt Ideal))) :=
  q0.1 ++ (q1.1 ++ (q2.1 ++ (q3.1 ++ (q4.1 ++ (q5.1 ++ (q6.1 ++ (q7.1 ++ (q8.1 ++ (q9.1 ++ (q10.1 ++ (q11.1 ++ (q12.1 ++ (q13.1 ++ (q14.1 ++ (q15.1 ++ (q16.1))))))))))))))))

theorem main_pieces (d : Dev nD) : Pieces (main (F := Ideal) d) lines :=
  .append (q0.2 d) (.append (q1.2 d) (.append (q2.2 d) (.append (q3.2 d) (.append (q4.2 d) (.append (q5.2 d) (.append (q6.2 d) (.append (q7.2 d) (.append (q8.2 d) (.append (q9.2 d) (.append (q10.2 d) (.append (q11.2 d) (.append (q12.2 d) (.append (q13.2 d) (.append (q14.2 d) (.append (q15.2 d) (q16.2 d))))))))))))))))

/-- The buffers after the first `n` lines, from the contents `V`. -/
def R (V : Valuation τ sig (Elt Ideal)) (n : Nat) : Valuation τ sig (Elt Ideal) := after (lines.take n).flatten V

/-- The lines from number `m` up to number `n`. -/
def span (m n : Nat) : List (HloOp τ sig (Elt Ideal)) := ((lines.drop m).take (n - m)).flatten

theorem R_zero (V : Valuation τ sig (Elt Ideal)) : R V 0 = V := (rfl)

theorem R_span (V : Valuation τ sig (Elt Ideal)) {m n : Nat} (h : m ≤ n) : R V n = after (span m n) (R V m) := by
  have after_app : ∀ (l k : List (HloOp τ sig (Elt Ideal))) (V : Valuation τ sig (Elt Ideal)),
      after (l ++ k) V = after k (after l V) := by
    intro l k
    induction l with
    | nil => intro V; rfl
    | cons o l ih => intro V; exact ih _
  unfold R span
  rw [← after_app, ← List.flatten_append]
  congr 2
  obtain ⟨k, rfl⟩ := Nat.exists_eq_add_of_le h
  rw [Nat.add_sub_cancel_left, List.take_add]

/-- Every run of the program ends with every buffer at what its lines leave there, and every counter at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc),
        r.2.mem ((d.tc : Thread nD τ).loc b) = R (launchContents m d) lines.length (Proc.devRef .tc b))
      ∧ r.2.sem = fun _ => 0 := by
  refine θ_run_mono (run_seq (by decide) (by decide) _ _ (fun _ => lines.flatten) (fun d => (main_pieces d).1)
    (fun d => List.forall_iff_forall_mem.mpr fun o ho => ((main_pieces d).2 o ho).1) m ρ
    (fun d o ho => ((main_pieces d).2 o ho).2)) fun r h => ⟨fun d b => ?_, sem_eq_zero_of_no_sems (by decide) _⟩
  rw [h d b]; unfold R; rw [List.take_length]

end Cert.RefOps
end
-- ==== Proof.RefRun.lean ====
/-
  What the reference's lines leave alone, and its frame.
-/
module

public import proofs.«01_k».proof.Proof.RefOps

@[expose] public section

set_option maxRecDepth 16384

noncomputable section

namespace Cert.RefOps

open Idealize.ShloMosaic Idealize.SL.Sem Idealize.ShloMosaic.StableHlo Cert.ReferenceIdeal

/-- A buffer no line from `m` up to `n` writes is the same after both. -/
theorem keep (V : Valuation τ sig (Elt Ideal)) {m n : Nat} (h : m ≤ n) (b : DevRef τ sig)
    (hw : ∀ op ∈ span m n, b ∉ op.writes) : R V n b = R V m b := by
  rw [R_span V h]
  exact after_of_forall_not_mem _ _ hw

/-- No line writes an argument. -/
theorem args_kept (V : Valuation τ sig (Elt Ideal)) :
    ∀ r ∈ [main_arg0, main_arg1, main_arg2, main_arg3],
      R V lines.length (Proc.devRef .tc r) = V (Proc.devRef .tc r) := by
  have h : ∀ r ∈ [main_arg0, main_arg1, main_arg2, main_arg3],
      ∀ op ∈ span 0 lines.length, (Proc.devRef .tc r : DevRef τ sig) ∉ op.writes := by decide +kernel
  exact fun r hr => keep V (Nat.zero_le _) _ (h r hr)

/-- The reference's frame: it runs, its arguments and counters end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  refine θ_run_mono (run m ρ) fun r h => ⟨fun c => ?_, h.2⟩
  have k := fun r hr => args_kept (launchContents m c) r hr
  exact ⟨(h.1 c _).trans (k _ (by simp)), (h.1 c _).trans (k _ (by simp)), (h.1 c _).trans (k _ (by simp)),
    (h.1 c _).trans (k _ (by simp))⟩

end Cert.RefOps

end
-- ==== Proof.Cut.lean ====
/-
  The reference's operations as one list, cut by number: `S V n` is what the first `n` operations leave of the
  contents `V`, and `seg m n` are the operations from number `m` up to number `n`.
-/
module

public import proofs.«01_k».proof.Proof.RefRun
public import proofs.«01_k».proof.Proof.Gen.KernelIdeal.Frame
public import Idealize.ShloMosaic.Lib.Claim

@[expose] public section

set_option maxRecDepth 16384

noncomputable section

namespace Cert.Stages

open Idealize.ShloMosaic Idealize.SL.Sem Idealize.ShloMosaic.StableHlo

/-- What the kernel program's buffers hold. -/
abbrev KV := Valuation Cert.KernelIdeal.τ Cert.KernelIdeal.sig (Elt Ideal)
/-- What the reference's buffers hold. -/
abbrev RV := Valuation Cert.ReferenceIdeal.τ Cert.ReferenceIdeal.sig (Elt Ideal)

/-- The reference's operations. -/
def ops : List (HloOp Cert.ReferenceIdeal.τ Cert.ReferenceIdeal.sig (Elt Ideal)) := Cert.RefOps.lines.flatten

/-- The operations from number `m` up to number `n`. -/
def seg (m n : Nat) : List (HloOp Cert.ReferenceIdeal.τ Cert.ReferenceIdeal.sig (Elt Ideal)) := (ops.drop m).take (n - m)

/-- The reference's buffers after its first `n` operations. -/
def S (V : RV) (n : Nat) : RV := after (ops.take n) V

theorem S_zero (V : RV) : S V 0 = V := rfl

theorem S_seg (V : RV) {m n : Nat} (h : m ≤ n) : S V n = after (seg m n) (S V m) := by
  unfold S seg
  rw [← after_append, ← List.take_add, Nat.add_sub_cancel' h]

/-- A buffer that no operation from number `m` up to number `n` writes is the same after both. -/
theorem S_keep (V : RV) {m n : Nat} (h : m ≤ n) (b : DevRef Cert.ReferenceIdeal.τ Cert.ReferenceIdeal.sig)
    (hw : ∀ op ∈ seg m n, b ∉ op.writes) : S V n b = S V m b := by
  rw [S_seg V h]
  exact after_of_forall_not_mem _ _ hw

theorem S_all (V : RV) : S V 1136 = Cert.RefOps.R V Cert.RefOps.lines.length := by
  unfold S Cert.RefOps.R
  rw [List.take_length]
  rfl

end Cert.Stages

end
-- ==== Proof.Forms.lean ====
/-
  The values that the two programs' stages are compared through: the convolution as the reference computes it, and the
  layouts in which the kernel's convolution reads its operands and leaves its result.
-/
module

public import proofs.«01_k».proof.Proof.Cut
public import Idealize.ShloMosaic.Lib.Pointwise

@[expose] public section

set_option maxRecDepth 16384

noncomputable section

namespace Cert.Stages

open Idealize.ShloMosaic Idealize.SL.Sem Idealize.ShloMosaic.StableHlo Cert

/-- The contents of a buffer. -/
abbrev T (s : Shape) (e : EltTy) := (⟨s, e⟩ : BufTy).Contents (Elt Ideal)

/-- Images of 32 channels. -/
abbrev Img := T ReferenceIdeal.S32x32x16x16 .f32

/-- The sum of two losses. -/
def plus (a x : T ReferenceIdeal.S_ .f32) : T ReferenceIdeal.S_ .f32 := addf (F := Ideal) (s := ReferenceIdeal.S_) (φ := .f32) a x
/-- Zero. -/
def zero : T ReferenceIdeal.S_ .f32 := constant (F := Ideal) ReferenceIdeal.S_ .f32 0#32

/-- Half an image. -/
def halfOf (x : Img) : Img :=
  mulf (F := Ideal) (s := ReferenceIdeal.S32x32x16x16) (φ := .f32) x
    (broadcastInDim ReferenceIdeal.S32x32x16x16 ![] (by decide) (constant (F := Ideal) ReferenceIdeal.S_ .f32 1056964608#32))

/-- The images with a border of zeros. -/
def padOf (x : Img) : T ReferenceIdeal.S32x32x18x18 .f32 :=
  pad ReferenceIdeal.S32x32x18x18 ![0, 0, 1, 1] ![0, 0, 1, 1] ![0, 0, 0, 0] x
    (sitofp (F := Ideal) .f32 (constantI ReferenceIdeal.S_ 32 0#32)) (by decide) (by decide)

/-- One of the convolution's nine products: the filter at `(ky, kx)` with the images moved by as much. -/
def tap (p : T ReferenceIdeal.S32x32x18x18 .f32) (w : T ReferenceIdeal.S32x32x3x3 .f32) (ky kx : Nat)
    (h : ReferenceIdeal.S32x32x18x18.Slices ![0, 0, ky, kx] ReferenceIdeal.S32x32x16x16)
    (h' : ReferenceIdeal.S32x32x3x3.Slices ![0, 0, ky, kx] ReferenceIdeal.S32x32x1x1) : Img :=
  transpose ReferenceIdeal.S32x32x16x16 [0, 3, 1, 2]
    (Host.dotGeneral (F := Ideal) (φ₁ := .f32) (φ₂ := .f32) ReferenceIdeal.dot_S32x32x16x16_S32x32_S32x16x16x32_1_1_023_0_n_n none
      (extractStridedSlice ReferenceIdeal.S32x32x16x16 ![0, 0, ky, kx] p h)
      (shapeCast ReferenceIdeal.S32x32 (extractStridedSlice ReferenceIdeal.S32x32x1x1 ![0, 0, ky, kx] w h') (by decide)))
    (by decide)

/-- The 3x3 convolution of the images `x` by the filter `w`, the offsets `b` added. -/
def convOf (x : Img) (w : T ReferenceIdeal.S32x32x3x3 .f32) (b : T ReferenceIdeal.S32 .f32) : Img :=
  addf (F := Ideal) (s := ReferenceIdeal.S32x32x16x16) (φ := .f32)
    (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (addf (F := Ideal) (s := ReferenceIdeal.S32x32x16x16) (φ := .f32) (broadcastInDim ReferenceIdeal.S32x32x16x16 ![] (by decide) zero)
      (tap (padOf x) w 0 0 (by decide) (by decide)))
      (tap (padOf x) w 0 1 (by decide) (by decide)))
      (tap (padOf x) w 0 2 (by decide) (by decide)))
      (tap (padOf x) w 1 0 (by decide) (by decide)))
      (tap (padOf x) w 1 1 (by decide) (by decide)))
      (tap (padOf x) w 1 2 (by decide) (by decide)))
      (tap (padOf x) w 2 0 (by decide) (by decide)))
      (tap (padOf x) w 2 1 (by decide) (by decide)))
      (tap (padOf x) w 2 2 (by decide) (by decide)))
    (broadcastInDim ReferenceIdeal.S32x32x16x16 ![0, 1, 2, 3] (by decide)
      (broadcastInDim ReferenceIdeal.S1x32x1x1 ![1] (by decide) b))

/-- The images as the kernel's convolution reads them: channels by positions. -/
def flatOf (x : Img) : T KernelIdeal.S32x8192 .f32 :=
  shapeCast KernelIdeal.S32x8192
    (transpose KernelIdeal.S32x32x256 [1, 0, 2] (shapeCast KernelIdeal.S32x32x256 x (by decide)) (by decide)) (by decide)

/-- Channels by positions, as images. -/
def imgOf (y : T KernelIdeal.S32x8192 .f32) : Img :=
  shapeCast ReferenceIdeal.S32x32x16x16
    (transpose KernelIdeal.S32x32x256 [1, 0, 2] (shapeCast KernelIdeal.S32x32x256 y (by decide)) (by decide)) (by decide)

/-- The filters as the kernel's convolution reads them. -/
def rowsOf (a : T ReferenceIdeal.S5x32x32x3x3 .f32) : T KernelIdeal.S5x32x288 .f32 :=
  shapeCast KernelIdeal.S5x32x288 (transpose KernelIdeal.S5x32x3x3x32 [0, 1, 3, 4, 2] a (by decide)) (by decide)

/-- One filter as the kernel's convolution reads it. -/
def rowOf (w : T ReferenceIdeal.S32x32x3x3 .f32) : T KernelIdeal.S32x288 .f32 :=
  fun j => w (ix4 (j 0) ⟨(j 1).val % 32, by omega⟩ ⟨(j 1).val / 96, by have := (j 1).isLt; simp at this; omega⟩ ⟨(j 1).val / 32 % 3, by omega⟩)

/-- The offsets as the kernel's convolution reads them. -/
def colOf (b : T ReferenceIdeal.S32 .f32) : T KernelIdeal.S32x1 .f32 :=
  broadcastInDim KernelIdeal.S32x1 ![0] (by decide) b

end Cert.Stages

end
-- ==== Proof.Masks.lean ====
/-
  The kernel's words of positions: a position's column and row in its image, from the division and the remainder that
  the kernel takes of the position's number.
-/
module

public import proofs.«01_k».proof.Proof.Forms

@[expose] public section

set_option maxRecDepth 16384
set_option maxHeartbeats 1000000

noncomputable section

namespace Cert.Stages

open Idealize.ShloMosaic Idealize.SL.Sem Idealize.ShloMosaic.StableHlo Cert Cert.KernelIdeal.Gen

/-- The word of a position's column. -/
theorem col (p : Fin 8192) : k0_pay3 (ix2 0 p) = BitVec.ofNat 32 (p.val % 16) := by
  pointwise [k0_pay3]
  revert p
  decide +kernel

/-- The word of a position's row. -/
theorem line (p : Fin 8192) : k0_pay5 k0_pay4 16#32 (ix2 0 p) = BitVec.ofNat 32 (p.val / 16 % 16) := by
  pointwise [k0_pay4, k0_pay5]
  revert p
  decide +kernel

end Cert.Stages

end
-- ==== Proof.Conv.lean ====
/-
  The kernel's convolution: the nine moved and masked copies of the images that it lays under one another are the nine
  windows of the images with a border of zeros, so that its one product is the reference's sum of nine.
-/
module

public import proofs.«01_k».proof.Proof.Masks
public import Idealize.ShloMosaic.Lib.Pipeline.ValueKit.Basic

@[expose] public section

set_option maxRecDepth 16384
set_option maxHeartbeats 1000000

noncomputable section

namespace Cert.Stages

open Idealize.ShloMosaic Idealize.SL.Sem Idealize.ShloMosaic.StableHlo Cert Cert.KernelIdeal Cert.KernelIdeal.Gen

/-- The position of image `n`, row `r`, column `s`. -/
def pos (n : Fin 32) (r s : Fin 16) : Fin 8192 := ⟨n.val * 256 + (r.val * 16 + s.val), by omega⟩

/-- The column's word at a position. -/
theorem col_pos (n : Fin 32) (r s : Fin 16) : k0_pay3 (ix2 0 (pos n r s)) = BitVec.ofNat 32 s.val := by
  rw [col]
  exact congrArg (BitVec.ofNat 32) (show (n.val * 256 + (r.val * 16 + s.val)) % 16 = s.val by omega)

/-- The row's word at a position. -/
theorem line_pos (n : Fin 32) (r s : Fin 16) :
    k0_pay5 k0_pay4 16#32 (ix2 0 (pos n r s)) = BitVec.ofNat 32 r.val := by
  rw [line]
  exact congrArg (BitVec.ofNat 32) (show (n.val * 256 + (r.val * 16 + s.val)) / 16 % 16 = r.val by omega)

/-- One step back stays inside unless at the start. -/
theorem back (s : Fin 16) :
    IntOp.andi (IntOp.cmpi CmpIPredicate.sge (IntOp.addi (BitVec.ofNat 32 s.val) 4294967295#32) 0#32)
      (IntOp.cmpi CmpIPredicate.sle (IntOp.addi (BitVec.ofNat 32 s.val) 4294967295#32) 15#32)
    = BitVec.ofBool (decide (0 < s.val)) := by
  revert s; decide +kernel

/-- One step forth stays inside unless at the end. -/
theorem forth (s : Fin 16) :
    IntOp.andi (IntOp.cmpi CmpIPredicate.sge (IntOp.addi (BitVec.ofNat 32 s.val) 1#32) 0#32)
      (IntOp.cmpi CmpIPredicate.sle (IntOp.addi (BitVec.ofNat 32 s.val) 1#32) 15#32)
    = BitVec.ofBool (decide (s.val < 15)) := by
  revert s; decide +kernel

/-- Two masks together. -/
theorem both (a b : Bool) : IntOp.andi (BitVec.ofBool a) (BitVec.ofBool b) = BitVec.ofBool (a && b) := by
  revert a b; decide

/-- A masked value is the bordered images' at the moved place, when the mask says that the place is inside and the
    value under it is the images' there. -/
theorem chosen (x : Img) (n c : Fin 32) (r s : Fin 16) (ky kx : Fin 3) (q : Bool) (v : EReal)
    (hq : q = true ↔ (0 < ky.val + r.val ∧ ky.val + r.val < 17) ∧ 0 < kx.val + s.val ∧ kx.val + s.val < 17)
    (hv : q = true → ∃ (h : ky.val + r.val - 1 < 16) (h' : kx.val + s.val - 1 < 16),
      v = x (ix4 n c ⟨_, h⟩ ⟨_, h'⟩)) :
    Scalar.select (BitVec.ofBool q) v 0
      = padOf x (ix4 n c ⟨ky.val + r.val, by omega⟩ ⟨kx.val + s.val, by omega⟩) := by
  pointwise [padOf]
  cases q
  · rw [dif_neg (by simp at hq; omega)]
    simp [Scalar.select, FloatOps.sitofp]
  · obtain ⟨h, h', e⟩ := hv rfl
    rw [dif_pos (by simp at hq; omega), e]
    rfl

/-- The bordered images over channels at the window's place, one of nine. -/
def win (x : Img) (n : Fin 32) (r s : Fin 16) (k : Fin 9) (c : Fin 32) : EReal :=
  padOf x (ix4 n c ⟨k.val / 3 + r.val, by omega⟩ ⟨k.val % 3 + s.val, by omega⟩)

/-- Copy 0, at row 0 and column 0 of the window. -/
theorem piece0 (x : Img) (n c : Fin 32) (r s : Fin 16) :
    k0_pay6 (F := Ideal) (flatOf x) k0_pay3 k0_pay4 16#32 (ix2 c (pos n r s)) = win x n r s 0 c := by
  pointwise [k0_pay6]
  rw [col_pos, line_pos, back, back, both]
  refine chosen x n c r s 0 0 _ _ (by simp; try omega) fun h => ?_
  simp at h
  refine ⟨by simp; try omega, by simp; try omega, ?_⟩
  rw [dif_neg (by simp [pos]; omega)]
  pointwise [flatOf]
  congr 2 <;> (apply Fin.ext; simp [pos]; try omega)

/-- Copy 1, at row 0 and column 1 of the window. -/
theorem piece1 (x : Img) (n c : Fin 32) (r s : Fin 16) :
    k0_pay9 (F := Ideal) (k0_pay5 k0_pay4 16#32) k0_pay7 (k0_pay8 (flatOf x)) (ix2 c (pos n r s)) = win x n r s 1 c := by
  pointwise [k0_pay9, k0_pay7, k0_pay8]
  rw [line_pos, back]
  refine chosen x n c r s 0 1 _ _ (by simp; try omega) fun h => ?_
  simp at h
  refine ⟨by simp; try omega, by simp; try omega, ?_⟩
  rw [dif_neg (by simp [pos]; omega)]
  pointwise [flatOf]
  congr 2 <;> (apply Fin.ext; simp [pos]; try omega)

/-- Copy 2, at row 0 and column 2 of the window. -/
theorem piece2 (x : Img) (n c : Fin 32) (r s : Fin 16) :
    k0_pay10 (F := Ideal) (flatOf x) k0_pay3 (k0_pay5 k0_pay4 16#32) (ix2 c (pos n r s)) = win x n r s 2 c := by
  pointwise [k0_pay10]
  rw [col_pos, line_pos, forth, back, both]
  refine chosen x n c r s 0 2 _ _ (by simp; try omega) fun h => ?_
  simp at h
  refine ⟨by simp; try omega, by simp; try omega, ?_⟩
  rw [dif_neg (by simp [pos]; omega)]
  pointwise [flatOf]
  congr 2 <;> (apply Fin.ext; simp [pos]; try omega)

/-- Copy 3, at row 1 and column 0 of the window. -/
theorem piece3 (x : Img) (n c : Fin 32) (r s : Fin 16) :
    k0_pay12 (F := Ideal) k0_pay3 (k0_pay11 (flatOf x)) 4294967295#32 (ix2 c (pos n r s)) = win x n r s 3 c := by
  pointwise [k0_pay12, k0_pay11]
  rw [col_pos, back]
  refine chosen x n c r s 1 0 _ _ (by simp; try omega) fun h => ?_
  simp at h
  refine ⟨by simp; try omega, by simp; try omega, ?_⟩
  rw [dif_neg (by simp [pos]; omega)]
  pointwise [flatOf]
  congr 2 <;> (apply Fin.ext; simp [pos]; try omega)

/-- The window in the middle: the images themselves. -/
theorem piece4 (x : Img) (n c : Fin 32) (r s : Fin 16) :
    flatOf x (ix2 c (pos n r s)) = win x n r s 4 c := by
  unfold win
  pointwise [padOf, flatOf]
  congr 2 <;> (apply Fin.ext; simp [pos]; try omega)

/-- Copy 5, at row 1 and column 2 of the window. -/
theorem piece5 (x : Img) (n c : Fin 32) (r s : Fin 16) :
    k0_pay13 (F := Ideal) (flatOf x) k0_pay3 (ix2 c (pos n r s)) = win x n r s 5 c := by
  pointwise [k0_pay13]
  rw [col_pos, forth]
  refine chosen x n c r s 1 2 _ _ (by simp; try omega) fun h => ?_
  simp at h
  refine ⟨by simp; try omega, by simp; try omega, ?_⟩
  rw [dif_pos (by simp [pos]; omega)]
  pointwise [flatOf]
  congr 2 <;> (apply Fin.ext; simp [pos]; try omega)

/-- Copy 6, at row 2 and column 0 of the window. -/
theorem piece6 (x : Img) (n c : Fin 32) (r s : Fin 16) :
    k0_pay17 (F := Ideal) (k0_pay5 k0_pay4 16#32) (k0_pay14 (flatOf x)) (k0_pay15 k0_pay3) (k0_pay16 (k0_pay5 k0_pay4 16#32)) 0#32 (ix2 c (pos n r s)) = win x n r s 6 c := by
  pointwise [k0_pay17, k0_pay14, k0_pay15, k0_pay16]
  rw [col_pos, line_pos, back, forth, both]
  refine chosen x n c r s 2 0 _ _ (by simp; try omega) fun h => ?_
  simp at h
  refine ⟨by simp; try omega, by simp; try omega, ?_⟩
  rw [dif_pos (by simp [pos]; omega)]
  pointwise [flatOf]
  congr 2 <;> (apply Fin.ext; simp [pos]; try omega)

/-- Copy 7, at row 2 and column 1 of the window. -/
theorem piece7 (x : Img) (n c : Fin 32) (r s : Fin 16) :
    k0_pay18 (F := Ideal) (flatOf x) (k0_pay5 k0_pay4 16#32) (ix2 c (pos n r s)) = win x n r s 7 c := by
  pointwise [k0_pay18]
  rw [line_pos, forth]
  refine chosen x n c r s 2 1 _ _ (by simp; try omega) fun h => ?_
  simp at h
  refine ⟨by simp; try omega, by simp; try omega, ?_⟩
  rw [dif_pos (by simp [pos]; omega)]
  pointwise [flatOf]
  congr 2 <;> (apply Fin.ext; simp [pos]; try omega)

/-- The last copy, masked. -/
def last (v : FVec Ideal S32x8192 .f32) (a b : IVec S1x8192 1) (u : IVec S1x8192 32) : FVec Ideal S32x8192 .f32 :=
  select (broadcastTo S32x8192 (shapeCast S1x8192 (andi a (andi b
      (cmpi .sle (addi u (broadcast S1x8192 1#32)) (broadcast S1x8192 15#32))))
      shapeCasts_S1x8192_S1x8192) broadcasts_S1x8192_S32x8192) v
    (broadcast S32x8192 (Scalar.ofBits (F := Ideal) .f32 0x00000000#32))

/-- Copy 8, at row 2 and column 2 of the window. -/
theorem piece8 (x : Img) (n c : Fin 32) (r s : Fin 16) :
    last (k0_pay19 (flatOf x)) (k0_pay20 k0_pay3) (k0_pay21 (k0_pay5 k0_pay4 16#32)) (k0_pay5 k0_pay4 16#32) (ix2 c (pos n r s)) = win x n r s 8 c := by
  pointwise [last, k0_pay19, k0_pay20, k0_pay21]
  rw [col_pos, line_pos, forth, forth, both]
  refine chosen x n c r s 2 2 _ _ (by simp; try omega) fun h => ?_
  simp at h
  refine ⟨by simp; try omega, by simp; try omega, ?_⟩
  rw [dif_pos (by simp [pos]; omega)]
  pointwise [flatOf]
  congr 2 <;> (apply Fin.ext; simp [pos]; try omega)

/-- A sum over the kernel's 288 rows, by nine and by channels. -/
theorem nine (f : Fin 288 → EReal) :
    ∑ k, f k = ∑ k : Fin 9, ∑ c : Fin 32, f ⟨c.val + 32 * k.val, by omega⟩ := by
  rw [← (finProdFinEquiv (m := 9) (n := 32)).sum_comp, Fintype.sum_prod_type]
  rfl

/-- The product with nine blocks under one another. -/
theorem dots (q0 q1 q2 q3 q4 q5 q6 q7 q8 : FVec Ideal S32x8192 .f32) (w : FVec Ideal S32x288 .f32)
    (j : Fin 32) (p : Fin 8192) :
    matmul dot_S32x288_S288x8192_S32x8192_1_0_0_1_n_n none w
      (concatenate S288x8192 0 [⟨S32x8192, q0⟩, ⟨S32x8192, q1⟩, ⟨S32x8192, q2⟩, ⟨S32x8192, q3⟩, ⟨S32x8192, q4⟩,
        ⟨S32x8192, q5⟩, ⟨S32x8192, q6⟩, ⟨S32x8192, q7⟩, ⟨S32x8192, q8⟩]
        concatenates_S32x8192_S32x8192_S32x8192_S32x8192_S32x8192_S32x8192_S32x8192_S32x8192_S32x8192_S288x8192_d0)
      (constant S32x8192 .f32 0x00000000#32) (ix2 j p)
    = ∑ k : Fin 9, ∑ c : Fin 32,
        w (ix2 j ⟨c.val + 32 * k.val, by omega⟩) * ![q0, q1, q2, q3, q4, q5, q6, q7, q8] k (ix2 c p) := by
  pointwise
  rw [nine]
  refine Finset.sum_congr rfl fun k _ => Finset.sum_congr rfl fun c _ => congrArg _ ?_
  fin_cases k
  · rw [dif_pos (by simp)]; rfl
  · rw [dif_neg (by simp), dif_pos (by simp)]; simp
  · rw [dif_neg (by simp), dif_neg (by simp), dif_pos (by simp)]; simp
  · rw [dif_neg (by simp), dif_neg (by simp), dif_neg (by simp), dif_pos (by simp)]; simp
  · rw [dif_neg (by simp), dif_neg (by simp), dif_neg (by simp), dif_neg (by simp), dif_pos (by simp)]; simp
  · rw [dif_neg (by simp), dif_neg (by simp), dif_neg (by simp), dif_neg (by simp), dif_neg (by simp), dif_pos (by simp)]; simp
  · rw [dif_neg (by simp), dif_neg (by simp), dif_neg (by simp), dif_neg (by simp), dif_neg (by simp), dif_neg (by simp), dif_pos (by simp)]; simp
  · rw [dif_neg (by simp), dif_neg (by simp), dif_neg (by simp), dif_neg (by simp), dif_neg (by simp), dif_neg (by simp), dif_neg (by simp), dif_pos (by simp)]; simp
  · rw [dif_neg (by simp), dif_neg (by simp), dif_neg (by simp), dif_neg (by simp), dif_neg (by simp), dif_neg (by simp), dif_neg (by simp), dif_neg (by simp)]; simp

/-- The kernel's store at a place, each block's row there being known. -/
theorem pay_at (q0 q1 q2 q3 q4 q5 q6 q7 v : FVec Ideal S32x8192 .f32) (a b : IVec S1x8192 1) (u : IVec S1x8192 32)
    (w : FVec Ideal S32x288 .f32) (d : FVec Ideal S32x1 .f32) (j : Fin 32) (p : Fin 8192) (g : Fin 9 → Fin 32 → EReal)
    (h0 : ∀ c, q0 (ix2 c p) = g 0 c) (h1 : ∀ c, q1 (ix2 c p) = g 1 c) (h2 : ∀ c, q2 (ix2 c p) = g 2 c)
    (h3 : ∀ c, q3 (ix2 c p) = g 3 c) (h4 : ∀ c, q4 (ix2 c p) = g 4 c) (h5 : ∀ c, q5 (ix2 c p) = g 5 c)
    (h6 : ∀ c, q6 (ix2 c p) = g 6 c) (h7 : ∀ c, q7 (ix2 c p) = g 7 c) (h8 : ∀ c, last v a b u (ix2 c p) = g 8 c) :
    k0_pay1 (F := Ideal) q4 u q0 q1 q2 q3 q5 q6 q7 v a b w d (ix2 j p)
      = ∑ k : Fin 9, ∑ c : Fin 32, w (ix2 j ⟨c.val + 32 * k.val, by omega⟩) * g k c + d (ix2 j 0) := by
  have hd : broadcastTo S32x8192 (shapeCast S32x1 d shapeCasts_S32x1_S32x1) broadcasts_S32x1_S32x8192 (ix2 j p)
      = d (ix2 j 0) := by
    pointwise
  rw [← hd]
  have hw := dots q0 q1 q2 q3 q4 q5 q6 q7 (last v a b u) w j p
  rw [← shapeCast_id w shapeCasts_S32x288_S32x288] at hw
  refine (congrArg (· + _) (hw.trans ?_) :)
  rw [shapeCast_id]
  refine Finset.sum_congr rfl fun k _ => Finset.sum_congr rfl fun c _ => congrArg _ ?_
  fin_cases k
  · exact h0 c
  · exact h1 c
  · exact h2 c
  · exact h3 c
  · exact h4 c
  · exact h5 c
  · exact h6 c
  · exact h7 c
  · exact h8 c

/-- What the kernel leaves is its store's value. -/
theorem out_pay (x0 : FVec Ideal S32x8192 .f32) (x1 : FVec Ideal S32x288 .f32) (x2 : FVec Ideal S32x1 .f32) :
    out0_3 (F := Ideal) x0 x1 x2 = k0_pay1 (F := Ideal) x0 (k0_pay5 k0_pay4 16#32) (k0_pay6 x0 k0_pay3 k0_pay4 16#32)
      (k0_pay9 (k0_pay5 k0_pay4 16#32) k0_pay7 (k0_pay8 x0)) (k0_pay10 x0 k0_pay3 (k0_pay5 k0_pay4 16#32))
      (k0_pay12 k0_pay3 (k0_pay11 x0) 4294967295#32) (k0_pay13 x0 k0_pay3)
      (k0_pay17 (k0_pay5 k0_pay4 16#32) (k0_pay14 x0) (k0_pay15 k0_pay3) (k0_pay16 (k0_pay5 k0_pay4 16#32)) 0#32)
      (k0_pay18 x0 (k0_pay5 k0_pay4 16#32)) (k0_pay19 x0) (k0_pay20 k0_pay3) (k0_pay21 (k0_pay5 k0_pay4 16#32)) x1 x2 := by
  unfold_out out0_3
  have e : k0_pay2 (F := Ideal) x0 = x0 := shapeCast_id _ _
  rw [View.canon_cons_unit_lit _ _ _ (by decide), View.ld_unit_lit _ _ (by decide), View.ld_unit_lit _ _ (by decide),
    View.ld_unit_lit _ _ (by decide), e]

/-- The kernel's convolution at a place. -/
theorem out_at (x : Img) (w : T ReferenceIdeal.S32x32x3x3 .f32) (b : T ReferenceIdeal.S32 .f32) (n o : Fin 32) (r s : Fin 16) :
    out0_3 (F := Ideal) (flatOf x) (rowOf w) (colOf b) (ix2 o (pos n r s))
      = ∑ k : Fin 9, ∑ c : Fin 32, rowOf w (ix2 o ⟨c.val + 32 * k.val, by omega⟩) * win x n r s k c
        + colOf b (ix2 o 0) := by
  rw [out_pay]
  exact pay_at _ _ _ _ _ _ _ _ _ _ _ _ _ _ _ _ (win x n r s) (fun c => piece0 x n c r s) (fun c => piece1 x n c r s)
    (fun c => piece2 x n c r s) (fun c => piece3 x n c r s) (fun c => piece4 x n c r s) (fun c => piece5 x n c r s)
    (fun c => piece6 x n c r s) (fun c => piece7 x n c r s) (fun c => piece8 x n c r s)

end Cert.Stages

end
-- ==== Proof.ConvValue.lean ====
/-
  The kernel's convolution is the reference's, on images: the one sum over 288 as the nine sums over the channels.
-/
module

public import proofs.«01_k».proof.Proof.Conv

@[expose] public section

set_option maxRecDepth 16384
set_option maxHeartbeats 1000000

noncomputable section

namespace Cert.Stages

open Idealize.ShloMosaic Idealize.SL.Sem Idealize.ShloMosaic.StableHlo Cert Cert.KernelIdeal Cert.KernelIdeal.Gen

/-- Nine terms. -/
theorem sum_nine (f : Fin 9 → EReal) : ∑ k, f k = f 0 + f 1 + f 2 + f 3 + f 4 + f 5 + f 6 + f 7 + f 8 := by
  simp only [Fin.sum_univ_castSucc, Fin.sum_univ_zero, zero_add]
  rfl

/-- The filter's entries in the kernel's layout. -/
theorem row_at (w : T ReferenceIdeal.S32x32x3x3 .f32) (o : Fin 32) (k : Fin 9) (c : Fin 32) :
    rowOf w (ix2 o ⟨c.val + 32 * k.val, by omega⟩) = w (ix4 o c ⟨k.val / 3, by omega⟩ ⟨k.val % 3, by omega⟩) := by
  unfold rowOf
  congr 2 <;> (apply Fin.ext; simp; try omega)

/-- One product of the kernel's, as the reference has it. -/
theorem term (x : Img) (w : T ReferenceIdeal.S32x32x3x3 .f32) (n o : Fin 32) (r s : Fin 16) (c : Fin 32) (k : Fin 9)
    (a b : Fin 18) (ky kx : Fin 3) (ha : a.val = k.val / 3 + r.val) (hb : b.val = k.val % 3 + s.val)
    (hy : ky.val = k.val / 3) (hx : kx.val = k.val % 3) :
    rowOf w (ix2 o ⟨c.val + 32 * k.val, by omega⟩) * win x n r s k c = padOf x (ix4 n c a b) * w (ix4 o c ky kx) := by
  rw [row_at, mul_comm, win]
  obtain ⟨a, _⟩ := a
  obtain ⟨b, _⟩ := b
  obtain ⟨ky, _⟩ := ky
  obtain ⟨kx, _⟩ := kx
  dsimp only at ha hb hy hx
  subst ha hb hy hx
  rfl

/-- The kernel's convolution is the reference's. -/
theorem conv_value (x : Img) (w : T ReferenceIdeal.S32x32x3x3 .f32) (b : T ReferenceIdeal.S32 .f32) :
    imgOf (out0_3 (F := Ideal) (flatOf x) (rowOf w) (colOf b)) = convOf x w b := by
  funext j
  idx_vars j
  have h : imgOf (out0_3 (F := Ideal) (flatOf x) (rowOf w) (colOf b)) (ix4 j0 j1 j2 j3)
      = out0_3 (F := Ideal) (flatOf x) (rowOf w) (colOf b) (ix2 j1 (pos j0 j2 j3)) := by
    pointwise [imgOf]
    rfl
  rw [h, out_at]
  pointwise [convOf, tap, colOf]
  have z : zero ix0 = (0 : EReal) := by pointwise [zero]
  rw [z, zero_add]
  refine congrArg (· + _) ?_
  rw [sum_nine]
  have e (k : Fin 9) (a b : Fin 18) (ky kx : Fin 3) (ha : a.val = k.val / 3 + j2.val) (hb : b.val = k.val % 3 + j3.val)
      (hy : ky.val = k.val / 3) (hx : kx.val = k.val % 3) :=
    Finset.sum_congr (rfl : Finset.univ = Finset.univ) fun c _ => term x w j0 j1 j2 j3 c k a b ky kx ha hb hy hx
  rw [e 0 ⟨j2.val, by omega⟩ ⟨j3.val, by omega⟩ 0 0 (by simp) (by simp) rfl rfl,
    e 1 ⟨j2.val, by omega⟩ ⟨1 + j3.val, by omega⟩ 0 1 (by simp) (by simp) rfl rfl,
    e 2 ⟨j2.val, by omega⟩ ⟨2 + j3.val, by omega⟩ 0 2 (by simp) (by simp) rfl rfl,
    e 3 ⟨1 + j2.val, by omega⟩ ⟨j3.val, by omega⟩ 1 0 (by simp) (by simp) rfl rfl,
    e 4 ⟨1 + j2.val, by omega⟩ ⟨1 + j3.val, by omega⟩ 1 1 (by simp) (by simp) rfl rfl,
    e 5 ⟨1 + j2.val, by omega⟩ ⟨2 + j3.val, by omega⟩ 1 2 (by simp) (by simp) rfl rfl,
    e 6 ⟨2 + j2.val, by omega⟩ ⟨j3.val, by omega⟩ 2 0 (by simp) (by simp) rfl rfl,
    e 7 ⟨2 + j2.val, by omega⟩ ⟨1 + j3.val, by omega⟩ 2 1 (by simp) (by simp) rfl rfl,
    e 8 ⟨2 + j2.val, by omega⟩ ⟨2 + j3.val, by omega⟩ 2 2 (by simp) (by simp) rfl rfl]

end Cert.Stages

end
-- ==== Proof.Regions.lean ====
/-
  The kernel's five launches: each runs its one block, the whole arrays, and leaves the convolution of what it finds.
-/
module

public import proofs.«01_k».proof.Proof.ConvValue
public import Idealize.ShloMosaic.Lib.Pipeline.ValueKit.Geometry

@[expose] public section

set_option maxRecDepth 16384
set_option maxHeartbeats 1000000

noncomputable section

namespace Cert.Stages

open Idealize.ShloMosaic Idealize.SL.Sem Idealize.ShloMosaic.StableHlo Cert Cert.KernelIdeal Cert.KernelIdeal.Gen
  Idealize.ShloMosaic.Pipeline

/-- The contents of every buffer on every core. -/
abbrev AllV := (c : Dev nD) → (b : Ref sig Kind.tc) → Buf (Elt Ideal) ((c.tc : Thread nD τ).loc b)

variable (m : (ℓ : Loc nD τ sig) → Buf (Elt Ideal) ℓ) (ρ : Dev nD → PrngReg)

/-- Launch 0 reads window 0 at the start of the array. -/
theorem start0_0 (t : Fin cfg0.N) (a : Fin (cfg0.win 0).shape.rank) : (cfg0.win 0).index t a = 0 := by
  revert a t; decide +kernel

/-- Window 0 of launch 0 is the whole array. -/
theorem block0_0 (V : AllV) (c : Dev nD) (t) : iblk0 (F := Ideal) V c 0 t = V c (arrRef spec0 0) := by
  funext y
  unfold iblk0
  rw [View.read_apply]
  have e : ((cfg0.win 0).blk t).view.emb y = ((cfg0.win 0).rect t).emb y := rfl
  have e' : ((cfg0.win 0).rect t).emb y = y := funext fun a =>
    Fin.ext (Window.rect_emb_val_of_index_zero (cfg0.win 0) t a (start0_0 t a) y)
  rw [e, e']
  rfl

/-- Launch 0 reads window 1 at the start of the array. -/
theorem start0_1 (t : Fin cfg0.N) (a : Fin (cfg0.win 1).shape.rank) : (cfg0.win 1).index t a = 0 := by
  revert a t; decide +kernel

/-- Window 1 of launch 0 is the whole array. -/
theorem block0_1 (V : AllV) (c : Dev nD) (t) : iblk0 (F := Ideal) V c 1 t = V c (arrRef spec0 1) := by
  funext y
  unfold iblk0
  rw [View.read_apply]
  have e : ((cfg0.win 1).blk t).view.emb y = ((cfg0.win 1).rect t).emb y := rfl
  have e' : ((cfg0.win 1).rect t).emb y = y := funext fun a =>
    Fin.ext (Window.rect_emb_val_of_index_zero (cfg0.win 1) t a (start0_1 t a) y)
  rw [e, e']
  rfl

/-- Launch 0 reads window 2 at the start of the array. -/
theorem start0_2 (t : Fin cfg0.N) (a : Fin (cfg0.win 2).shape.rank) : (cfg0.win 2).index t a = 0 := by
  revert a t; decide +kernel

/-- Window 2 of launch 0 is the whole array. -/
theorem block0_2 (V : AllV) (c : Dev nD) (t) : iblk0 (F := Ideal) V c 2 t = V c (arrRef spec0 2) := by
  funext y
  unfold iblk0
  rw [View.read_apply]
  have e : ((cfg0.win 2).blk t).view.emb y = ((cfg0.win 2).rect t).emb y := rfl
  have e' : ((cfg0.win 2).rect t).emb y = y := funext fun a =>
    Fin.ext (Window.rect_emb_val_of_index_zero (cfg0.win 2) t a (start0_2 t a) y)
  rw [e, e']
  rfl

/-- What launch 0 leaves of any contents. -/
theorem left0 (V : AllV) (c : Dev nD) {x0 : T S32x8192 .f32} {x1 : T S32x288 .f32} {x2 : T S32x1 .f32}
    (h0 : V c main_v120 = x0) (h1 : V c main_v115 = x1) (h2 : V c main_v118 = x2) :
    (dat0 (F := Ideal) V c).arrAt 3 cfg0.N = out0_3 (F := Ideal) x0 x1 x2 := by
  refine Dat.arrAt_eq_of_after_last _ 3 ⟨0, by decide⟩ (by decide +kernel) _ fun j => ?_
  rw [after0_3, block0_0, block0_1, block0_2]
  have e0 : V c (arrRef spec0 0) = x0 := h0
  have e1 : V c (arrRef spec0 1) = x1 := h1
  have e2 : V c (arrRef spec0 2) = x2 := h2
  rw [e0, e1, e2]
  generalize out0_3 (F := Ideal) x0 x1 x2 = G
  rfl

/-- What launch 0 leaves of an image, a filter and offsets. -/
theorem region0 (c : Dev nD) {x : Img} {w : T ReferenceIdeal.S32x32x3x3 .f32} {b : T ReferenceIdeal.S32 .f32}
    (h0 : W14 m ρ c (Proc.devRef .tc main_v120) = flatOf x)
    (h1 : W14 m ρ c (Proc.devRef .tc main_v115) = rowOf w)
    (h2 : W14 m ρ c (Proc.devRef .tc main_v118) = colOf b) :
    W15 m ρ c (Proc.devRef .tc main_v121) = out0_3 (F := Ideal) (flatOf x) (rowOf w) (colOf b) :=
  (W15_arr m ρ c 3).trans (left0 (V14 m ρ) c h0 h1 h2)

/-- The bodies are the same. -/
theorem same1 (x0 x1 x2) : out1_3 (F := Ideal) x0 x1 x2 = out0_3 (F := Ideal) x0 x1 x2 := rfl

/-- Launch 1 reads window 0 at the start of the array. -/
theorem start1_0 (t : Fin cfg1.N) (a : Fin (cfg1.win 0).shape.rank) : (cfg1.win 0).index t a = 0 := by
  revert a t; decide +kernel

/-- Window 0 of launch 1 is the whole array. -/
theorem block1_0 (V : AllV) (c : Dev nD) (t) : iblk1 (F := Ideal) V c 0 t = V c (arrRef spec1 0) := by
  funext y
  unfold iblk1
  rw [View.read_apply]
  have e : ((cfg1.win 0).blk t).view.emb y = ((cfg1.win 0).rect t).emb y := rfl
  have e' : ((cfg1.win 0).rect t).emb y = y := funext fun a =>
    Fin.ext (Window.rect_emb_val_of_index_zero (cfg1.win 0) t a (start1_0 t a) y)
  rw [e, e']
  rfl

/-- Launch 1 reads window 1 at the start of the array. -/
theorem start1_1 (t : Fin cfg1.N) (a : Fin (cfg1.win 1).shape.rank) : (cfg1.win 1).index t a = 0 := by
  revert a t; decide +kernel

/-- Window 1 of launch 1 is the whole array. -/
theorem block1_1 (V : AllV) (c : Dev nD) (t) : iblk1 (F := Ideal) V c 1 t = V c (arrRef spec1 1) := by
  funext y
  unfold iblk1
  rw [View.read_apply]
  have e : ((cfg1.win 1).blk t).view.emb y = ((cfg1.win 1).rect t).emb y := rfl
  have e' : ((cfg1.win 1).rect t).emb y = y := funext fun a =>
    Fin.ext (Window.rect_emb_val_of_index_zero (cfg1.win 1) t a (start1_1 t a) y)
  rw [e, e']
  rfl

/-- Launch 1 reads window 2 at the start of the array. -/
theorem start1_2 (t : Fin cfg1.N) (a : Fin (cfg1.win 2).shape.rank) : (cfg1.win 2).index t a = 0 := by
  revert a t; decide +kernel

/-- Window 2 of launch 1 is the whole array. -/
theorem block1_2 (V : AllV) (c : Dev nD) (t) : iblk1 (F := Ideal) V c 2 t = V c (arrRef spec1 2) := by
  funext y
  unfold iblk1
  rw [View.read_apply]
  have e : ((cfg1.win 2).blk t).view.emb y = ((cfg1.win 2).rect t).emb y := rfl
  have e' : ((cfg1.win 2).rect t).emb y = y := funext fun a =>
    Fin.ext (Window.rect_emb_val_of_index_zero (cfg1.win 2) t a (start1_2 t a) y)
  rw [e, e']
  rfl

/-- What launch 1 leaves of any contents. -/
theorem left1 (V : AllV) (c : Dev nD) {x0 : T S32x8192 .f32} {x1 : T S32x288 .f32} {x2 : T S32x1 .f32}
    (h0 : V c main_v251 = x0) (h1 : V c main_v246 = x1) (h2 : V c main_v249 = x2) :
    (dat1 (F := Ideal) V c).arrAt 3 cfg1.N = out0_3 (F := Ideal) x0 x1 x2 := by
  refine Dat.arrAt_eq_of_after_last _ 3 ⟨0, by decide⟩ (by decide +kernel) _ fun j => ?_
  rw [after1_3, block1_0, block1_1, block1_2]
  have e0 : V c (arrRef spec1 0) = x0 := h0
  have e1 : V c (arrRef spec1 1) = x1 := h1
  have e2 : V c (arrRef spec1 2) = x2 := h2
  rw [e0, e1, e2, same1]
  generalize out0_3 (F := Ideal) x0 x1 x2 = G
  rfl

/-- What launch 1 leaves of an image, a filter and offsets. -/
theorem region1 (c : Dev nD) {x : Img} {w : T ReferenceIdeal.S32x32x3x3 .f32} {b : T ReferenceIdeal.S32 .f32}
    (h0 : W29 m ρ c (Proc.devRef .tc main_v251) = flatOf x)
    (h1 : W29 m ρ c (Proc.devRef .tc main_v246) = rowOf w)
    (h2 : W29 m ρ c (Proc.devRef .tc main_v249) = colOf b) :
    W30 m ρ c (Proc.devRef .tc main_v252) = out0_3 (F := Ideal) (flatOf x) (rowOf w) (colOf b) :=
  (W30_arr m ρ c 3).trans (left1 (V29 m ρ) c h0 h1 h2)

/-- The bodies are the same. -/
theorem same2 (x0 x1 x2) : out2_3 (F := Ideal) x0 x1 x2 = out0_3 (F := Ideal) x0 x1 x2 := rfl

/-- Launch 2 reads window 0 at the start of the array. -/
theorem start2_0 (t : Fin cfg2.N) (a : Fin (cfg2.win 0).shape.rank) : (cfg2.win 0).index t a = 0 := by
  revert a t; decide +kernel

/-- Window 0 of launch 2 is the whole array. -/
theorem block2_0 (V : AllV) (c : Dev nD) (t) : iblk2 (F := Ideal) V c 0 t = V c (arrRef spec2 0) := by
  funext y
  unfold iblk2
  rw [View.read_apply]
  have e : ((cfg2.win 0).blk t).view.emb y = ((cfg2.win 0).rect t).emb y := rfl
  have e' : ((cfg2.win 0).rect t).emb y = y := funext fun a =>
    Fin.ext (Window.rect_emb_val_of_index_zero (cfg2.win 0) t a (start2_0 t a) y)
  rw [e, e']
  rfl

/-- Launch 2 reads window 1 at the start of the array. -/
theorem start2_1 (t : Fin cfg2.N) (a : Fin (cfg2.win 1).shape.rank) : (cfg2.win 1).index t a = 0 := by
  revert a t; decide +kernel

/-- Window 1 of launch 2 is the whole array. -/
theorem block2_1 (V : AllV) (c : Dev nD) (t) : iblk2 (F := Ideal) V c 1 t = V c (arrRef spec2 1) := by
  funext y
  unfold iblk2
  rw [View.read_apply]
  have e : ((cfg2.win 1).blk t).view.emb y = ((cfg2.win 1).rect t).emb y := rfl
  have e' : ((cfg2.win 1).rect t).emb y = y := funext fun a =>
    Fin.ext (Window.rect_emb_val_of_index_zero (cfg2.win 1) t a (start2_1 t a) y)
  rw [e, e']
  rfl

/-- Launch 2 reads window 2 at the start of the array. -/
theorem start2_2 (t : Fin cfg2.N) (a : Fin (cfg2.win 2).shape.rank) : (cfg2.win 2).index t a = 0 := by
  revert a t; decide +kernel

/-- Window 2 of launch 2 is the whole array. -/
theorem block2_2 (V : AllV) (c : Dev nD) (t) : iblk2 (F := Ideal) V c 2 t = V c (arrRef spec2 2) := by
  funext y
  unfold iblk2
  rw [View.read_apply]
  have e : ((cfg2.win 2).blk t).view.emb y = ((cfg2.win 2).rect t).emb y := rfl
  have e' : ((cfg2.win 2).rect t).emb y = y := funext fun a =>
    Fin.ext (Window.rect_emb_val_of_index_zero (cfg2.win 2) t a (start2_2 t a) y)
  rw [e, e']
  rfl

/-- What launch 2 leaves of any contents. -/
theorem left2 (V : AllV) (c : Dev nD) {x0 : T S32x8192 .f32} {x1 : T S32x288 .f32} {x2 : T S32x1 .f32}
    (h0 : V c main_v382 = x0) (h1 : V c main_v377 = x1) (h2 : V c main_v380 = x2) :
    (dat2 (F := Ideal) V c).arrAt 3 cfg2.N = out0_3 (F := Ideal) x0 x1 x2 := by
  refine Dat.arrAt_eq_of_after_last _ 3 ⟨0, by decide⟩ (by decide +kernel) _ fun j => ?_
  rw [after2_3, block2_0, block2_1, block2_2]
  have e0 : V c (arrRef spec2 0) = x0 := h0
  have e1 : V c (arrRef spec2 1) = x1 := h1
  have e2 : V c (arrRef spec2 2) = x2 := h2
  rw [e0, e1, e2, same2]
  generalize out0_3 (F := Ideal) x0 x1 x2 = G
  rfl

/-- What launch 2 leaves of an image, a filter and offsets. -/
theorem region2 (c : Dev nD) {x : Img} {w : T ReferenceIdeal.S32x32x3x3 .f32} {b : T ReferenceIdeal.S32 .f32}
    (h0 : W44 m ρ c (Proc.devRef .tc main_v382) = flatOf x)
    (h1 : W44 m ρ c (Proc.devRef .tc main_v377) = rowOf w)
    (h2 : W44 m ρ c (Proc.devRef .tc main_v380) = colOf b) :
    W45 m ρ c (Proc.devRef .tc main_v383) = out0_3 (F := Ideal) (flatOf x) (rowOf w) (colOf b) :=
  (W45_arr m ρ c 3).trans (left2 (V44 m ρ) c h0 h1 h2)

/-- The bodies are the same. -/
theorem same3 (x0 x1 x2) : out3_3 (F := Ideal) x0 x1 x2 = out0_3 (F := Ideal) x0 x1 x2 := rfl

/-- Launch 3 reads window 0 at the start of the array. -/
theorem start3_0 (t : Fin cfg3.N) (a : Fin (cfg3.win 0).shape.rank) : (cfg3.win 0).index t a = 0 := by
  revert a t; decide +kernel

/-- Window 0 of launch 3 is the whole array. -/
theorem block3_0 (V : AllV) (c : Dev nD) (t) : iblk3 (F := Ideal) V c 0 t = V c (arrRef spec3 0) := by
  funext y
  unfold iblk3
  rw [View.read_apply]
  have e : ((cfg3.win 0).blk t).view.emb y = ((cfg3.win 0).rect t).emb y := rfl
  have e' : ((cfg3.win 0).rect t).emb y = y := funext fun a =>
    Fin.ext (Window.rect_emb_val_of_index_zero (cfg3.win 0) t a (start3_0 t a) y)
  rw [e, e']
  rfl

/-- Launch 3 reads window 1 at the start of the array. -/
theorem start3_1 (t : Fin cfg3.N) (a : Fin (cfg3.win 1).shape.rank) : (cfg3.win 1).index t a = 0 := by
  revert a t; decide +kernel

/-- Window 1 of launch 3 is the whole array. -/
theorem block3_1 (V : AllV) (c : Dev nD) (t) : iblk3 (F := Ideal) V c 1 t = V c (arrRef spec3 1) := by
  funext y
  unfold iblk3
  rw [View.read_apply]
  have e : ((cfg3.win 1).blk t).view.emb y = ((cfg3.win 1).rect t).emb y := rfl
  have e' : ((cfg3.win 1).rect t).emb y = y := funext fun a =>
    Fin.ext (Window.rect_emb_val_of_index_zero (cfg3.win 1) t a (start3_1 t a) y)
  rw [e, e']
  rfl

/-- Launch 3 reads window 2 at the start of the array. -/
theorem start3_2 (t : Fin cfg3.N) (a : Fin (cfg3.win 2).shape.rank) : (cfg3.win 2).index t a = 0 := by
  revert a t; decide +kernel

/-- Window 2 of launch 3 is the whole array. -/
theorem block3_2 (V : AllV) (c : Dev nD) (t) : iblk3 (F := Ideal) V c 2 t = V c (arrRef spec3 2) := by
  funext y
  unfold iblk3
  rw [View.read_apply]
  have e : ((cfg3.win 2).blk t).view.emb y = ((cfg3.win 2).rect t).emb y := rfl
  have e' : ((cfg3.win 2).rect t).emb y = y := funext fun a =>
    Fin.ext (Window.rect_emb_val_of_index_zero (cfg3.win 2) t a (start3_2 t a) y)
  rw [e, e']
  rfl

/-- What launch 3 leaves of any contents. -/
theorem left3 (V : AllV) (c : Dev nD) {x0 : T S32x8192 .f32} {x1 : T S32x288 .f32} {x2 : T S32x1 .f32}
    (h0 : V c main_v513 = x0) (h1 : V c main_v508 = x1) (h2 : V c main_v511 = x2) :
    (dat3 (F := Ideal) V c).arrAt 3 cfg3.N = out0_3 (F := Ideal) x0 x1 x2 := by
  refine Dat.arrAt_eq_of_after_last _ 3 ⟨0, by decide⟩ (by decide +kernel) _ fun j => ?_
  rw [after3_3, block3_0, block3_1, block3_2]
  have e0 : V c (arrRef spec3 0) = x0 := h0
  have e1 : V c (arrRef spec3 1) = x1 := h1
  have e2 : V c (arrRef spec3 2) = x2 := h2
  rw [e0, e1, e2, same3]
  generalize out0_3 (F := Ideal) x0 x1 x2 = G
  rfl

/-- What launch 3 leaves of an image, a filter and offsets. -/
theorem region3 (c : Dev nD) {x : Img} {w : T ReferenceIdeal.S32x32x3x3 .f32} {b : T ReferenceIdeal.S32 .f32}
    (h0 : W59 m ρ c (Proc.devRef .tc main_v513) = flatOf x)
    (h1 : W59 m ρ c (Proc.devRef .tc main_v508) = rowOf w)
    (h2 : W59 m ρ c (Proc.devRef .tc main_v511) = colOf b) :
    W60 m ρ c (Proc.devRef .tc main_v514) = out0_3 (F := Ideal) (flatOf x) (rowOf w) (colOf b) :=
  (W60_arr m ρ c 3).trans (left3 (V59 m ρ) c h0 h1 h2)

/-- The bodies are the same. -/
theorem same4 (x0 x1 x2) : out4_3 (F := Ideal) x0 x1 x2 = out0_3 (F := Ideal) x0 x1 x2 := rfl

/-- Launch 4 reads window 0 at the start of the array. -/
theorem start4_0 (t : Fin cfg4.N) (a : Fin (cfg4.win 0).shape.rank) : (cfg4.win 0).index t a = 0 := by
  revert a t; decide +kernel

/-- Window 0 of launch 4 is the whole array. -/
theorem block4_0 (V : AllV) (c : Dev nD) (t) : iblk4 (F := Ideal) V c 0 t = V c (arrRef spec4 0) := by
  funext y
  unfold iblk4
  rw [View.read_apply]
  have e : ((cfg4.win 0).blk t).view.emb y = ((cfg4.win 0).rect t).emb y := rfl
  have e' : ((cfg4.win 0).rect t).emb y = y := funext fun a =>
    Fin.ext (Window.rect_emb_val_of_index_zero (cfg4.win 0) t a (start4_0 t a) y)
  rw [e, e']
  rfl

/-- Launch 4 reads window 1 at the start of the array. -/
theorem start4_1 (t : Fin cfg4.N) (a : Fin (cfg4.win 1).shape.rank) : (cfg4.win 1).index t a = 0 := by
  revert a t; decide +kernel

/-- Window 1 of launch 4 is the whole array. -/
theorem block4_1 (V : AllV) (c : Dev nD) (t) : iblk4 (F := Ideal) V c 1 t = V c (arrRef spec4 1) := by
  funext y
  unfold iblk4
  rw [View.read_apply]
  have e : ((cfg4.win 1).blk t).view.emb y = ((cfg4.win 1).rect t).emb y := rfl
  have e' : ((cfg4.win 1).rect t).emb y = y := funext fun a =>
    Fin.ext (Window.rect_emb_val_of_index_zero (cfg4.win 1) t a (start4_1 t a) y)
  rw [e, e']
  rfl

/-- Launch 4 reads window 2 at the start of the array. -/
theorem start4_2 (t : Fin cfg4.N) (a : Fin (cfg4.win 2).shape.rank) : (cfg4.win 2).index t a = 0 := by
  revert a t; decide +kernel

/-- Window 2 of launch 4 is the whole array. -/
theorem block4_2 (V : AllV) (c : Dev nD) (t) : iblk4 (F := Ideal) V c 2 t = V c (arrRef spec4 2) := by
  funext y
  unfold iblk4
  rw [View.read_apply]
  have e : ((cfg4.win 2).blk t).view.emb y = ((cfg4.win 2).rect t).emb y := rfl
  have e' : ((cfg4.win 2).rect t).emb y = y := funext fun a =>
    Fin.ext (Window.rect_emb_val_of_index_zero (cfg4.win 2) t a (start4_2 t a) y)
  rw [e, e']
  rfl

/-- What launch 4 leaves of any contents. -/
theorem left4 (V : AllV) (c : Dev nD) {x0 : T S32x8192 .f32} {x1 : T S32x288 .f32} {x2 : T S32x1 .f32}
    (h0 : V c main_v566 = x0) (h1 : V c main_v561 = x1) (h2 : V c main_v564 = x2) :
    (dat4 (F := Ideal) V c).arrAt 3 cfg4.N = out0_3 (F := Ideal) x0 x1 x2 := by
  refine Dat.arrAt_eq_of_after_last _ 3 ⟨0, by decide⟩ (by decide +kernel) _ fun j => ?_
  rw [after4_3, block4_0, block4_1, block4_2]
  have e0 : V c (arrRef spec4 0) = x0 := h0
  have e1 : V c (arrRef spec4 1) = x1 := h1
  have e2 : V c (arrRef spec4 2) = x2 := h2
  rw [e0, e1, e2, same4]
  generalize out0_3 (F := Ideal) x0 x1 x2 = G
  rfl

/-- What launch 4 leaves of an image, a filter and offsets. -/
theorem region4 (c : Dev nD) {x : Img} {w : T ReferenceIdeal.S32x32x3x3 .f32} {b : T ReferenceIdeal.S32 .f32}
    (h0 : W64 m ρ c (Proc.devRef .tc main_v566) = flatOf x)
    (h1 : W64 m ρ c (Proc.devRef .tc main_v561) = rowOf w)
    (h2 : W64 m ρ c (Proc.devRef .tc main_v564) = colOf b) :
    W65 m ρ c (Proc.devRef .tc main_v567) = out0_3 (F := Ideal) (flatOf x) (rowOf w) (colOf b) :=
  (W65_arr m ρ c 3).trans (left4 (V64 m ρ) c h0 h1 h2)

end Cert.Stages

end
-- ==== Proof.Keep.lean ====
/-
  What passes unchanged through the two programs.
-/
module

public import proofs.«01_k».proof.Proof.Regions

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- A list of operations cut in two. -/
theorem cut (l : List (HloOp KernelIdeal.τ KernelIdeal.sig (Elt Ideal))) (n : Nat) (V : KV) :
    after l V = after (l.drop n) (after (l.take n) V) := by
  rw [← after_append, List.take_append_drop]

/-- A buffer that no operation of a list writes. -/
theorem kept (l : List (HloOp KernelIdeal.τ KernelIdeal.sig (Elt Ideal))) (V : KV)
    (b : DevRef KernelIdeal.τ KernelIdeal.sig) (h : ∀ op ∈ l, b ∉ op.writes) : after l V b = V b :=
  after_of_forall_not_mem _ _ h

/-- The reference's arguments at any point. -/
theorem args_at (n : Nat) : ∀ b ∈ [ReferenceIdeal.main_arg0, ReferenceIdeal.main_arg1, ReferenceIdeal.main_arg2, ReferenceIdeal.main_arg3],
    S V n (Proc.devRef .tc b) = V (Proc.devRef .tc b) := by
  have h : ∀ b ∈ [ReferenceIdeal.main_arg0, ReferenceIdeal.main_arg1, ReferenceIdeal.main_arg2, ReferenceIdeal.main_arg3],
      ∀ op ∈ ops, (Proc.devRef .tc b : DevRef ReferenceIdeal.τ ReferenceIdeal.sig) ∉ op.writes := by decide +kernel
  exact fun b hb => after_of_forall_not_mem _ _ fun op ho => h b hb op (List.mem_of_mem_take ho)

/-- Stage 0 after its distances, the launch included. -/
theorem rest0 (b : Ref KernelIdeal.sig .tc) (h : b ∉ hostOps0_1_W ∧ b ∉ hostOps0_2_W ∧ b ∉ hostOps0_3_W ∧ b ∉ hostOps0_4_W ∧ b ∉ hostOps0_5_W ∧ b ∉ hostOps0_6_W ∧ b ∉ hostOps0_7_W ∧ b ∉ hostOps0_8_W ∧ b ∉ hostOps0_9_W ∧ b ∉ hostOps0_10_W ∧ b ∉ hostOps0_11_W ∧ b ∉ hostOps0_12_W ∧ b ∉ hostOps0_13_W)
    (h' : ∀ w : Fin KernelIdeal.cfg0.W, Pipeline.arrRef KernelIdeal.spec0 w = b → (KernelIdeal.cfg0.win w).isOut = false) :
    W15 m ρ c (Proc.devRef .tc b) = W1 m ρ c (Proc.devRef .tc b) := by
  obtain ⟨h0, h1, h2, h3, h4, h5, h6, h7, h8, h9, h10, h11, h12⟩ := h
  rw [W15_of m ρ c b h', W14_of m ρ c b h12, W13_of m ρ c b h11, W12_of m ρ c b h10, W11_of m ρ c b h9, W10_of m ρ c b h8, W9_of m ρ c b h7, W8_of m ρ c b h6, W7_of m ρ c b h5, W6_of m ρ c b h4, W5_of m ρ c b h3, W4_of m ρ c b h2, W3_of m ρ c b h1, W2_of m ρ c b h0]

/-- Stage 1 after its distances, the launch included. -/
theorem rest1 (b : Ref KernelIdeal.sig .tc) (h : b ∉ hostOps1_1_W ∧ b ∉ hostOps1_2_W ∧ b ∉ hostOps1_3_W ∧ b ∉ hostOps1_4_W ∧ b ∉ hostOps1_5_W ∧ b ∉ hostOps1_6_W ∧ b ∉ hostOps1_7_W ∧ b ∉ hostOps1_8_W ∧ b ∉ hostOps1_9_W ∧ b ∉ hostOps1_10_W ∧ b ∉ hostOps1_11_W ∧ b ∉ hostOps1_12_W ∧ b ∉ hostOps1_13_W)
    (h' : ∀ w : Fin KernelIdeal.cfg1.W, Pipeline.arrRef KernelIdeal.spec1 w = b → (KernelIdeal.cfg1.win w).isOut = false) :
    W30 m ρ c (Proc.devRef .tc b) = W16 m ρ c (Proc.devRef .tc b) := by
  obtain ⟨h0, h1, h2, h3, h4, h5, h6, h7, h8, h9, h10, h11, h12⟩ := h
  rw [W30_of m ρ c b h', W29_of m ρ c b h12, W28_of m ρ c b h11, W27_of m ρ c b h10, W26_of m ρ c b h9, W25_of m ρ c b h8, W24_of m ρ c b h7, W23_of m ρ c b h6, W22_of m ρ c b h5, W21_of m ρ c b h4, W20_of m ρ c b h3, W19_of m ρ c b h2, W18_of m ρ c b h1, W17_of m ρ c b h0]

/-- Stage 1, the launch included. -/
theorem pass1 (b : Ref KernelIdeal.sig .tc) (h : b ∉ hostOps1_W ∧ b ∉ hostOps1_1_W ∧ b ∉ hostOps1_2_W ∧ b ∉ hostOps1_3_W ∧ b ∉ hostOps1_4_W ∧ b ∉ hostOps1_5_W ∧ b ∉ hostOps1_6_W ∧ b ∉ hostOps1_7_W ∧ b ∉ hostOps1_8_W ∧ b ∉ hostOps1_9_W ∧ b ∉ hostOps1_10_W ∧ b ∉ hostOps1_11_W ∧ b ∉ hostOps1_12_W ∧ b ∉ hostOps1_13_W)
    (h' : ∀ w : Fin KernelIdeal.cfg1.W, Pipeline.arrRef KernelIdeal.spec1 w = b → (KernelIdeal.cfg1.win w).isOut = false) :
    W30 m ρ c (Proc.devRef .tc b) = W15 m ρ c (Proc.devRef .tc b) := by
  obtain ⟨h0, h1, h2, h3, h4, h5, h6, h7, h8, h9, h10, h11, h12, h13⟩ := h
  rw [W30_of m ρ c b h', W29_of m ρ c b h13, W28_of m ρ c b h12, W27_of m ρ c b h11, W26_of m ρ c b h10, W25_of m ρ c b h9, W24_of m ρ c b h8, W23_of m ρ c b h7, W22_of m ρ c b h6, W21_of m ρ c b h5, W20_of m ρ c b h4, W19_of m ρ c b h3, W18_of m ρ c b h2, W17_of m ρ c b h1, W16_of m ρ c b h0]

/-- Stage 2 after its distances, the launch included. -/
theorem rest2 (b : Ref KernelIdeal.sig .tc) (h : b ∉ hostOps2_1_W ∧ b ∉ hostOps2_2_W ∧ b ∉ hostOps2_3_W ∧ b ∉ hostOps2_4_W ∧ b ∉ hostOps2_5_W ∧ b ∉ hostOps2_6_W ∧ b ∉ hostOps2_7_W ∧ b ∉ hostOps2_8_W ∧ b ∉ hostOps2_9_W ∧ b ∉ hostOps2_10_W ∧ b ∉ hostOps2_11_W ∧ b ∉ hostOps2_12_W ∧ b ∉ hostOps2_13_W)
    (h' : ∀ w : Fin KernelIdeal.cfg2.W, Pipeline.arrRef KernelIdeal.spec2 w = b → (KernelIdeal.cfg2.win w).isOut = false) :
    W45 m ρ c (Proc.devRef .tc b) = W31 m ρ c (Proc.devRef .tc b) := by
  obtain ⟨h0, h1, h2, h3, h4, h5, h6, h7, h8, h9, h10, h11, h12⟩ := h
  rw [W45_of m ρ c b h', W44_of m ρ c b h12, W43_of m ρ c b h11, W42_of m ρ c b h10, W41_of m ρ c b h9, W40_of m ρ c b h8, W39_of m ρ c b h7, W38_of m ρ c b h6, W37_of m ρ c b h5, W36_of m ρ c b h4, W35_of m ρ c b h3, W34_of m ρ c b h2, W33_of m ρ c b h1, W32_of m ρ c b h0]

/-- Stage 2, the launch included. -/
theorem pass2 (b : Ref KernelIdeal.sig .tc) (h : b ∉ hostOps2_W ∧ b ∉ hostOps2_1_W ∧ b ∉ hostOps2_2_W ∧ b ∉ hostOps2_3_W ∧ b ∉ hostOps2_4_W ∧ b ∉ hostOps2_5_W ∧ b ∉ hostOps2_6_W ∧ b ∉ hostOps2_7_W ∧ b ∉ hostOps2_8_W ∧ b ∉ hostOps2_9_W ∧ b ∉ hostOps2_10_W ∧ b ∉ hostOps2_11_W ∧ b ∉ hostOps2_12_W ∧ b ∉ hostOps2_13_W)
    (h' : ∀ w : Fin KernelIdeal.cfg2.W, Pipeline.arrRef KernelIdeal.spec2 w = b → (KernelIdeal.cfg2.win w).isOut = false) :
    W45 m ρ c (Proc.devRef .tc b) = W30 m ρ c (Proc.devRef .tc b) := by
  obtain ⟨h0, h1, h2, h3, h4, h5, h6, h7, h8, h9, h10, h11, h12, h13⟩ := h
  rw [W45_of m ρ c b h', W44_of m ρ c b h13, W43_of m ρ c b h12, W42_of m ρ c b h11, W41_of m ρ c b h10, W40_of m ρ c b h9, W39_of m ρ c b h8, W38_of m ρ c b h7, W37_of m ρ c b h6, W36_of m ρ c b h5, W35_of m ρ c b h4, W34_of m ρ c b h3, W33_of m ρ c b h2, W32_of m ρ c b h1, W31_of m ρ c b h0]

/-- Stage 3 after its distances, the launch included. -/
theorem rest3 (b : Ref KernelIdeal.sig .tc) (h : b ∉ hostOps3_1_W ∧ b ∉ hostOps3_2_W ∧ b ∉ hostOps3_3_W ∧ b ∉ hostOps3_4_W ∧ b ∉ hostOps3_5_W ∧ b ∉ hostOps3_6_W ∧ b ∉ hostOps3_7_W ∧ b ∉ hostOps3_8_W ∧ b ∉ hostOps3_9_W ∧ b ∉ hostOps3_10_W ∧ b ∉ hostOps3_11_W ∧ b ∉ hostOps3_12_W ∧ b ∉ hostOps3_13_W)
    (h' : ∀ w : Fin KernelIdeal.cfg3.W, Pipeline.arrRef KernelIdeal.spec3 w = b → (KernelIdeal.cfg3.win w).isOut = false) :
    W60 m ρ c (Proc.devRef .tc b) = W46 m ρ c (Proc.devRef .tc b) := by
  obtain ⟨h0, h1, h2, h3, h4, h5, h6, h7, h8, h9, h10, h11, h12⟩ := h
  rw [W60_of m ρ c b h', W59_of m ρ c b h12, W58_of m ρ c b h11, W57_of m ρ c b h10, W56_of m ρ c b h9, W55_of m ρ c b h8, W54_of m ρ c b h7, W53_of m ρ c b h6, W52_of m ρ c b h5, W51_of m ρ c b h4, W50_of m ρ c b h3, W49_of m ρ c b h2, W48_of m ρ c b h1, W47_of m ρ c b h0]

/-- Stage 3, the launch included. -/
theorem pass3 (b : Ref KernelIdeal.sig .tc) (h : b ∉ hostOps3_W ∧ b ∉ hostOps3_1_W ∧ b ∉ hostOps3_2_W ∧ b ∉ hostOps3_3_W ∧ b ∉ hostOps3_4_W ∧ b ∉ hostOps3_5_W ∧ b ∉ hostOps3_6_W ∧ b ∉ hostOps3_7_W ∧ b ∉ hostOps3_8_W ∧ b ∉ hostOps3_9_W ∧ b ∉ hostOps3_10_W ∧ b ∉ hostOps3_11_W ∧ b ∉ hostOps3_12_W ∧ b ∉ hostOps3_13_W)
    (h' : ∀ w : Fin KernelIdeal.cfg3.W, Pipeline.arrRef KernelIdeal.spec3 w = b → (KernelIdeal.cfg3.win w).isOut = false) :
    W60 m ρ c (Proc.devRef .tc b) = W45 m ρ c (Proc.devRef .tc b) := by
  obtain ⟨h0, h1, h2, h3, h4, h5, h6, h7, h8, h9, h10, h11, h12, h13⟩ := h
  rw [W60_of m ρ c b h', W59_of m ρ c b h13, W58_of m ρ c b h12, W57_of m ρ c b h11, W56_of m ρ c b h10, W55_of m ρ c b h9, W54_of m ρ c b h8, W53_of m ρ c b h7, W52_of m ρ c b h6, W51_of m ρ c b h5, W50_of m ρ c b h4, W49_of m ρ c b h3, W48_of m ρ c b h2, W47_of m ρ c b h1, W46_of m ρ c b h0]

/-- Stage 4 after its distances, the launch included. -/
theorem rest4 (b : Ref KernelIdeal.sig .tc) (h : b ∉ hostOps4_1_W ∧ b ∉ hostOps4_2_W ∧ b ∉ hostOps4_3_W)
    (h' : ∀ w : Fin KernelIdeal.cfg4.W, Pipeline.arrRef KernelIdeal.spec4 w = b → (KernelIdeal.cfg4.win w).isOut = false) :
    W65 m ρ c (Proc.devRef .tc b) = W61 m ρ c (Proc.devRef .tc b) := by
  obtain ⟨h0, h1, h2⟩ := h
  rw [W65_of m ρ c b h', W64_of m ρ c b h2, W63_of m ρ c b h1, W62_of m ρ c b h0]

/-- Stage 4, the launch included. -/
theorem pass4 (b : Ref KernelIdeal.sig .tc) (h : b ∉ hostOps4_W ∧ b ∉ hostOps4_1_W ∧ b ∉ hostOps4_2_W ∧ b ∉ hostOps4_3_W)
    (h' : ∀ w : Fin KernelIdeal.cfg4.W, Pipeline.arrRef KernelIdeal.spec4 w = b → (KernelIdeal.cfg4.win w).isOut = false) :
    W65 m ρ c (Proc.devRef .tc b) = W60 m ρ c (Proc.devRef .tc b) := by
  obtain ⟨h0, h1, h2, h3⟩ := h
  rw [W65_of m ρ c b h', W64_of m ρ c b h3, W63_of m ρ c b h2, W62_of m ρ c b h1, W61_of m ρ c b h0]

end Cert.Stages

end
-- ==== Proof.Entry.lean ====
/-
  What the two programs agree on between two stages.
-/
module

public import proofs.«01_k».proof.Proof.Keep

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- After 1 stages. -/
def Entry1 (aw : T ReferenceIdeal.S5x32x32x3x3 .f32) : Prop :=
  ∃ (x f g : Img) (o : T KernelIdeal.S32x8192 .f32) (a l : T ReferenceIdeal.S_ .f32),
    W15 m ρ c (Proc.devRef .tc KernelIdeal.main_v112) = x ∧ S V 239 (Proc.devRef .tc ReferenceIdeal.main_v106) = halfOf x
    ∧ W15 m ρ c (Proc.devRef .tc KernelIdeal.main_v121) = o ∧ S V 239 (Proc.devRef .tc ReferenceIdeal.main_v165) = imgOf o
    ∧ W15 m ρ c (Proc.devRef .tc KernelIdeal.main_v2) = f ∧ S V 239 (Proc.devRef .tc ReferenceIdeal.main_v0) = f
    ∧ W15 m ρ c (Proc.devRef .tc KernelIdeal.main_arg0) = g ∧ S V 239 (Proc.devRef .tc ReferenceIdeal.main_arg0) = g
    ∧ W15 m ρ c (Proc.devRef .tc KernelIdeal.main_v38) = plus zero l ∧ S V 239 (Proc.devRef .tc ReferenceIdeal.main_v34) = l
    ∧ W15 m ρ c (Proc.devRef .tc KernelIdeal.main_v1) = rowsOf aw

/-- After 2 stages. -/
def Entry2 (aw : T ReferenceIdeal.S5x32x32x3x3 .f32) : Prop :=
  ∃ (x f g : Img) (o : T KernelIdeal.S32x8192 .f32) (a l : T ReferenceIdeal.S_ .f32),
    W30 m ρ c (Proc.devRef .tc KernelIdeal.main_v243) = x ∧ S V 488 (Proc.devRef .tc ReferenceIdeal.main_v279) = halfOf x
    ∧ W30 m ρ c (Proc.devRef .tc KernelIdeal.main_v252) = o ∧ S V 488 (Proc.devRef .tc ReferenceIdeal.main_v338) = imgOf o
    ∧ W30 m ρ c (Proc.devRef .tc KernelIdeal.main_v130) = f ∧ S V 488 (Proc.devRef .tc ReferenceIdeal.main_v169) = f
    ∧ W30 m ρ c (Proc.devRef .tc KernelIdeal.main_v131) = g ∧ S V 488 (Proc.devRef .tc ReferenceIdeal.main_v170) = g
    ∧ W30 m ρ c (Proc.devRef .tc KernelIdeal.main_v167) = plus a l ∧ S V 488 (Proc.devRef .tc ReferenceIdeal.main_v205) = l ∧ S V 488 (Proc.devRef .tc ReferenceIdeal.main_v171) = a
    ∧ W30 m ρ c (Proc.devRef .tc KernelIdeal.main_v1) = rowsOf aw

/-- After 3 stages. -/
def Entry3 (aw : T ReferenceIdeal.S5x32x32x3x3 .f32) : Prop :=
  ∃ (x f g : Img) (o : T KernelIdeal.S32x8192 .f32) (a l : T ReferenceIdeal.S_ .f32),
    W45 m ρ c (Proc.devRef .tc KernelIdeal.main_v374) = x ∧ S V 736 (Proc.devRef .tc ReferenceIdeal.main_v452) = halfOf x
    ∧ W45 m ρ c (Proc.devRef .tc KernelIdeal.main_v383) = o ∧ S V 736 (Proc.devRef .tc ReferenceIdeal.main_v511) = imgOf o
    ∧ W45 m ρ c (Proc.devRef .tc KernelIdeal.main_v261) = f ∧ S V 736 (Proc.devRef .tc ReferenceIdeal.main_v342) = f
    ∧ W45 m ρ c (Proc.devRef .tc KernelIdeal.main_v262) = g ∧ S V 736 (Proc.devRef .tc ReferenceIdeal.main_v343) = g
    ∧ W45 m ρ c (Proc.devRef .tc KernelIdeal.main_v298) = plus a l ∧ S V 736 (Proc.devRef .tc ReferenceIdeal.main_v378) = l ∧ S V 736 (Proc.devRef .tc ReferenceIdeal.main_v344) = a
    ∧ W45 m ρ c (Proc.devRef .tc KernelIdeal.main_v1) = rowsOf aw

/-- After 4 stages. -/
def Entry4 (aw : T ReferenceIdeal.S5x32x32x3x3 .f32) : Prop :=
  ∃ (x f g : Img) (o : T KernelIdeal.S32x8192 .f32) (a l : T ReferenceIdeal.S_ .f32),
    W60 m ρ c (Proc.devRef .tc KernelIdeal.main_v505) = x ∧ S V 984 (Proc.devRef .tc ReferenceIdeal.main_v625) = halfOf x
    ∧ W60 m ρ c (Proc.devRef .tc KernelIdeal.main_v514) = o ∧ S V 984 (Proc.devRef .tc ReferenceIdeal.main_v684) = imgOf o
    ∧ W60 m ρ c (Proc.devRef .tc KernelIdeal.main_v392) = f ∧ S V 984 (Proc.devRef .tc ReferenceIdeal.main_v515) = f
    ∧ W60 m ρ c (Proc.devRef .tc KernelIdeal.main_v393) = g ∧ S V 984 (Proc.devRef .tc ReferenceIdeal.main_v516) = g
    ∧ W60 m ρ c (Proc.devRef .tc KernelIdeal.main_v429) = plus a l ∧ S V 984 (Proc.devRef .tc ReferenceIdeal.main_v551) = l ∧ S V 984 (Proc.devRef .tc ReferenceIdeal.main_v517) = a
    ∧ W60 m ρ c (Proc.devRef .tc KernelIdeal.main_v1) = rowsOf aw

/-- After 5 stages. -/
def Entry5 (aw : T ReferenceIdeal.S5x32x32x3x3 .f32) : Prop :=
  ∃ (x f g : Img) (o : T KernelIdeal.S32x8192 .f32) (a l : T ReferenceIdeal.S_ .f32),
    W65 m ρ c (Proc.devRef .tc KernelIdeal.main_v558) = x ∧ S V 1127 (Proc.devRef .tc ReferenceIdeal.main_v729) = halfOf x
    ∧ W65 m ρ c (Proc.devRef .tc KernelIdeal.main_v567) = o ∧ S V 1127 (Proc.devRef .tc ReferenceIdeal.main_v788) = imgOf o
    ∧ W65 m ρ c (Proc.devRef .tc KernelIdeal.main_v523) = f ∧ S V 1127 (Proc.devRef .tc ReferenceIdeal.main_v688) = f
    ∧ W65 m ρ c (Proc.devRef .tc KernelIdeal.main_v524) = g ∧ S V 1127 (Proc.devRef .tc ReferenceIdeal.main_v689) = g
    ∧ W65 m ρ c (Proc.devRef .tc KernelIdeal.main_v556) = plus a l ∧ S V 1127 (Proc.devRef .tc ReferenceIdeal.main_v720) = l ∧ S V 1127 (Proc.devRef .tc ReferenceIdeal.main_v690) = a
    ∧ W65 m ρ c (Proc.devRef .tc KernelIdeal.main_v1) = rowsOf aw

end Cert.Stages

end
-- ==== Proof.Stage0.lean ====
/-
  Stage 0 of the quantizer, scale 1: over any contents of the two programs' buffers that agree on what the stage
  reads, the two programs' operations leave contents that agree.
-/
module

public import proofs.«01_k».proof.Proof.Forms

@[expose] public section

set_option maxRecDepth 16384
set_option maxHeartbeats 1000000

noncomputable section

namespace Cert.Stages.S0

open Idealize.ShloMosaic Idealize.SL.Sem Idealize.ShloMosaic.StableHlo Cert Cert.KernelIdeal.Gen

/-- The area means and the distances to the codebook. -/
theorem head (V : KV) (U : RV) {z : Img} {c : T ReferenceIdeal.S4096x32 .f32}
    (k0 : V (Proc.devRef .tc KernelIdeal.main_arg0) = z) (r0 : U (Proc.devRef .tc ReferenceIdeal.main_arg0) = z)
    (k1 : V (Proc.devRef .tc KernelIdeal.main_arg1) = c) (r1 : U (Proc.devRef .tc ReferenceIdeal.main_arg1) = c) :
    after hostOps0 V (Proc.devRef .tc KernelIdeal.main_v2) = after (seg 0 27) U (Proc.devRef .tc ReferenceIdeal.main_v0)
    ∧ after hostOps0 V (Proc.devRef .tc KernelIdeal.main_v6) = after (seg 0 27) U (Proc.devRef .tc ReferenceIdeal.main_v4)
    ∧ after hostOps0 V (Proc.devRef .tc KernelIdeal.main_v22) = after (seg 0 27) U (Proc.devRef .tc ReferenceIdeal.main_v20) := by
  refine ⟨?_, ?_, ?_⟩ <;> (after_reads_simp; try simp only [k0, r0, k1, r1]) <;> rfl

/-- The filters, laid out for the kernel's convolution. -/
theorem rows (V : KV) {a : T ReferenceIdeal.S5x32x32x3x3 .f32} (k0 : V (Proc.devRef .tc KernelIdeal.main_arg2) = a) :
    after hostOps0 V (Proc.devRef .tc KernelIdeal.main_v1) = rowsOf a := by
  after_reads_simp
  simp only [k0]
  rfl

/-- The nearest entries. -/
theorem nearest (V : KV) (U : RV) {d : T ReferenceIdeal.S32x4096 .f32}
    (k0 : V (Proc.devRef .tc KernelIdeal.main_v22) = d) (r0 : U (Proc.devRef .tc ReferenceIdeal.main_v20) = d) :
    after hostOps0_1 V (Proc.devRef .tc KernelIdeal.main_v23) = after (seg 27 32) U (Proc.devRef .tc ReferenceIdeal.main_v21) := by
  after_reads_simp
  simp -implicitDefEqProofs only [TRef.toBuf, TRef.ofBuf, cast_cast, cast_eq, k0, r0]
  rfl

/-- The entries taken from the codebook. -/
theorem taken (V : KV) (U : RV) {i : T ReferenceIdeal.S32 .i32} {c : T ReferenceIdeal.S4096x32 .f32}
    (k0 : V (Proc.devRef .tc KernelIdeal.main_v23) = i) (r0 : U (Proc.devRef .tc ReferenceIdeal.main_v21) = i)
    (k1 : V (Proc.devRef .tc KernelIdeal.main_arg1) = c) (r1 : U (Proc.devRef .tc ReferenceIdeal.main_arg1) = c) :
    after hostOps0_2 V (Proc.devRef .tc KernelIdeal.main_v24) = after (seg 32 55) U (Proc.devRef .tc ReferenceIdeal.main_v22) := by
  after_reads_simp
  simp -implicitDefEqProofs only [TRef.toBuf, TRef.ofBuf, cast_cast, cast_eq, k0, r0, k1, r1]
  rfl

/-- The kernel program's buffers from the loss to the table of weights. -/
abbrev table (V : KV) : KV := after hostOps0_12 (after hostOps0_11 (after hostOps0_10 (after hostOps0_9 (after hostOps0_8 (after hostOps0_7 (after hostOps0_6 (after hostOps0_5 (after hostOps0_4 (after hostOps0_3 V)))))))))

/-- The indices, the quantized values and the loss. -/
theorem losses (V : KV) (U : RV) {z : T ReferenceIdeal.S32x32x1x1 .f32} {q : T ReferenceIdeal.S32x32 .f32} {i : T ReferenceIdeal.S32 .i32} (k0 : V (Proc.devRef .tc KernelIdeal.main_v23) = i) (r0 : U (Proc.devRef .tc ReferenceIdeal.main_v21) = i)
    (k1 : V (Proc.devRef .tc KernelIdeal.main_v6) = z) (r1 : U (Proc.devRef .tc ReferenceIdeal.main_v4) = z)
    (k2 : V (Proc.devRef .tc KernelIdeal.main_v24) = q) (r2 : U (Proc.devRef .tc ReferenceIdeal.main_v22) = q) :
    table V (Proc.devRef .tc KernelIdeal.main_v37) = after (seg 55 167) U (Proc.devRef .tc ReferenceIdeal.main_v37)
    ∧ table V (Proc.devRef .tc KernelIdeal.main_v40) = after (seg 55 167) U (Proc.devRef .tc ReferenceIdeal.main_v36)
    ∧ table V (Proc.devRef .tc KernelIdeal.main_v38) = plus zero (after (seg 55 167) U (Proc.devRef .tc ReferenceIdeal.main_v34)) := by
  refine ⟨?_, ?_, ?_⟩ <;> (after_reads_simp; simp only [k0, r0, k1, r1, k2, r2]) <;> rfl

/-- The table of weights. -/
theorem weights (V : KV) (U : RV) :
    table V (Proc.devRef .tc KernelIdeal.main_v100) = after (seg 55 167) U (Proc.devRef .tc ReferenceIdeal.main_v97) := by
  after_reads_simp

/-- The values upsampled: sums of products on one side, contractions on the other. -/
theorem upsampled (V : KV) (U : RV) {z : T ReferenceIdeal.S32x32x1x1 .f32} {w : T ReferenceIdeal.S1x16 .f32}
    (k0 : V (Proc.devRef .tc KernelIdeal.main_v40) = z) (r0 : U (Proc.devRef .tc ReferenceIdeal.main_v36) = z)
    (k1 : V (Proc.devRef .tc KernelIdeal.main_v100) = w) (r1 : U (Proc.devRef .tc ReferenceIdeal.main_v97) = w) :
    after (hostOps0_13.take 14) V (Proc.devRef .tc KernelIdeal.main_v112) = after (seg 167 170) U (Proc.devRef .tc ReferenceIdeal.main_v100) := by
  after_reads_simp
  simp only [k0, r0, k1, r1]
  funext j
  pointwise
  simp [mul_comm]

/-- This stage's filter. -/
def filter (a : T ReferenceIdeal.S5x32x32x3x3 .f32) : T ReferenceIdeal.S32x32x3x3 .f32 :=
  shapeCast ReferenceIdeal.S32x32x3x3 (extractStridedSlice ReferenceIdeal.S1x32x32x3x3 ![0, 0, 0, 0, 0] a (by decide)) (by decide)
/-- This stage's offsets. -/
def offsets (b : T ReferenceIdeal.S5x32 .f32) : T ReferenceIdeal.S32 .f32 :=
  shapeCast ReferenceIdeal.S32 (extractStridedSlice ReferenceIdeal.S1x32 ![0, 0] b (by decide)) (by decide)

/-- This stage's filter in the kernel's layout. -/
theorem row (a : T ReferenceIdeal.S5x32x32x3x3 .f32) :
    (shapeCast KernelIdeal.S32x288 (extractStridedSlice KernelIdeal.S1x32x288 ![0, 0, 0] (rowsOf a) (by decide)) (by decide)
      : T KernelIdeal.S32x288 .f32) = rowOf (filter a) := by
  unfold rowsOf filter
  funext j
  unfold rowOf
  pointwise

/-- The convolution's operands. -/
theorem operands (V : KV) {x : Img} {a : T ReferenceIdeal.S5x32x32x3x3 .f32} {b : T ReferenceIdeal.S5x32 .f32}
    (k0 : V (Proc.devRef .tc KernelIdeal.main_v112) = x) (k1 : V (Proc.devRef .tc KernelIdeal.main_v1) = rowsOf a) (k2 : V (Proc.devRef .tc KernelIdeal.main_arg3) = b) :
    after (hostOps0_13.drop 14) V (Proc.devRef .tc KernelIdeal.main_v120) = flatOf x
    ∧ after (hostOps0_13.drop 14) V (Proc.devRef .tc KernelIdeal.main_v115) = rowOf (filter a)
    ∧ after (hostOps0_13.drop 14) V (Proc.devRef .tc KernelIdeal.main_v118) = colOf (offsets b)
    ∧ after (hostOps0_13.drop 14) V (Proc.devRef .tc KernelIdeal.main_v112) = x := by
  refine ⟨?_, ?_, ?_, ?_⟩
  · after_reads_simp; simp only [k0]; rfl
  · rw [← row a]; after_reads_simp; simp only [k1]; rfl
  · after_reads_simp; simp only [k2]; rfl
  · after_reads_simp; exact k0

/-- The reference's convolution. -/
theorem conv (U : RV) {x : Img} {a : T ReferenceIdeal.S5x32x32x3x3 .f32} {b : T ReferenceIdeal.S5x32 .f32}
    (r0 : U (Proc.devRef .tc ReferenceIdeal.main_v100) = x) (r1 : U (Proc.devRef .tc ReferenceIdeal.main_arg2) = a) (r2 : U (Proc.devRef .tc ReferenceIdeal.main_arg3) = b) :
    after (seg 170 239) U (Proc.devRef .tc ReferenceIdeal.main_v106) = halfOf x
    ∧ after (seg 170 239) U (Proc.devRef .tc ReferenceIdeal.main_v165) = convOf x (filter a) (offsets b) := by
  refine ⟨?_, ?_⟩ <;> after_reads_simp
  · simp only [r0]; rfl
  · simp -implicitDefEqProofs only [TRef.toBuf, TRef.ofBuf, cast_cast, cast_eq, r0, r1, r2]; rfl

end Cert.Stages.S0

end
-- ==== Proof.Chain0.lean ====
/-
  Stage 0 from its entry to the next.
-/
module

public import proofs.«01_k».proof.Proof.Entry
public import proofs.«01_k».proof.Proof.Stage0

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- Stage 0: what the next one reads, and the indices. -/
theorem chain0 {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b) :
    Entry1 m ρ c V aw ∧ W15 m ρ c (Proc.devRef .tc KernelIdeal.main_v37) = S V 167 (Proc.devRef .tc ReferenceIdeal.main_v37) := by
  have hh := S0.head (W0 m ρ c) (S V 0) ((W0_args m ρ c KernelIdeal.main_arg0 (by simp)).trans k0) r0 ((W0_args m ρ c KernelIdeal.main_arg1 (by simp)).trans k1) r1
  rw [← S_seg V (m := 0) (n := 27) (by decide)] at hh
  obtain ⟨hf, hz, hd⟩ := hh
  obtain ⟨f, rf⟩ : ∃ x : Img, S V 27 (Proc.devRef .tc ReferenceIdeal.main_v0) = x := ⟨_, rfl⟩
  replace hf := hf.trans rf
  have hv1 : W1 m ρ c (Proc.devRef .tc KernelIdeal.main_v1) = rowsOf aw := S0.rows (W0 m ρ c) ((W0_args m ρ c KernelIdeal.main_arg2 (by simp)).trans k2)
  obtain ⟨z1, rz⟩ : ∃ x : T ReferenceIdeal.S32x32x1x1 .f32, S V 27 (Proc.devRef .tc ReferenceIdeal.main_v4) = x := ⟨_, rfl⟩
  replace hz := hz.trans rz
  obtain ⟨d, rd⟩ : ∃ x : T ReferenceIdeal.S32x4096 .f32, S V 27 (Proc.devRef .tc ReferenceIdeal.main_v20) = x := ⟨_, rfl⟩
  replace hd := hd.trans rd
  have hi := S0.nearest (W1 m ρ c) (S V 27) hd rd
  rw [← S_seg V (m := 27) (n := 32) (by decide)] at hi
  obtain ⟨i, ri⟩ : ∃ x : T ReferenceIdeal.S32 .i32, S V 32 (Proc.devRef .tc ReferenceIdeal.main_v21) = x := ⟨_, rfl⟩
  replace hi := hi.trans ri
  have ht := S0.taken (W2 m ρ c) (S V 32) hi ri ((W2_args m ρ c KernelIdeal.main_arg1 (by simp)).trans k1) ((args_at V 32 ReferenceIdeal.main_arg1 (by simp)).trans r1)
  rw [← S_seg V (m := 32) (n := 55) (by decide)] at ht
  obtain ⟨q, rq⟩ : ∃ x : T ReferenceIdeal.S32x32 .f32, S V 55 (Proc.devRef .tc ReferenceIdeal.main_v22) = x := ⟨_, rfl⟩
  replace ht := ht.trans rq
  have hl := S0.losses (W3 m ρ c) (S V 55)
    ((W3_of m ρ c KernelIdeal.main_v23 (by decide)).trans hi) ((S_keep V (m := 32) (n := 55) (by decide) (Proc.devRef .tc ReferenceIdeal.main_v21) (by decide +kernel)).trans ri)
    (((W3_of m ρ c KernelIdeal.main_v6 (by decide)).trans (W2_of m ρ c KernelIdeal.main_v6 (by decide))).trans hz) ((S_keep V (m := 27) (n := 55) (by decide) (Proc.devRef .tc ReferenceIdeal.main_v4) (by decide +kernel)).trans rz) ht rq
  rw [← S_seg V (m := 55) (n := 167) (by decide)] at hl
  obtain ⟨hres, hzq, hacc⟩ := hl
  obtain ⟨l, rl⟩ : ∃ x : T ReferenceIdeal.S_ .f32, S V 167 (Proc.devRef .tc ReferenceIdeal.main_v34) = x := ⟨_, rfl⟩
  rw [rl] at hacc
  obtain ⟨y, ry⟩ : ∃ x : T ReferenceIdeal.S32x32x1x1 .f32, S V 167 (Proc.devRef .tc ReferenceIdeal.main_v36) = x := ⟨_, rfl⟩
  replace hzq := hzq.trans ry
  have hw := S0.weights (W3 m ρ c) (S V 55)
  rw [← S_seg V (m := 55) (n := 167) (by decide)] at hw
  obtain ⟨w, rw1⟩ : ∃ x : T ReferenceIdeal.S1x16 .f32, S V 167 (Proc.devRef .tc ReferenceIdeal.main_v97) = x := ⟨_, rfl⟩
  replace hw := hw.trans rw1
  have hx := S0.upsampled (W13 m ρ c) (S V 167) hzq ry hw rw1
  rw [← S_seg V (m := 167) (n := 170) (by decide)] at hx
  obtain ⟨x, rx⟩ : ∃ x : Img, S V 170 (Proc.devRef .tc ReferenceIdeal.main_v100) = x := ⟨_, rfl⟩
  replace hx := hx.trans rx
  have hop := S0.operands (after (hostOps0_13.take 14) (W13 m ρ c)) hx (((kept (hostOps0_13.take 14) _ (Proc.devRef .tc KernelIdeal.main_v1) (by decide +kernel)).trans ((W13_of m ρ c KernelIdeal.main_v1 (by decide)).trans ((W12_of m ρ c KernelIdeal.main_v1 (by decide)).trans ((W11_of m ρ c KernelIdeal.main_v1 (by decide)).trans ((W10_of m ρ c KernelIdeal.main_v1 (by decide)).trans ((W9_of m ρ c KernelIdeal.main_v1 (by decide)).trans ((W8_of m ρ c KernelIdeal.main_v1 (by decide)).trans ((W7_of m ρ c KernelIdeal.main_v1 (by decide)).trans ((W6_of m ρ c KernelIdeal.main_v1 (by decide)).trans ((W5_of m ρ c KernelIdeal.main_v1 (by decide)).trans ((W4_of m ρ c KernelIdeal.main_v1 (by decide)).trans ((W3_of m ρ c KernelIdeal.main_v1 (by decide)).trans (W2_of m ρ c KernelIdeal.main_v1 (by decide)))))))))))))).trans hv1) ((kept (hostOps0_13.take 14) _ (Proc.devRef .tc KernelIdeal.main_arg3) (by decide +kernel)).trans ((W13_args m ρ c KernelIdeal.main_arg3 (by simp)).trans k3))
  rw [← cut] at hop
  obtain ⟨hflat, hrow, hcol, hx'⟩ := hop
  have hout := region0 m ρ c hflat hrow hcol
  have hc := S0.conv (S V 170) rx ((args_at V 170 ReferenceIdeal.main_arg2 (by simp)).trans r2) ((args_at V 170 ReferenceIdeal.main_arg3 (by simp)).trans r3)
  rw [← S_seg V (m := 170) (n := 239) (by decide)] at hc
  obtain ⟨hhalf, hconv⟩ := hc
  rw [← conv_value] at hconv
  refine ⟨⟨x, f, z, _, l, l, (W15_of m ρ c KernelIdeal.main_v112 (by decide)).trans hx', hhalf, hout, hconv,
    (rest0 m ρ c KernelIdeal.main_v2 (by decide) (by decide)).trans hf, (S_keep V (m := 27) (n := 239) (by decide) (Proc.devRef .tc ReferenceIdeal.main_v0) (by decide +kernel)).trans rf,
    ((W15_args m ρ c KernelIdeal.main_arg0 (by simp)).trans k0), ((args_at V 239 ReferenceIdeal.main_arg0 (by simp)).trans r0),
    ((W15_of m ρ c KernelIdeal.main_v38 (by decide)).trans ((W14_of m ρ c KernelIdeal.main_v38 (by decide)).trans hacc)), (S_keep V (m := 167) (n := 239) (by decide) (Proc.devRef .tc ReferenceIdeal.main_v34) (by decide +kernel)).trans rl,
    ((rest0 m ρ c KernelIdeal.main_v1 (by decide) (by decide)).trans hv1)⟩, ?_⟩
  exact ((W15_of m ρ c KernelIdeal.main_v37 (by decide)).trans ((W14_of m ρ c KernelIdeal.main_v37 (by decide)).trans hres))

end Cert.Stages

end
-- ==== Proof.Stage1.lean ====
/-
  Stage 1 of the quantizer, scale 2: over any contents of the two programs' buffers that agree on what the stage
  reads, the two programs' operations leave contents that agree.
-/
module

public import proofs.«01_k».proof.Proof.Forms

@[expose] public section

set_option maxRecDepth 16384
set_option maxHeartbeats 1000000

noncomputable section

namespace Cert.Stages.S1

open Idealize.ShloMosaic Idealize.SL.Sem Idealize.ShloMosaic.StableHlo Cert Cert.KernelIdeal.Gen

/-- The sums so far, the area means of the rest and the distances to the codebook. -/
theorem head (V : KV) (U : RV) {x y f g : Img} {c : T ReferenceIdeal.S4096x32 .f32} {l : T ReferenceIdeal.S_ .f32}
    (k6 : V (Proc.devRef .tc KernelIdeal.main_v38) = plus zero l)
    (r6 : U (Proc.devRef .tc ReferenceIdeal.main_v34) = l)
    (k0 : V (Proc.devRef .tc KernelIdeal.main_v112) = x) (r0 : U (Proc.devRef .tc ReferenceIdeal.main_v106) = halfOf x)
    (k1 : V (Proc.devRef .tc KernelIdeal.main_v124) = y) (r1 : U (Proc.devRef .tc ReferenceIdeal.main_v165) = y)
    (k2 : V (Proc.devRef .tc KernelIdeal.main_v2) = f) (r2 : U (Proc.devRef .tc ReferenceIdeal.main_v0) = f)
    (k3 : V (Proc.devRef .tc KernelIdeal.main_arg0) = g) (r3 : U (Proc.devRef .tc ReferenceIdeal.main_arg0) = g)
    (k4 : V (Proc.devRef .tc KernelIdeal.main_arg1) = c) (r4 : U (Proc.devRef .tc ReferenceIdeal.main_arg1) = c) :
    after (hostOps1.drop 3) V (Proc.devRef .tc KernelIdeal.main_v38) = after (seg 239 272) U (Proc.devRef .tc ReferenceIdeal.main_v171)
    ∧ after (hostOps1.drop 3) V (Proc.devRef .tc KernelIdeal.main_v130) = after (seg 239 272) U (Proc.devRef .tc ReferenceIdeal.main_v169)
    ∧ after (hostOps1.drop 3) V (Proc.devRef .tc KernelIdeal.main_v131) = after (seg 239 272) U (Proc.devRef .tc ReferenceIdeal.main_v170)
    ∧ after (hostOps1.drop 3) V (Proc.devRef .tc KernelIdeal.main_v135) = after (seg 239 272) U (Proc.devRef .tc ReferenceIdeal.main_v175)
    ∧ after (hostOps1.drop 3) V (Proc.devRef .tc KernelIdeal.main_v151) = after (seg 239 272) U (Proc.devRef .tc ReferenceIdeal.main_v191) := by
  refine ⟨?_, ?_, ?_, ?_, ?_⟩ <;>
    (after_reads_simp; simp only [k0, r0, k1, r1, k2, r2, k3, r3, k4, r4, k6, r6]) <;> rfl

/-- The convolution's result as images. -/
theorem img (V : KV) {y : T KernelIdeal.S32x8192 .f32} (k0 : V (Proc.devRef .tc KernelIdeal.main_v121) = y) :
    after (hostOps1.take 3) V (Proc.devRef .tc KernelIdeal.main_v124) = imgOf y := by
  after_reads_simp
  simp only [k0]
  rfl

/-- The nearest entries. -/
theorem nearest (V : KV) (U : RV) {d : T ReferenceIdeal.S128x4096 .f32}
    (k0 : V (Proc.devRef .tc KernelIdeal.main_v151) = d) (r0 : U (Proc.devRef .tc ReferenceIdeal.main_v191) = d) :
    after hostOps1_1 V (Proc.devRef .tc KernelIdeal.main_v152) = after (seg 272 277) U (Proc.devRef .tc ReferenceIdeal.main_v192) := by
  after_reads_simp
  simp -implicitDefEqProofs only [TRef.toBuf, TRef.ofBuf, cast_cast, cast_eq, k0, r0]
  rfl

/-- The entries taken from the codebook. -/
theorem taken (V : KV) (U : RV) {i : T ReferenceIdeal.S128 .i32} {c : T ReferenceIdeal.S4096x32 .f32}
    (k0 : V (Proc.devRef .tc KernelIdeal.main_v152) = i) (r0 : U (Proc.devRef .tc ReferenceIdeal.main_v192) = i)
    (k1 : V (Proc.devRef .tc KernelIdeal.main_arg1) = c) (r1 : U (Proc.devRef .tc ReferenceIdeal.main_arg1) = c) :
    after hostOps1_2 V (Proc.devRef .tc KernelIdeal.main_v153) = after (seg 277 300) U (Proc.devRef .tc ReferenceIdeal.main_v193) := by
  after_reads_simp
  simp -implicitDefEqProofs only [TRef.toBuf, TRef.ofBuf, cast_cast, cast_eq, k0, r0, k1, r1]
  rfl

/-- The kernel program's buffers from the loss to the table of weights. -/
abbrev table (V : KV) : KV := after hostOps1_12 (after hostOps1_11 (after hostOps1_10 (after hostOps1_9 (after hostOps1_8 (after hostOps1_7 (after hostOps1_6 (after hostOps1_5 (after hostOps1_4 (after hostOps1_3 V)))))))))

/-- The indices, the quantized values and the loss. -/
theorem losses (V : KV) (U : RV) {z : T ReferenceIdeal.S32x32x2x2 .f32} {q : T ReferenceIdeal.S128x32 .f32} {i : T ReferenceIdeal.S128 .i32} {a : T ReferenceIdeal.S_ .f32}
    (k3 : V (Proc.devRef .tc KernelIdeal.main_v38) = a) (r3 : U (Proc.devRef .tc ReferenceIdeal.main_v171) = a)
    (k0 : V (Proc.devRef .tc KernelIdeal.main_v152) = i) (r0 : U (Proc.devRef .tc ReferenceIdeal.main_v192) = i)
    (k1 : V (Proc.devRef .tc KernelIdeal.main_v135) = z) (r1 : U (Proc.devRef .tc ReferenceIdeal.main_v175) = z)
    (k2 : V (Proc.devRef .tc KernelIdeal.main_v153) = q) (r2 : U (Proc.devRef .tc ReferenceIdeal.main_v193) = q) :
    table V (Proc.devRef .tc KernelIdeal.main_v166) = after (seg 300 416) U (Proc.devRef .tc ReferenceIdeal.main_v208)
    ∧ table V (Proc.devRef .tc KernelIdeal.main_v169) = after (seg 300 416) U (Proc.devRef .tc ReferenceIdeal.main_v207)
    ∧ table V (Proc.devRef .tc KernelIdeal.main_v167) = plus a (after (seg 300 416) U (Proc.devRef .tc ReferenceIdeal.main_v205)) := by
  refine ⟨?_, ?_, ?_⟩ <;> (after_reads_simp; simp only [k0, r0, k1, r1, k2, r2, k3]) <;> rfl

/-- The table of weights. -/
theorem weights (V : KV) (U : RV) :
    table V (Proc.devRef .tc KernelIdeal.main_v231) = after (seg 300 416) U (Proc.devRef .tc ReferenceIdeal.main_v270) := by
  after_reads_simp

/-- The values upsampled: sums of products on one side, contractions on the other. -/
theorem upsampled (V : KV) (U : RV) {z : T ReferenceIdeal.S32x32x2x2 .f32} {w : T ReferenceIdeal.S2x16 .f32}
    (k0 : V (Proc.devRef .tc KernelIdeal.main_v169) = z) (r0 : U (Proc.devRef .tc ReferenceIdeal.main_v207) = z)
    (k1 : V (Proc.devRef .tc KernelIdeal.main_v231) = w) (r1 : U (Proc.devRef .tc ReferenceIdeal.main_v270) = w) :
    after (hostOps1_13.take 14) V (Proc.devRef .tc KernelIdeal.main_v243) = after (seg 416 419) U (Proc.devRef .tc ReferenceIdeal.main_v273) := by
  after_reads_simp
  simp only [k0, r0, k1, r1]
  funext j
  pointwise
  exact Finset.sum_congr rfl fun b _ =>
    congrArg (· * _) (Finset.sum_congr rfl fun a _ => mul_comm _ _)

/-- This stage's filter. -/
def filter (a : T ReferenceIdeal.S5x32x32x3x3 .f32) : T ReferenceIdeal.S32x32x3x3 .f32 :=
  shapeCast ReferenceIdeal.S32x32x3x3 (extractStridedSlice ReferenceIdeal.S1x32x32x3x3 ![1, 0, 0, 0, 0] a (by decide)) (by decide)
/-- This stage's offsets. -/
def offsets (b : T ReferenceIdeal.S5x32 .f32) : T ReferenceIdeal.S32 .f32 :=
  shapeCast ReferenceIdeal.S32 (extractStridedSlice ReferenceIdeal.S1x32 ![1, 0] b (by decide)) (by decide)

/-- This stage's filter in the kernel's layout. -/
theorem row (a : T ReferenceIdeal.S5x32x32x3x3 .f32) :
    (shapeCast KernelIdeal.S32x288 (extractStridedSlice KernelIdeal.S1x32x288 ![1, 0, 0] (rowsOf a) (by decide)) (by decide)
      : T KernelIdeal.S32x288 .f32) = rowOf (filter a) := by
  unfold rowsOf filter
  funext j
  unfold rowOf
  pointwise

/-- The convolution's operands. -/
theorem operands (V : KV) {x : Img} {a : T ReferenceIdeal.S5x32x32x3x3 .f32} {b : T ReferenceIdeal.S5x32 .f32}
    (k0 : V (Proc.devRef .tc KernelIdeal.main_v243) = x) (k1 : V (Proc.devRef .tc KernelIdeal.main_v1) = rowsOf a) (k2 : V (Proc.devRef .tc KernelIdeal.main_arg3) = b) :
    after (hostOps1_13.drop 14) V (Proc.devRef .tc KernelIdeal.main_v251) = flatOf x
    ∧ after (hostOps1_13.drop 14) V (Proc.devRef .tc KernelIdeal.main_v246) = rowOf (filter a)
    ∧ after (hostOps1_13.drop 14) V (Proc.devRef .tc KernelIdeal.main_v249) = colOf (offsets b)
    ∧ after (hostOps1_13.drop 14) V (Proc.devRef .tc KernelIdeal.main_v243) = x := by
  refine ⟨?_, ?_, ?_, ?_⟩
  · after_reads_simp; simp only [k0]; rfl
  · rw [← row a]; after_reads_simp; simp only [k1]; rfl
  · after_reads_simp; simp only [k2]; rfl
  · after_reads_simp; exact k0

/-- The reference's convolution. -/
theorem conv (U : RV) {x : Img} {a : T ReferenceIdeal.S5x32x32x3x3 .f32} {b : T ReferenceIdeal.S5x32 .f32}
    (r0 : U (Proc.devRef .tc ReferenceIdeal.main_v273) = x) (r1 : U (Proc.devRef .tc ReferenceIdeal.main_arg2) = a) (r2 : U (Proc.devRef .tc ReferenceIdeal.main_arg3) = b) :
    after (seg 419 488) U (Proc.devRef .tc ReferenceIdeal.main_v279) = halfOf x
    ∧ after (seg 419 488) U (Proc.devRef .tc ReferenceIdeal.main_v338) = convOf x (filter a) (offsets b) := by
  refine ⟨?_, ?_⟩ <;> after_reads_simp
  · simp only [r0]; rfl
  · simp -implicitDefEqProofs only [TRef.toBuf, TRef.ofBuf, cast_cast, cast_eq, r0, r1, r2]; rfl

end Cert.Stages.S1

end
-- ==== Proof.Chain1.lean ====
/-
  Stage 1 from its entry to the next.
-/
module

public import proofs.«01_k».proof.Proof.Entry
public import proofs.«01_k».proof.Proof.Stage1

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- Stage 1: what the next one reads, and the indices. -/
theorem chain1 {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b)
    (h : Entry1 m ρ c V aw) :
    Entry2 m ρ c V aw ∧ W30 m ρ c (Proc.devRef .tc KernelIdeal.main_v166) = S V 416 (Proc.devRef .tc ReferenceIdeal.main_v208) := by
  obtain ⟨x0, f0, g0, o, a0, l0, kx0, rx0, ko, ro, kf0, rf0, kg0, rg0, kl, rl, hv1⟩ := h
  have hi := S1.img (W15 m ρ c) ko
  have hh := S1.head (after (hostOps1.take 3) (W15 m ρ c)) (S V 239) ((kept _ _ (Proc.devRef .tc KernelIdeal.main_v38) (by decide +kernel)).trans kl) rl
    ((kept _ _ (Proc.devRef .tc KernelIdeal.main_v112) (by decide +kernel)).trans kx0) rx0 hi ro ((kept _ _ (Proc.devRef .tc KernelIdeal.main_v2) (by decide +kernel)).trans kf0) rf0 ((kept _ _ (Proc.devRef .tc KernelIdeal.main_arg0) (by decide +kernel)).trans kg0) rg0
    ((kept _ _ (Proc.devRef .tc KernelIdeal.main_arg1) (by decide +kernel)).trans ((W15_args m ρ c KernelIdeal.main_arg1 (by simp)).trans k1)) ((args_at V 239 ReferenceIdeal.main_arg1 (by simp)).trans r1)
  rw [← cut, ← S_seg V (m := 239) (n := 272) (by decide)] at hh
  obtain ⟨ha, hf, hg, hz, hd⟩ := hh
  obtain ⟨f, rf⟩ : ∃ x : Img, S V 272 (Proc.devRef .tc ReferenceIdeal.main_v169) = x := ⟨_, rfl⟩
  replace hf := hf.trans rf
  obtain ⟨g, rg⟩ : ∃ x : Img, S V 272 (Proc.devRef .tc ReferenceIdeal.main_v170) = x := ⟨_, rfl⟩
  replace hg := hg.trans rg
  obtain ⟨a, ra⟩ : ∃ x : T ReferenceIdeal.S_ .f32, S V 272 (Proc.devRef .tc ReferenceIdeal.main_v171) = x := ⟨_, rfl⟩
  replace ha := ha.trans ra
  obtain ⟨z1, rz⟩ : ∃ x : T ReferenceIdeal.S32x32x2x2 .f32, S V 272 (Proc.devRef .tc ReferenceIdeal.main_v175) = x := ⟨_, rfl⟩
  replace hz := hz.trans rz
  obtain ⟨d, rd⟩ : ∃ x : T ReferenceIdeal.S128x4096 .f32, S V 272 (Proc.devRef .tc ReferenceIdeal.main_v191) = x := ⟨_, rfl⟩
  replace hd := hd.trans rd
  have hi := S1.nearest (W16 m ρ c) (S V 272) hd rd
  rw [← S_seg V (m := 272) (n := 277) (by decide)] at hi
  obtain ⟨i, ri⟩ : ∃ x : T ReferenceIdeal.S128 .i32, S V 277 (Proc.devRef .tc ReferenceIdeal.main_v192) = x := ⟨_, rfl⟩
  replace hi := hi.trans ri
  have ht := S1.taken (W17 m ρ c) (S V 277) hi ri ((W17_args m ρ c KernelIdeal.main_arg1 (by simp)).trans k1) ((args_at V 277 ReferenceIdeal.main_arg1 (by simp)).trans r1)
  rw [← S_seg V (m := 277) (n := 300) (by decide)] at ht
  obtain ⟨q, rq⟩ : ∃ x : T ReferenceIdeal.S128x32 .f32, S V 300 (Proc.devRef .tc ReferenceIdeal.main_v193) = x := ⟨_, rfl⟩
  replace ht := ht.trans rq
  have hl := S1.losses (W18 m ρ c) (S V 300)
    (((W18_of m ρ c KernelIdeal.main_v38 (by decide)).trans (W17_of m ρ c KernelIdeal.main_v38 (by decide))).trans ha) ((S_keep V (m := 272) (n := 300) (by decide) (Proc.devRef .tc ReferenceIdeal.main_v171) (by decide +kernel)).trans ra)
    ((W18_of m ρ c KernelIdeal.main_v152 (by decide)).trans hi) ((S_keep V (m := 277) (n := 300) (by decide) (Proc.devRef .tc ReferenceIdeal.main_v192) (by decide +kernel)).trans ri)
    (((W18_of m ρ c KernelIdeal.main_v135 (by decide)).trans (W17_of m ρ c KernelIdeal.main_v135 (by decide))).trans hz) ((S_keep V (m := 272) (n := 300) (by decide) (Proc.devRef .tc ReferenceIdeal.main_v175) (by decide +kernel)).trans rz) ht rq
  rw [← S_seg V (m := 300) (n := 416) (by decide)] at hl
  obtain ⟨hres, hzq, hacc⟩ := hl
  obtain ⟨l1, rl1⟩ : ∃ x : T ReferenceIdeal.S_ .f32, S V 416 (Proc.devRef .tc ReferenceIdeal.main_v205) = x := ⟨_, rfl⟩
  rw [rl1] at hacc
  obtain ⟨y, ry⟩ : ∃ x : T ReferenceIdeal.S32x32x2x2 .f32, S V 416 (Proc.devRef .tc ReferenceIdeal.main_v207) = x := ⟨_, rfl⟩
  replace hzq := hzq.trans ry
  have hw := S1.weights (W18 m ρ c) (S V 300)
  rw [← S_seg V (m := 300) (n := 416) (by decide)] at hw
  obtain ⟨w, rw1⟩ : ∃ x : T ReferenceIdeal.S2x16 .f32, S V 416 (Proc.devRef .tc ReferenceIdeal.main_v270) = x := ⟨_, rfl⟩
  replace hw := hw.trans rw1
  have hx := S1.upsampled (W28 m ρ c) (S V 416) hzq ry hw rw1
  rw [← S_seg V (m := 416) (n := 419) (by decide)] at hx
  obtain ⟨x, rx⟩ : ∃ x : Img, S V 419 (Proc.devRef .tc ReferenceIdeal.main_v273) = x := ⟨_, rfl⟩
  replace hx := hx.trans rx
  have hop := S1.operands (after (hostOps1_13.take 14) (W28 m ρ c)) hx (((kept (hostOps1_13.take 14) _ (Proc.devRef .tc KernelIdeal.main_v1) (by decide +kernel)).trans ((W28_of m ρ c KernelIdeal.main_v1 (by decide)).trans ((W27_of m ρ c KernelIdeal.main_v1 (by decide)).trans ((W26_of m ρ c KernelIdeal.main_v1 (by decide)).trans ((W25_of m ρ c KernelIdeal.main_v1 (by decide)).trans ((W24_of m ρ c KernelIdeal.main_v1 (by decide)).trans ((W23_of m ρ c KernelIdeal.main_v1 (by decide)).trans ((W22_of m ρ c KernelIdeal.main_v1 (by decide)).trans ((W21_of m ρ c KernelIdeal.main_v1 (by decide)).trans ((W20_of m ρ c KernelIdeal.main_v1 (by decide)).trans ((W19_of m ρ c KernelIdeal.main_v1 (by decide)).trans ((W18_of m ρ c KernelIdeal.main_v1 (by decide)).trans (W17_of m ρ c KernelIdeal.main_v1 (by decide)))))))))))))).trans ((W16_of m ρ c KernelIdeal.main_v1 (by decide)).trans hv1)) ((kept (hostOps1_13.take 14) _ (Proc.devRef .tc KernelIdeal.main_arg3) (by decide +kernel)).trans ((W28_args m ρ c KernelIdeal.main_arg3 (by simp)).trans k3))
  rw [← cut] at hop
  obtain ⟨hflat, hrow, hcol, hx'⟩ := hop
  have hout := region1 m ρ c hflat hrow hcol
  have hc := S1.conv (S V 419) rx ((args_at V 419 ReferenceIdeal.main_arg2 (by simp)).trans r2) ((args_at V 419 ReferenceIdeal.main_arg3 (by simp)).trans r3)
  rw [← S_seg V (m := 419) (n := 488) (by decide)] at hc
  obtain ⟨hhalf, hconv⟩ := hc
  rw [← conv_value] at hconv
  refine ⟨⟨x, f, g, _, a, l1, (W30_of m ρ c KernelIdeal.main_v243 (by decide)).trans hx', hhalf, hout, hconv,
    (rest1 m ρ c KernelIdeal.main_v130 (by decide) (by decide)).trans hf, (S_keep V (m := 272) (n := 488) (by decide) (Proc.devRef .tc ReferenceIdeal.main_v169) (by decide +kernel)).trans rf,
    ((rest1 m ρ c KernelIdeal.main_v131 (by decide) (by decide)).trans hg), ((S_keep V (m := 272) (n := 488) (by decide) (Proc.devRef .tc ReferenceIdeal.main_v170) (by decide +kernel)).trans rg),
    ((W30_of m ρ c KernelIdeal.main_v167 (by decide)).trans ((W29_of m ρ c KernelIdeal.main_v167 (by decide)).trans hacc)), (S_keep V (m := 416) (n := 488) (by decide) (Proc.devRef .tc ReferenceIdeal.main_v205) (by decide +kernel)).trans rl1, (S_keep V (m := 272) (n := 488) (by decide) (Proc.devRef .tc ReferenceIdeal.main_v171) (by decide +kernel)).trans ra,
    ((pass1 m ρ c KernelIdeal.main_v1 (by decide) (by decide)).trans hv1)⟩, ?_⟩
  exact ((W30_of m ρ c KernelIdeal.main_v166 (by decide)).trans ((W29_of m ρ c KernelIdeal.main_v166 (by decide)).trans hres))

end Cert.Stages

end
-- ==== Proof.Stage2.lean ====
/-
  Stage 2 of the quantizer, scale 4: over any contents of the two programs' buffers that agree on what the stage
  reads, the two programs' operations leave contents that agree.
-/
module

public import proofs.«01_k».proof.Proof.Forms

@[expose] public section

set_option maxRecDepth 16384
set_option maxHeartbeats 1000000

noncomputable section

namespace Cert.Stages.S2

open Idealize.ShloMosaic Idealize.SL.Sem Idealize.ShloMosaic.StableHlo Cert Cert.KernelIdeal.Gen

/-- The sums so far, the area means of the rest and the distances to the codebook. -/
theorem head (V : KV) (U : RV) {x y f g : Img} {c : T ReferenceIdeal.S4096x32 .f32} {a l : T ReferenceIdeal.S_ .f32}
    (k6 : V (Proc.devRef .tc KernelIdeal.main_v167) = plus a l)
    (r6 : U (Proc.devRef .tc ReferenceIdeal.main_v205) = l) (r7 : U (Proc.devRef .tc ReferenceIdeal.main_v171) = a)
    (k0 : V (Proc.devRef .tc KernelIdeal.main_v243) = x) (r0 : U (Proc.devRef .tc ReferenceIdeal.main_v279) = halfOf x)
    (k1 : V (Proc.devRef .tc KernelIdeal.main_v255) = y) (r1 : U (Proc.devRef .tc ReferenceIdeal.main_v338) = y)
    (k2 : V (Proc.devRef .tc KernelIdeal.main_v130) = f) (r2 : U (Proc.devRef .tc ReferenceIdeal.main_v169) = f)
    (k3 : V (Proc.devRef .tc KernelIdeal.main_v131) = g) (r3 : U (Proc.devRef .tc ReferenceIdeal.main_v170) = g)
    (k4 : V (Proc.devRef .tc KernelIdeal.main_arg1) = c) (r4 : U (Proc.devRef .tc ReferenceIdeal.main_arg1) = c) :
    after (hostOps2.drop 3) V (Proc.devRef .tc KernelIdeal.main_v167) = after (seg 488 520) U (Proc.devRef .tc ReferenceIdeal.main_v344)
    ∧ after (hostOps2.drop 3) V (Proc.devRef .tc KernelIdeal.main_v261) = after (seg 488 520) U (Proc.devRef .tc ReferenceIdeal.main_v342)
    ∧ after (hostOps2.drop 3) V (Proc.devRef .tc KernelIdeal.main_v262) = after (seg 488 520) U (Proc.devRef .tc ReferenceIdeal.main_v343)
    ∧ after (hostOps2.drop 3) V (Proc.devRef .tc KernelIdeal.main_v266) = after (seg 488 520) U (Proc.devRef .tc ReferenceIdeal.main_v348)
    ∧ after (hostOps2.drop 3) V (Proc.devRef .tc KernelIdeal.main_v282) = after (seg 488 520) U (Proc.devRef .tc ReferenceIdeal.main_v364) := by
  refine ⟨?_, ?_, ?_, ?_, ?_⟩ <;>
    (after_reads_simp; simp only [k0, r0, k1, r1, k2, r2, k3, r3, k4, r4, k6, r6, r7]) <;> rfl

/-- The convolution's result as images. -/
theorem img (V : KV) {y : T KernelIdeal.S32x8192 .f32} (k0 : V (Proc.devRef .tc KernelIdeal.main_v252) = y) :
    after (hostOps2.take 3) V (Proc.devRef .tc KernelIdeal.main_v255) = imgOf y := by
  after_reads_simp
  simp only [k0]
  rfl

/-- The nearest entries. -/
theorem nearest (V : KV) (U : RV) {d : T ReferenceIdeal.S512x4096 .f32}
    (k0 : V (Proc.devRef .tc KernelIdeal.main_v282) = d) (r0 : U (Proc.devRef .tc ReferenceIdeal.main_v364) = d) :
    after hostOps2_1 V (Proc.devRef .tc KernelIdeal.main_v283) = after (seg 520 525) U (Proc.devRef .tc ReferenceIdeal.main_v365) := by
  after_reads_simp
  simp -implicitDefEqProofs only [TRef.toBuf, TRef.ofBuf, cast_cast, cast_eq, k0, r0]
  rfl

/-- The entries taken from the codebook. -/
theorem taken (V : KV) (U : RV) {i : T ReferenceIdeal.S512 .i32} {c : T ReferenceIdeal.S4096x32 .f32}
    (k0 : V (Proc.devRef .tc KernelIdeal.main_v283) = i) (r0 : U (Proc.devRef .tc ReferenceIdeal.main_v365) = i)
    (k1 : V (Proc.devRef .tc KernelIdeal.main_arg1) = c) (r1 : U (Proc.devRef .tc ReferenceIdeal.main_arg1) = c) :
    after hostOps2_2 V (Proc.devRef .tc KernelIdeal.main_v284) = after (seg 525 548) U (Proc.devRef .tc ReferenceIdeal.main_v366) := by
  after_reads_simp
  simp -implicitDefEqProofs only [TRef.toBuf, TRef.ofBuf, cast_cast, cast_eq, k0, r0, k1, r1]
  rfl

/-- The kernel program's buffers from the loss to the table of weights. -/
abbrev table (V : KV) : KV := after hostOps2_12 (after hostOps2_11 (after hostOps2_10 (after hostOps2_9 (after hostOps2_8 (after hostOps2_7 (after hostOps2_6 (after hostOps2_5 (after hostOps2_4 (after hostOps2_3 V)))))))))

/-- The indices, the quantized values and the loss. -/
theorem losses (V : KV) (U : RV) {z : T ReferenceIdeal.S32x32x4x4 .f32} {q : T ReferenceIdeal.S512x32 .f32} {i : T ReferenceIdeal.S512 .i32} {a : T ReferenceIdeal.S_ .f32}
    (k3 : V (Proc.devRef .tc KernelIdeal.main_v167) = a) (r3 : U (Proc.devRef .tc ReferenceIdeal.main_v344) = a)
    (k0 : V (Proc.devRef .tc KernelIdeal.main_v283) = i) (r0 : U (Proc.devRef .tc ReferenceIdeal.main_v365) = i)
    (k1 : V (Proc.devRef .tc KernelIdeal.main_v266) = z) (r1 : U (Proc.devRef .tc ReferenceIdeal.main_v348) = z)
    (k2 : V (Proc.devRef .tc KernelIdeal.main_v284) = q) (r2 : U (Proc.devRef .tc ReferenceIdeal.main_v366) = q) :
    table V (Proc.devRef .tc KernelIdeal.main_v297) = after (seg 548 664) U (Proc.devRef .tc ReferenceIdeal.main_v381)
    ∧ table V (Proc.devRef .tc KernelIdeal.main_v300) = after (seg 548 664) U (Proc.devRef .tc ReferenceIdeal.main_v380)
    ∧ table V (Proc.devRef .tc KernelIdeal.main_v298) = plus a (after (seg 548 664) U (Proc.devRef .tc ReferenceIdeal.main_v378)) := by
  refine ⟨?_, ?_, ?_⟩ <;> (after_reads_simp; simp only [k0, r0, k1, r1, k2, r2, k3]) <;> rfl

/-- The table of weights. -/
theorem weights (V : KV) (U : RV) :
    table V (Proc.devRef .tc KernelIdeal.main_v362) = after (seg 548 664) U (Proc.devRef .tc ReferenceIdeal.main_v443) := by
  after_reads_simp

/-- The values upsampled: sums of products on one side, contractions on the other. -/
theorem upsampled (V : KV) (U : RV) {z : T ReferenceIdeal.S32x32x4x4 .f32} {w : T ReferenceIdeal.S4x16 .f32}
    (k0 : V (Proc.devRef .tc KernelIdeal.main_v300) = z) (r0 : U (Proc.devRef .tc ReferenceIdeal.main_v380) = z)
    (k1 : V (Proc.devRef .tc KernelIdeal.main_v362) = w) (r1 : U (Proc.devRef .tc ReferenceIdeal.main_v443) = w) :
    after (hostOps2_13.take 14) V (Proc.devRef .tc KernelIdeal.main_v374) = after (seg 664 667) U (Proc.devRef .tc ReferenceIdeal.main_v446) := by
  after_reads_simp
  simp only [k0, r0, k1, r1]
  funext j
  pointwise
  exact Finset.sum_congr rfl fun b _ =>
    congrArg (· * _) (Finset.sum_congr rfl fun a _ => mul_comm _ _)

/-- This stage's filter. -/
def filter (a : T ReferenceIdeal.S5x32x32x3x3 .f32) : T ReferenceIdeal.S32x32x3x3 .f32 :=
  shapeCast ReferenceIdeal.S32x32x3x3 (extractStridedSlice ReferenceIdeal.S1x32x32x3x3 ![2, 0, 0, 0, 0] a (by decide)) (by decide)
/-- This stage's offsets. -/
def offsets (b : T ReferenceIdeal.S5x32 .f32) : T ReferenceIdeal.S32 .f32 :=
  shapeCast ReferenceIdeal.S32 (extractStridedSlice ReferenceIdeal.S1x32 ![2, 0] b (by decide)) (by decide)

/-- This stage's filter in the kernel's layout. -/
theorem row (a : T ReferenceIdeal.S5x32x32x3x3 .f32) :
    (shapeCast KernelIdeal.S32x288 (extractStridedSlice KernelIdeal.S1x32x288 ![2, 0, 0] (rowsOf a) (by decide)) (by decide)
      : T KernelIdeal.S32x288 .f32) = rowOf (filter a) := by
  unfold rowsOf filter
  funext j
  unfold rowOf
  pointwise

/-- The convolution's operands. -/
theorem operands (V : KV) {x : Img} {a : T ReferenceIdeal.S5x32x32x3x3 .f32} {b : T ReferenceIdeal.S5x32 .f32}
    (k0 : V (Proc.devRef .tc KernelIdeal.main_v374) = x) (k1 : V (Proc.devRef .tc KernelIdeal.main_v1) = rowsOf a) (k2 : V (Proc.devRef .tc KernelIdeal.main_arg3) = b) :
    after (hostOps2_13.drop 14) V (Proc.devRef .tc KernelIdeal.main_v382) = flatOf x
    ∧ after (hostOps2_13.drop 14) V (Proc.devRef .tc KernelIdeal.main_v377) = rowOf (filter a)
    ∧ after (hostOps2_13.drop 14) V (Proc.devRef .tc KernelIdeal.main_v380) = colOf (offsets b)
    ∧ after (hostOps2_13.drop 14) V (Proc.devRef .tc KernelIdeal.main_v374) = x := by
  refine ⟨?_, ?_, ?_, ?_⟩
  · after_reads_simp; simp only [k0]; rfl
  · rw [← row a]; after_reads_simp; simp only [k1]; rfl
  · after_reads_simp; simp only [k2]; rfl
  · after_reads_simp; exact k0

/-- The reference's convolution. -/
theorem conv (U : RV) {x : Img} {a : T ReferenceIdeal.S5x32x32x3x3 .f32} {b : T ReferenceIdeal.S5x32 .f32}
    (r0 : U (Proc.devRef .tc ReferenceIdeal.main_v446) = x) (r1 : U (Proc.devRef .tc ReferenceIdeal.main_arg2) = a) (r2 : U (Proc.devRef .tc ReferenceIdeal.main_arg3) = b) :
    after (seg 667 736) U (Proc.devRef .tc ReferenceIdeal.main_v452) = halfOf x
    ∧ after (seg 667 736) U (Proc.devRef .tc ReferenceIdeal.main_v511) = convOf x (filter a) (offsets b) := by
  refine ⟨?_, ?_⟩ <;> after_reads_simp
  · simp only [r0]; rfl
  · simp -implicitDefEqProofs only [TRef.toBuf, TRef.ofBuf, cast_cast, cast_eq, r0, r1, r2]; rfl

end Cert.Stages.S2

end
-- ==== Proof.Chain2.lean ====
/-
  Stage 2 from its entry to the next.
-/
module

public import proofs.«01_k».proof.Proof.Entry
public import proofs.«01_k».proof.Proof.Stage2

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- Stage 2: what the next one reads, and the indices. -/
theorem chain2 {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b)
    (h : Entry2 m ρ c V aw) :
    Entry3 m ρ c V aw ∧ W45 m ρ c (Proc.devRef .tc KernelIdeal.main_v297) = S V 664 (Proc.devRef .tc ReferenceIdeal.main_v381) := by
  obtain ⟨x0, f0, g0, o, a0, l0, kx0, rx0, ko, ro, kf0, rf0, kg0, rg0, kl, rl, ra0, hv1⟩ := h
  have hi := S2.img (W30 m ρ c) ko
  have hh := S2.head (after (hostOps2.take 3) (W30 m ρ c)) (S V 488) ((kept _ _ (Proc.devRef .tc KernelIdeal.main_v167) (by decide +kernel)).trans kl) rl ra0
    ((kept _ _ (Proc.devRef .tc KernelIdeal.main_v243) (by decide +kernel)).trans kx0) rx0 hi ro ((kept _ _ (Proc.devRef .tc KernelIdeal.main_v130) (by decide +kernel)).trans kf0) rf0 ((kept _ _ (Proc.devRef .tc KernelIdeal.main_v131) (by decide +kernel)).trans kg0) rg0
    ((kept _ _ (Proc.devRef .tc KernelIdeal.main_arg1) (by decide +kernel)).trans ((W30_args m ρ c KernelIdeal.main_arg1 (by simp)).trans k1)) ((args_at V 488 ReferenceIdeal.main_arg1 (by simp)).trans r1)
  rw [← cut, ← S_seg V (m := 488) (n := 520) (by decide)] at hh
  obtain ⟨ha, hf, hg, hz, hd⟩ := hh
  obtain ⟨f, rf⟩ : ∃ x : Img, S V 520 (Proc.devRef .tc ReferenceIdeal.main_v342) = x := ⟨_, rfl⟩
  replace hf := hf.trans rf
  obtain ⟨g, rg⟩ : ∃ x : Img, S V 520 (Proc.devRef .tc ReferenceIdeal.main_v343) = x := ⟨_, rfl⟩
  replace hg := hg.trans rg
  obtain ⟨a, ra⟩ : ∃ x : T ReferenceIdeal.S_ .f32, S V 520 (Proc.devRef .tc ReferenceIdeal.main_v344) = x := ⟨_, rfl⟩
  replace ha := ha.trans ra
  obtain ⟨z1, rz⟩ : ∃ x : T ReferenceIdeal.S32x32x4x4 .f32, S V 520 (Proc.devRef .tc ReferenceIdeal.main_v348) = x := ⟨_, rfl⟩
  replace hz := hz.trans rz
  obtain ⟨d, rd⟩ : ∃ x : T ReferenceIdeal.S512x4096 .f32, S V 520 (Proc.devRef .tc ReferenceIdeal.main_v364) = x := ⟨_, rfl⟩
  replace hd := hd.trans rd
  have hi := S2.nearest (W31 m ρ c) (S V 520) hd rd
  rw [← S_seg V (m := 520) (n := 525) (by decide)] at hi
  obtain ⟨i, ri⟩ : ∃ x : T ReferenceIdeal.S512 .i32, S V 525 (Proc.devRef .tc ReferenceIdeal.main_v365) = x := ⟨_, rfl⟩
  replace hi := hi.trans ri
  have ht := S2.taken (W32 m ρ c) (S V 525) hi ri ((W32_args m ρ c KernelIdeal.main_arg1 (by simp)).trans k1) ((args_at V 525 ReferenceIdeal.main_arg1 (by simp)).trans r1)
  rw [← S_seg V (m := 525) (n := 548) (by decide)] at ht
  obtain ⟨q, rq⟩ : ∃ x : T ReferenceIdeal.S512x32 .f32, S V 548 (Proc.devRef .tc ReferenceIdeal.main_v366) = x := ⟨_, rfl⟩
  replace ht := ht.trans rq
  have hl := S2.losses (W33 m ρ c) (S V 548)
    (((W33_of m ρ c KernelIdeal.main_v167 (by decide)).trans (W32_of m ρ c KernelIdeal.main_v167 (by decide))).trans ha) ((S_keep V (m := 520) (n := 548) (by decide) (Proc.devRef .tc ReferenceIdeal.main_v344) (by decide +kernel)).trans ra)
    ((W33_of m ρ c KernelIdeal.main_v283 (by decide)).trans hi) ((S_keep V (m := 525) (n := 548) (by decide) (Proc.devRef .tc ReferenceIdeal.main_v365) (by decide +kernel)).trans ri)
    (((W33_of m ρ c KernelIdeal.main_v266 (by decide)).trans (W32_of m ρ c KernelIdeal.main_v266 (by decide))).trans hz) ((S_keep V (m := 520) (n := 548) (by decide) (Proc.devRef .tc ReferenceIdeal.main_v348) (by decide +kernel)).trans rz) ht rq
  rw [← S_seg V (m := 548) (n := 664) (by decide)] at hl
  obtain ⟨hres, hzq, hacc⟩ := hl
  obtain ⟨l1, rl1⟩ : ∃ x : T ReferenceIdeal.S_ .f32, S V 664 (Proc.devRef .tc ReferenceIdeal.main_v378) = x := ⟨_, rfl⟩
  rw [rl1] at hacc
  obtain ⟨y, ry⟩ : ∃ x : T ReferenceIdeal.S32x32x4x4 .f32, S V 664 (Proc.devRef .tc ReferenceIdeal.main_v380) = x := ⟨_, rfl⟩
  replace hzq := hzq.trans ry
  have hw := S2.weights (W33 m ρ c) (S V 548)
  rw [← S_seg V (m := 548) (n := 664) (by decide)] at hw
  obtain ⟨w, rw1⟩ : ∃ x : T ReferenceIdeal.S4x16 .f32, S V 664 (Proc.devRef .tc ReferenceIdeal.main_v443) = x := ⟨_, rfl⟩
  replace hw := hw.trans rw1
  have hx := S2.upsampled (W43 m ρ c) (S V 664) hzq ry hw rw1
  rw [← S_seg V (m := 664) (n := 667) (by decide)] at hx
  obtain ⟨x, rx⟩ : ∃ x : Img, S V 667 (Proc.devRef .tc ReferenceIdeal.main_v446) = x := ⟨_, rfl⟩
  replace hx := hx.trans rx
  have hop := S2.operands (after (hostOps2_13.take 14) (W43 m ρ c)) hx (((kept (hostOps2_13.take 14) _ (Proc.devRef .tc KernelIdeal.main_v1) (by decide +kernel)).trans ((W43_of m ρ c KernelIdeal.main_v1 (by decide)).trans ((W42_of m ρ c KernelIdeal.main_v1 (by decide)).trans ((W41_of m ρ c KernelIdeal.main_v1 (by decide)).trans ((W40_of m ρ c KernelIdeal.main_v1 (by decide)).trans ((W39_of m ρ c KernelIdeal.main_v1 (by decide)).trans ((W38_of m ρ c KernelIdeal.main_v1 (by decide)).trans ((W37_of m ρ c KernelIdeal.main_v1 (by decide)).trans ((W36_of m ρ c KernelIdeal.main_v1 (by decide)).trans ((W35_of m ρ c KernelIdeal.main_v1 (by decide)).trans ((W34_of m ρ c KernelIdeal.main_v1 (by decide)).trans ((W33_of m ρ c KernelIdeal.main_v1 (by decide)).trans (W32_of m ρ c KernelIdeal.main_v1 (by decide)))))))))))))).trans ((W31_of m ρ c KernelIdeal.main_v1 (by decide)).trans hv1)) ((kept (hostOps2_13.take 14) _ (Proc.devRef .tc KernelIdeal.main_arg3) (by decide +kernel)).trans ((W43_args m ρ c KernelIdeal.main_arg3 (by simp)).trans k3))
  rw [← cut] at hop
  obtain ⟨hflat, hrow, hcol, hx'⟩ := hop
  have hout := region2 m ρ c hflat hrow hcol
  have hc := S2.conv (S V 667) rx ((args_at V 667 ReferenceIdeal.main_arg2 (by simp)).trans r2) ((args_at V 667 ReferenceIdeal.main_arg3 (by simp)).trans r3)
  rw [← S_seg V (m := 667) (n := 736) (by decide)] at hc
  obtain ⟨hhalf, hconv⟩ := hc
  rw [← conv_value] at hconv
  refine ⟨⟨x, f, g, _, a, l1, (W45_of m ρ c KernelIdeal.main_v374 (by decide)).trans hx', hhalf, hout, hconv,
    (rest2 m ρ c KernelIdeal.main_v261 (by decide) (by decide)).trans hf, (S_keep V (m := 520) (n := 736) (by decide) (Proc.devRef .tc ReferenceIdeal.main_v342) (by decide +kernel)).trans rf,
    ((rest2 m ρ c KernelIdeal.main_v262 (by decide) (by decide)).trans hg), ((S_keep V (m := 520) (n := 736) (by decide) (Proc.devRef .tc ReferenceIdeal.main_v343) (by decide +kernel)).trans rg),
    ((W45_of m ρ c KernelIdeal.main_v298 (by decide)).trans ((W44_of m ρ c KernelIdeal.main_v298 (by decide)).trans hacc)), (S_keep V (m := 664) (n := 736) (by decide) (Proc.devRef .tc ReferenceIdeal.main_v378) (by decide +kernel)).trans rl1, (S_keep V (m := 520) (n := 736) (by decide) (Proc.devRef .tc ReferenceIdeal.main_v344) (by decide +kernel)).trans ra,
    ((pass2 m ρ c KernelIdeal.main_v1 (by decide) (by decide)).trans hv1)⟩, ?_⟩
  exact ((W45_of m ρ c KernelIdeal.main_v297 (by decide)).trans ((W44_of m ρ c KernelIdeal.main_v297 (by decide)).trans hres))

end Cert.Stages

end
-- ==== Proof.Stage3.lean ====
/-
  Stage 3 of the quantizer, scale 8: over any contents of the two programs' buffers that agree on what the stage
  reads, the two programs' operations leave contents that agree.
-/
module

public import proofs.«01_k».proof.Proof.Forms

@[expose] public section

set_option maxRecDepth 16384
set_option maxHeartbeats 1000000

noncomputable section

namespace Cert.Stages.S3

open Idealize.ShloMosaic Idealize.SL.Sem Idealize.ShloMosaic.StableHlo Cert Cert.KernelIdeal.Gen

/-- The sums so far, the area means of the rest and the distances to the codebook. -/
theorem head (V : KV) (U : RV) {x y f g : Img} {c : T ReferenceIdeal.S4096x32 .f32} {a l : T ReferenceIdeal.S_ .f32}
    (k6 : V (Proc.devRef .tc KernelIdeal.main_v298) = plus a l)
    (r6 : U (Proc.devRef .tc ReferenceIdeal.main_v378) = l) (r7 : U (Proc.devRef .tc ReferenceIdeal.main_v344) = a)
    (k0 : V (Proc.devRef .tc KernelIdeal.main_v374) = x) (r0 : U (Proc.devRef .tc ReferenceIdeal.main_v452) = halfOf x)
    (k1 : V (Proc.devRef .tc KernelIdeal.main_v386) = y) (r1 : U (Proc.devRef .tc ReferenceIdeal.main_v511) = y)
    (k2 : V (Proc.devRef .tc KernelIdeal.main_v261) = f) (r2 : U (Proc.devRef .tc ReferenceIdeal.main_v342) = f)
    (k3 : V (Proc.devRef .tc KernelIdeal.main_v262) = g) (r3 : U (Proc.devRef .tc ReferenceIdeal.main_v343) = g)
    (k4 : V (Proc.devRef .tc KernelIdeal.main_arg1) = c) (r4 : U (Proc.devRef .tc ReferenceIdeal.main_arg1) = c) :
    after (hostOps3.drop 3) V (Proc.devRef .tc KernelIdeal.main_v298) = after (seg 736 768) U (Proc.devRef .tc ReferenceIdeal.main_v517)
    ∧ after (hostOps3.drop 3) V (Proc.devRef .tc KernelIdeal.main_v392) = after (seg 736 768) U (Proc.devRef .tc ReferenceIdeal.main_v515)
    ∧ after (hostOps3.drop 3) V (Proc.devRef .tc KernelIdeal.main_v393) = after (seg 736 768) U (Proc.devRef .tc ReferenceIdeal.main_v516)
    ∧ after (hostOps3.drop 3) V (Proc.devRef .tc KernelIdeal.main_v397) = after (seg 736 768) U (Proc.devRef .tc ReferenceIdeal.main_v521)
    ∧ after (hostOps3.drop 3) V (Proc.devRef .tc KernelIdeal.main_v413) = after (seg 736 768) U (Proc.devRef .tc ReferenceIdeal.main_v537) := by
  refine ⟨?_, ?_, ?_, ?_, ?_⟩ <;>
    (after_reads_simp; simp only [k0, r0, k1, r1, k2, r2, k3, r3, k4, r4, k6, r6, r7]) <;> rfl

/-- The convolution's result as images. -/
theorem img (V : KV) {y : T KernelIdeal.S32x8192 .f32} (k0 : V (Proc.devRef .tc KernelIdeal.main_v383) = y) :
    after (hostOps3.take 3) V (Proc.devRef .tc KernelIdeal.main_v386) = imgOf y := by
  after_reads_simp
  simp only [k0]
  rfl

/-- The nearest entries. -/
theorem nearest (V : KV) (U : RV) {d : T ReferenceIdeal.S2048x4096 .f32}
    (k0 : V (Proc.devRef .tc KernelIdeal.main_v413) = d) (r0 : U (Proc.devRef .tc ReferenceIdeal.main_v537) = d) :
    after hostOps3_1 V (Proc.devRef .tc KernelIdeal.main_v414) = after (seg 768 773) U (Proc.devRef .tc ReferenceIdeal.main_v538) := by
  after_reads_simp
  simp -implicitDefEqProofs only [TRef.toBuf, TRef.ofBuf, cast_cast, cast_eq, k0, r0]
  rfl

/-- The entries taken from the codebook. -/
theorem taken (V : KV) (U : RV) {i : T ReferenceIdeal.S2048 .i32} {c : T ReferenceIdeal.S4096x32 .f32}
    (k0 : V (Proc.devRef .tc KernelIdeal.main_v414) = i) (r0 : U (Proc.devRef .tc ReferenceIdeal.main_v538) = i)
    (k1 : V (Proc.devRef .tc KernelIdeal.main_arg1) = c) (r1 : U (Proc.devRef .tc ReferenceIdeal.main_arg1) = c) :
    after hostOps3_2 V (Proc.devRef .tc KernelIdeal.main_v415) = after (seg 773 796) U (Proc.devRef .tc ReferenceIdeal.main_v539) := by
  after_reads_simp
  simp -implicitDefEqProofs only [TRef.toBuf, TRef.ofBuf, cast_cast, cast_eq, k0, r0, k1, r1]
  rfl

/-- The kernel program's buffers from the loss to the table of weights. -/
abbrev table (V : KV) : KV := after hostOps3_12 (after hostOps3_11 (after hostOps3_10 (after hostOps3_9 (after hostOps3_8 (after hostOps3_7 (after hostOps3_6 (after hostOps3_5 (after hostOps3_4 (after hostOps3_3 V)))))))))

/-- The indices, the quantized values and the loss. -/
theorem losses (V : KV) (U : RV) {z : T ReferenceIdeal.S32x32x8x8 .f32} {q : T ReferenceIdeal.S2048x32 .f32} {i : T ReferenceIdeal.S2048 .i32} {a : T ReferenceIdeal.S_ .f32}
    (k3 : V (Proc.devRef .tc KernelIdeal.main_v298) = a) (r3 : U (Proc.devRef .tc ReferenceIdeal.main_v517) = a)
    (k0 : V (Proc.devRef .tc KernelIdeal.main_v414) = i) (r0 : U (Proc.devRef .tc ReferenceIdeal.main_v538) = i)
    (k1 : V (Proc.devRef .tc KernelIdeal.main_v397) = z) (r1 : U (Proc.devRef .tc ReferenceIdeal.main_v521) = z)
    (k2 : V (Proc.devRef .tc KernelIdeal.main_v415) = q) (r2 : U (Proc.devRef .tc ReferenceIdeal.main_v539) = q) :
    table V (Proc.devRef .tc KernelIdeal.main_v428) = after (seg 796 912) U (Proc.devRef .tc ReferenceIdeal.main_v554)
    ∧ table V (Proc.devRef .tc KernelIdeal.main_v431) = after (seg 796 912) U (Proc.devRef .tc ReferenceIdeal.main_v553)
    ∧ table V (Proc.devRef .tc KernelIdeal.main_v429) = plus a (after (seg 796 912) U (Proc.devRef .tc ReferenceIdeal.main_v551)) := by
  refine ⟨?_, ?_, ?_⟩ <;> (after_reads_simp; simp only [k0, r0, k1, r1, k2, r2, k3]) <;> rfl

/-- The table of weights. -/
theorem weights (V : KV) (U : RV) :
    table V (Proc.devRef .tc KernelIdeal.main_v493) = after (seg 796 912) U (Proc.devRef .tc ReferenceIdeal.main_v616) := by
  after_reads_simp

/-- The values upsampled: sums of products on one side, contractions on the other. -/
theorem upsampled (V : KV) (U : RV) {z : T ReferenceIdeal.S32x32x8x8 .f32} {w : T ReferenceIdeal.S8x16 .f32}
    (k0 : V (Proc.devRef .tc KernelIdeal.main_v431) = z) (r0 : U (Proc.devRef .tc ReferenceIdeal.main_v553) = z)
    (k1 : V (Proc.devRef .tc KernelIdeal.main_v493) = w) (r1 : U (Proc.devRef .tc ReferenceIdeal.main_v616) = w) :
    after (hostOps3_13.take 14) V (Proc.devRef .tc KernelIdeal.main_v505) = after (seg 912 915) U (Proc.devRef .tc ReferenceIdeal.main_v619) := by
  after_reads_simp
  simp only [k0, r0, k1, r1]
  funext j
  pointwise
  exact Finset.sum_congr rfl fun b _ =>
    congrArg (· * _) (Finset.sum_congr rfl fun a _ => mul_comm _ _)

/-- This stage's filter. -/
def filter (a : T ReferenceIdeal.S5x32x32x3x3 .f32) : T ReferenceIdeal.S32x32x3x3 .f32 :=
  shapeCast ReferenceIdeal.S32x32x3x3 (extractStridedSlice ReferenceIdeal.S1x32x32x3x3 ![3, 0, 0, 0, 0] a (by decide)) (by decide)
/-- This stage's offsets. -/
def offsets (b : T ReferenceIdeal.S5x32 .f32) : T ReferenceIdeal.S32 .f32 :=
  shapeCast ReferenceIdeal.S32 (extractStridedSlice ReferenceIdeal.S1x32 ![3, 0] b (by decide)) (by decide)

/-- This stage's filter in the kernel's layout. -/
theorem row (a : T ReferenceIdeal.S5x32x32x3x3 .f32) :
    (shapeCast KernelIdeal.S32x288 (extractStridedSlice KernelIdeal.S1x32x288 ![3, 0, 0] (rowsOf a) (by decide)) (by decide)
      : T KernelIdeal.S32x288 .f32) = rowOf (filter a) := by
  unfold rowsOf filter
  funext j
  unfold rowOf
  pointwise

/-- The convolution's operands. -/
theorem operands (V : KV) {x : Img} {a : T ReferenceIdeal.S5x32x32x3x3 .f32} {b : T ReferenceIdeal.S5x32 .f32}
    (k0 : V (Proc.devRef .tc KernelIdeal.main_v505) = x) (k1 : V (Proc.devRef .tc KernelIdeal.main_v1) = rowsOf a) (k2 : V (Proc.devRef .tc KernelIdeal.main_arg3) = b) :
    after (hostOps3_13.drop 14) V (Proc.devRef .tc KernelIdeal.main_v513) = flatOf x
    ∧ after (hostOps3_13.drop 14) V (Proc.devRef .tc KernelIdeal.main_v508) = rowOf (filter a)
    ∧ after (hostOps3_13.drop 14) V (Proc.devRef .tc KernelIdeal.main_v511) = colOf (offsets b)
    ∧ after (hostOps3_13.drop 14) V (Proc.devRef .tc KernelIdeal.main_v505) = x := by
  refine ⟨?_, ?_, ?_, ?_⟩
  · after_reads_simp; simp only [k0]; rfl
  · rw [← row a]; after_reads_simp; simp only [k1]; rfl
  · after_reads_simp; simp only [k2]; rfl
  · after_reads_simp; exact k0

/-- The reference's convolution. -/
theorem conv (U : RV) {x : Img} {a : T ReferenceIdeal.S5x32x32x3x3 .f32} {b : T ReferenceIdeal.S5x32 .f32}
    (r0 : U (Proc.devRef .tc ReferenceIdeal.main_v619) = x) (r1 : U (Proc.devRef .tc ReferenceIdeal.main_arg2) = a) (r2 : U (Proc.devRef .tc ReferenceIdeal.main_arg3) = b) :
    after (seg 915 984) U (Proc.devRef .tc ReferenceIdeal.main_v625) = halfOf x
    ∧ after (seg 915 984) U (Proc.devRef .tc ReferenceIdeal.main_v684) = convOf x (filter a) (offsets b) := by
  refine ⟨?_, ?_⟩ <;> after_reads_simp
  · simp only [r0]; rfl
  · simp -implicitDefEqProofs only [TRef.toBuf, TRef.ofBuf, cast_cast, cast_eq, r0, r1, r2]; rfl

end Cert.Stages.S3

end
-- ==== Proof.Chain3.lean ====
/-
  Stage 3 from its entry to the next.
-/
module

public import proofs.«01_k».proof.Proof.Entry
public import proofs.«01_k».proof.Proof.Stage3

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- Stage 3: what the next one reads, and the indices. -/
theorem chain3 {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b)
    (h : Entry3 m ρ c V aw) :
    Entry4 m ρ c V aw ∧ W60 m ρ c (Proc.devRef .tc KernelIdeal.main_v428) = S V 912 (Proc.devRef .tc ReferenceIdeal.main_v554) := by
  obtain ⟨x0, f0, g0, o, a0, l0, kx0, rx0, ko, ro, kf0, rf0, kg0, rg0, kl, rl, ra0, hv1⟩ := h
  have hi := S3.img (W45 m ρ c) ko
  have hh := S3.head (after (hostOps3.take 3) (W45 m ρ c)) (S V 736) ((kept _ _ (Proc.devRef .tc KernelIdeal.main_v298) (by decide +kernel)).trans kl) rl ra0
    ((kept _ _ (Proc.devRef .tc KernelIdeal.main_v374) (by decide +kernel)).trans kx0) rx0 hi ro ((kept _ _ (Proc.devRef .tc KernelIdeal.main_v261) (by decide +kernel)).trans kf0) rf0 ((kept _ _ (Proc.devRef .tc KernelIdeal.main_v262) (by decide +kernel)).trans kg0) rg0
    ((kept _ _ (Proc.devRef .tc KernelIdeal.main_arg1) (by decide +kernel)).trans ((W45_args m ρ c KernelIdeal.main_arg1 (by simp)).trans k1)) ((args_at V 736 ReferenceIdeal.main_arg1 (by simp)).trans r1)
  rw [← cut, ← S_seg V (m := 736) (n := 768) (by decide)] at hh
  obtain ⟨ha, hf, hg, hz, hd⟩ := hh
  obtain ⟨f, rf⟩ : ∃ x : Img, S V 768 (Proc.devRef .tc ReferenceIdeal.main_v515) = x := ⟨_, rfl⟩
  replace hf := hf.trans rf
  obtain ⟨g, rg⟩ : ∃ x : Img, S V 768 (Proc.devRef .tc ReferenceIdeal.main_v516) = x := ⟨_, rfl⟩
  replace hg := hg.trans rg
  obtain ⟨a, ra⟩ : ∃ x : T ReferenceIdeal.S_ .f32, S V 768 (Proc.devRef .tc ReferenceIdeal.main_v517) = x := ⟨_, rfl⟩
  replace ha := ha.trans ra
  obtain ⟨z1, rz⟩ : ∃ x : T ReferenceIdeal.S32x32x8x8 .f32, S V 768 (Proc.devRef .tc ReferenceIdeal.main_v521) = x := ⟨_, rfl⟩
  replace hz := hz.trans rz
  obtain ⟨d, rd⟩ : ∃ x : T ReferenceIdeal.S2048x4096 .f32, S V 768 (Proc.devRef .tc ReferenceIdeal.main_v537) = x := ⟨_, rfl⟩
  replace hd := hd.trans rd
  have hi := S3.nearest (W46 m ρ c) (S V 768) hd rd
  rw [← S_seg V (m := 768) (n := 773) (by decide)] at hi
  obtain ⟨i, ri⟩ : ∃ x : T ReferenceIdeal.S2048 .i32, S V 773 (Proc.devRef .tc ReferenceIdeal.main_v538) = x := ⟨_, rfl⟩
  replace hi := hi.trans ri
  have ht := S3.taken (W47 m ρ c) (S V 773) hi ri ((W47_args m ρ c KernelIdeal.main_arg1 (by simp)).trans k1) ((args_at V 773 ReferenceIdeal.main_arg1 (by simp)).trans r1)
  rw [← S_seg V (m := 773) (n := 796) (by decide)] at ht
  obtain ⟨q, rq⟩ : ∃ x : T ReferenceIdeal.S2048x32 .f32, S V 796 (Proc.devRef .tc ReferenceIdeal.main_v539) = x := ⟨_, rfl⟩
  replace ht := ht.trans rq
  have hl := S3.losses (W48 m ρ c) (S V 796)
    (((W48_of m ρ c KernelIdeal.main_v298 (by decide)).trans (W47_of m ρ c KernelIdeal.main_v298 (by decide))).trans ha) ((S_keep V (m := 768) (n := 796) (by decide) (Proc.devRef .tc ReferenceIdeal.main_v517) (by decide +kernel)).trans ra)
    ((W48_of m ρ c KernelIdeal.main_v414 (by decide)).trans hi) ((S_keep V (m := 773) (n := 796) (by decide) (Proc.devRef .tc ReferenceIdeal.main_v538) (by decide +kernel)).trans ri)
    (((W48_of m ρ c KernelIdeal.main_v397 (by decide)).trans (W47_of m ρ c KernelIdeal.main_v397 (by decide))).trans hz) ((S_keep V (m := 768) (n := 796) (by decide) (Proc.devRef .tc ReferenceIdeal.main_v521) (by decide +kernel)).trans rz) ht rq
  rw [← S_seg V (m := 796) (n := 912) (by decide)] at hl
  obtain ⟨hres, hzq, hacc⟩ := hl
  obtain ⟨l1, rl1⟩ : ∃ x : T ReferenceIdeal.S_ .f32, S V 912 (Proc.devRef .tc ReferenceIdeal.main_v551) = x := ⟨_, rfl⟩
  rw [rl1] at hacc
  obtain ⟨y, ry⟩ : ∃ x : T ReferenceIdeal.S32x32x8x8 .f32, S V 912 (Proc.devRef .tc ReferenceIdeal.main_v553) = x := ⟨_, rfl⟩
  replace hzq := hzq.trans ry
  have hw := S3.weights (W48 m ρ c) (S V 796)
  rw [← S_seg V (m := 796) (n := 912) (by decide)] at hw
  obtain ⟨w, rw1⟩ : ∃ x : T ReferenceIdeal.S8x16 .f32, S V 912 (Proc.devRef .tc ReferenceIdeal.main_v616) = x := ⟨_, rfl⟩
  replace hw := hw.trans rw1
  have hx := S3.upsampled (W58 m ρ c) (S V 912) hzq ry hw rw1
  rw [← S_seg V (m := 912) (n := 915) (by decide)] at hx
  obtain ⟨x, rx⟩ : ∃ x : Img, S V 915 (Proc.devRef .tc ReferenceIdeal.main_v619) = x := ⟨_, rfl⟩
  replace hx := hx.trans rx
  have hop := S3.operands (after (hostOps3_13.take 14) (W58 m ρ c)) hx (((kept (hostOps3_13.take 14) _ (Proc.devRef .tc KernelIdeal.main_v1) (by decide +kernel)).trans ((W58_of m ρ c KernelIdeal.main_v1 (by decide)).trans ((W57_of m ρ c KernelIdeal.main_v1 (by decide)).trans ((W56_of m ρ c KernelIdeal.main_v1 (by decide)).trans ((W55_of m ρ c KernelIdeal.main_v1 (by decide)).trans ((W54_of m ρ c KernelIdeal.main_v1 (by decide)).trans ((W53_of m ρ c KernelIdeal.main_v1 (by decide)).trans ((W52_of m ρ c KernelIdeal.main_v1 (by decide)).trans ((W51_of m ρ c KernelIdeal.main_v1 (by decide)).trans ((W50_of m ρ c KernelIdeal.main_v1 (by decide)).trans ((W49_of m ρ c KernelIdeal.main_v1 (by decide)).trans ((W48_of m ρ c KernelIdeal.main_v1 (by decide)).trans (W47_of m ρ c KernelIdeal.main_v1 (by decide)))))))))))))).trans ((W46_of m ρ c KernelIdeal.main_v1 (by decide)).trans hv1)) ((kept (hostOps3_13.take 14) _ (Proc.devRef .tc KernelIdeal.main_arg3) (by decide +kernel)).trans ((W58_args m ρ c KernelIdeal.main_arg3 (by simp)).trans k3))
  rw [← cut] at hop
  obtain ⟨hflat, hrow, hcol, hx'⟩ := hop
  have hout := region3 m ρ c hflat hrow hcol
  have hc := S3.conv (S V 915) rx ((args_at V 915 ReferenceIdeal.main_arg2 (by simp)).trans r2) ((args_at V 915 ReferenceIdeal.main_arg3 (by simp)).trans r3)
  rw [← S_seg V (m := 915) (n := 984) (by decide)] at hc
  obtain ⟨hhalf, hconv⟩ := hc
  rw [← conv_value] at hconv
  refine ⟨⟨x, f, g, _, a, l1, (W60_of m ρ c KernelIdeal.main_v505 (by decide)).trans hx', hhalf, hout, hconv,
    (rest3 m ρ c KernelIdeal.main_v392 (by decide) (by decide)).trans hf, (S_keep V (m := 768) (n := 984) (by decide) (Proc.devRef .tc ReferenceIdeal.main_v515) (by decide +kernel)).trans rf,
    ((rest3 m ρ c KernelIdeal.main_v393 (by decide) (by decide)).trans hg), ((S_keep V (m := 768) (n := 984) (by decide) (Proc.devRef .tc ReferenceIdeal.main_v516) (by decide +kernel)).trans rg),
    ((W60_of m ρ c KernelIdeal.main_v429 (by decide)).trans ((W59_of m ρ c KernelIdeal.main_v429 (by decide)).trans hacc)), (S_keep V (m := 912) (n := 984) (by decide) (Proc.devRef .tc ReferenceIdeal.main_v551) (by decide +kernel)).trans rl1, (S_keep V (m := 768) (n := 984) (by decide) (Proc.devRef .tc ReferenceIdeal.main_v517) (by decide +kernel)).trans ra,
    ((pass3 m ρ c KernelIdeal.main_v1 (by decide) (by decide)).trans hv1)⟩, ?_⟩
  exact ((W60_of m ρ c KernelIdeal.main_v428 (by decide)).trans ((W59_of m ρ c KernelIdeal.main_v428 (by decide)).trans hres))

end Cert.Stages

end
-- ==== Proof.Stage4.lean ====
/-
  Stage 4 of the quantizer, scale 16: over any contents of the two programs' buffers that agree on what the stage
  reads, the two programs' operations leave contents that agree.
-/
module

public import proofs.«01_k».proof.Proof.Forms

@[expose] public section

set_option maxRecDepth 16384
set_option maxHeartbeats 1000000

noncomputable section

namespace Cert.Stages.S4

open Idealize.ShloMosaic Idealize.SL.Sem Idealize.ShloMosaic.StableHlo Cert Cert.KernelIdeal.Gen

/-- The sums so far, the area means of the rest and the distances to the codebook. -/
theorem head (V : KV) (U : RV) {x y f g : Img} {c : T ReferenceIdeal.S4096x32 .f32} {a l : T ReferenceIdeal.S_ .f32}
    (k6 : V (Proc.devRef .tc KernelIdeal.main_v429) = plus a l)
    (r6 : U (Proc.devRef .tc ReferenceIdeal.main_v551) = l) (r7 : U (Proc.devRef .tc ReferenceIdeal.main_v517) = a)
    (k0 : V (Proc.devRef .tc KernelIdeal.main_v505) = x) (r0 : U (Proc.devRef .tc ReferenceIdeal.main_v625) = halfOf x)
    (k1 : V (Proc.devRef .tc KernelIdeal.main_v517) = y) (r1 : U (Proc.devRef .tc ReferenceIdeal.main_v684) = y)
    (k2 : V (Proc.devRef .tc KernelIdeal.main_v392) = f) (r2 : U (Proc.devRef .tc ReferenceIdeal.main_v515) = f)
    (k3 : V (Proc.devRef .tc KernelIdeal.main_v393) = g) (r3 : U (Proc.devRef .tc ReferenceIdeal.main_v516) = g)
    (k4 : V (Proc.devRef .tc KernelIdeal.main_arg1) = c) (r4 : U (Proc.devRef .tc ReferenceIdeal.main_arg1) = c) :
    after (hostOps4.drop 3) V (Proc.devRef .tc KernelIdeal.main_v429) = after (seg 984 1010) U (Proc.devRef .tc ReferenceIdeal.main_v690)
    ∧ after (hostOps4.drop 3) V (Proc.devRef .tc KernelIdeal.main_v523) = after (seg 984 1010) U (Proc.devRef .tc ReferenceIdeal.main_v688)
    ∧ after (hostOps4.drop 3) V (Proc.devRef .tc KernelIdeal.main_v524) = after (seg 984 1010) U (Proc.devRef .tc ReferenceIdeal.main_v689)
    ∧ after (hostOps4.drop 3) V (Proc.devRef .tc KernelIdeal.main_v540) = after (seg 984 1010) U (Proc.devRef .tc ReferenceIdeal.main_v706) := by
  refine ⟨?_, ?_, ?_, ?_⟩ <;>
    (after_reads_simp; simp only [k0, r0, k1, r1, k2, r2, k3, r3, k4, r4, k6, r6, r7]) <;> rfl

/-- The convolution's result as images. -/
theorem img (V : KV) {y : T KernelIdeal.S32x8192 .f32} (k0 : V (Proc.devRef .tc KernelIdeal.main_v514) = y) :
    after (hostOps4.take 3) V (Proc.devRef .tc KernelIdeal.main_v517) = imgOf y := by
  after_reads_simp
  simp only [k0]
  rfl

/-- The nearest entries. -/
theorem nearest (V : KV) (U : RV) {d : T ReferenceIdeal.S8192x4096 .f32}
    (k0 : V (Proc.devRef .tc KernelIdeal.main_v540) = d) (r0 : U (Proc.devRef .tc ReferenceIdeal.main_v706) = d) :
    after hostOps4_1 V (Proc.devRef .tc KernelIdeal.main_v541) = after (seg 1010 1015) U (Proc.devRef .tc ReferenceIdeal.main_v707) := by
  after_reads_simp
  simp -implicitDefEqProofs only [TRef.toBuf, TRef.ofBuf, cast_cast, cast_eq, k0, r0]
  rfl

/-- The entries taken from the codebook. -/
theorem taken (V : KV) (U : RV) {i : T ReferenceIdeal.S8192 .i32} {c : T ReferenceIdeal.S4096x32 .f32}
    (k0 : V (Proc.devRef .tc KernelIdeal.main_v541) = i) (r0 : U (Proc.devRef .tc ReferenceIdeal.main_v707) = i)
    (k1 : V (Proc.devRef .tc KernelIdeal.main_arg1) = c) (r1 : U (Proc.devRef .tc ReferenceIdeal.main_arg1) = c) :
    after hostOps4_2 V (Proc.devRef .tc KernelIdeal.main_v542) = after (seg 1015 1038) U (Proc.devRef .tc ReferenceIdeal.main_v708) := by
  after_reads_simp
  simp -implicitDefEqProofs only [TRef.toBuf, TRef.ofBuf, cast_cast, cast_eq, k0, r0, k1, r1]
  rfl

/-- The indices, the quantized values and the loss. -/
theorem losses (V : KV) (U : RV) {z : T ReferenceIdeal.S32x32x16x16 .f32} {q : T ReferenceIdeal.S8192x32 .f32} {i : T ReferenceIdeal.S8192 .i32} {a : T ReferenceIdeal.S_ .f32}
    (k3 : V (Proc.devRef .tc KernelIdeal.main_v429) = a) (r3 : U (Proc.devRef .tc ReferenceIdeal.main_v690) = a)
    (k0 : V (Proc.devRef .tc KernelIdeal.main_v541) = i) (r0 : U (Proc.devRef .tc ReferenceIdeal.main_v707) = i)
    (k1 : V (Proc.devRef .tc KernelIdeal.main_v524) = z) (r1 : U (Proc.devRef .tc ReferenceIdeal.main_v689) = z)
    (k2 : V (Proc.devRef .tc KernelIdeal.main_v542) = q) (r2 : U (Proc.devRef .tc ReferenceIdeal.main_v708) = q) :
    after (hostOps4_3.take 21) V (Proc.devRef .tc KernelIdeal.main_v555) = after (seg 1038 1058) U (Proc.devRef .tc ReferenceIdeal.main_v723)
    ∧ after (hostOps4_3.take 21) V (Proc.devRef .tc KernelIdeal.main_v558) = after (seg 1038 1058) U (Proc.devRef .tc ReferenceIdeal.main_v722)
    ∧ after (hostOps4_3.take 21) V (Proc.devRef .tc KernelIdeal.main_v556) = plus a (after (seg 1038 1058) U (Proc.devRef .tc ReferenceIdeal.main_v720)) := by
  refine ⟨?_, ?_, ?_⟩ <;> (after_reads_simp; simp only [k0, r0, k1, r1, k2, r2, k3]) <;> rfl

/-- This stage's filter. -/
def filter (a : T ReferenceIdeal.S5x32x32x3x3 .f32) : T ReferenceIdeal.S32x32x3x3 .f32 :=
  shapeCast ReferenceIdeal.S32x32x3x3 (extractStridedSlice ReferenceIdeal.S1x32x32x3x3 ![4, 0, 0, 0, 0] a (by decide)) (by decide)
/-- This stage's offsets. -/
def offsets (b : T ReferenceIdeal.S5x32 .f32) : T ReferenceIdeal.S32 .f32 :=
  shapeCast ReferenceIdeal.S32 (extractStridedSlice ReferenceIdeal.S1x32 ![4, 0] b (by decide)) (by decide)

/-- This stage's filter in the kernel's layout. -/
theorem row (a : T ReferenceIdeal.S5x32x32x3x3 .f32) :
    (shapeCast KernelIdeal.S32x288 (extractStridedSlice KernelIdeal.S1x32x288 ![4, 0, 0] (rowsOf a) (by decide)) (by decide)
      : T KernelIdeal.S32x288 .f32) = rowOf (filter a) := by
  unfold rowsOf filter
  funext j
  unfold rowOf
  pointwise

/-- The convolution's operands. -/
theorem operands (V : KV) {x : Img} {a : T ReferenceIdeal.S5x32x32x3x3 .f32} {b : T ReferenceIdeal.S5x32 .f32}
    (k0 : V (Proc.devRef .tc KernelIdeal.main_v558) = x) (k1 : V (Proc.devRef .tc KernelIdeal.main_v1) = rowsOf a) (k2 : V (Proc.devRef .tc KernelIdeal.main_arg3) = b) :
    after (hostOps4_3.drop 21) V (Proc.devRef .tc KernelIdeal.main_v566) = flatOf x
    ∧ after (hostOps4_3.drop 21) V (Proc.devRef .tc KernelIdeal.main_v561) = rowOf (filter a)
    ∧ after (hostOps4_3.drop 21) V (Proc.devRef .tc KernelIdeal.main_v564) = colOf (offsets b)
    ∧ after (hostOps4_3.drop 21) V (Proc.devRef .tc KernelIdeal.main_v558) = x := by
  refine ⟨?_, ?_, ?_, ?_⟩
  · after_reads_simp; simp only [k0]; rfl
  · rw [← row a]; after_reads_simp; simp only [k1]; rfl
  · after_reads_simp; simp only [k2]; rfl
  · after_reads_simp; exact k0

/-- The reference's convolution. -/
theorem conv (U : RV) {x : Img} {a : T ReferenceIdeal.S5x32x32x3x3 .f32} {b : T ReferenceIdeal.S5x32 .f32}
    (r0 : U (Proc.devRef .tc ReferenceIdeal.main_v722) = x) (r1 : U (Proc.devRef .tc ReferenceIdeal.main_arg2) = a) (r2 : U (Proc.devRef .tc ReferenceIdeal.main_arg3) = b) :
    after (seg 1058 1127) U (Proc.devRef .tc ReferenceIdeal.main_v729) = halfOf x
    ∧ after (seg 1058 1127) U (Proc.devRef .tc ReferenceIdeal.main_v788) = convOf x (filter a) (offsets b) := by
  refine ⟨?_, ?_⟩ <;> after_reads_simp
  · simp only [r0]; rfl
  · simp -implicitDefEqProofs only [TRef.toBuf, TRef.ofBuf, cast_cast, cast_eq, r0, r1, r2]; rfl

end Cert.Stages.S4

end
-- ==== Proof.Chain4.lean ====
/-
  Stage 4 from its entry to the next.
-/
module

public import proofs.«01_k».proof.Proof.Entry
public import proofs.«01_k».proof.Proof.Stage4

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- Stage 4: what the next one reads, and the indices. -/
theorem chain4 {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b)
    (h : Entry4 m ρ c V aw) :
    Entry5 m ρ c V aw ∧ W65 m ρ c (Proc.devRef .tc KernelIdeal.main_v555) = S V 1058 (Proc.devRef .tc ReferenceIdeal.main_v723) := by
  obtain ⟨x0, f0, g0, o, a0, l0, kx0, rx0, ko, ro, kf0, rf0, kg0, rg0, kl, rl, ra0, hv1⟩ := h
  have hi := S4.img (W60 m ρ c) ko
  have hh := S4.head (after (hostOps4.take 3) (W60 m ρ c)) (S V 984) ((kept _ _ (Proc.devRef .tc KernelIdeal.main_v429) (by decide +kernel)).trans kl) rl ra0
    ((kept _ _ (Proc.devRef .tc KernelIdeal.main_v505) (by decide +kernel)).trans kx0) rx0 hi ro ((kept _ _ (Proc.devRef .tc KernelIdeal.main_v392) (by decide +kernel)).trans kf0) rf0 ((kept _ _ (Proc.devRef .tc KernelIdeal.main_v393) (by decide +kernel)).trans kg0) rg0
    ((kept _ _ (Proc.devRef .tc KernelIdeal.main_arg1) (by decide +kernel)).trans ((W60_args m ρ c KernelIdeal.main_arg1 (by simp)).trans k1)) ((args_at V 984 ReferenceIdeal.main_arg1 (by simp)).trans r1)
  rw [← cut, ← S_seg V (m := 984) (n := 1010) (by decide)] at hh
  obtain ⟨ha, hf, hg, hd⟩ := hh
  obtain ⟨f, rf⟩ : ∃ x : Img, S V 1010 (Proc.devRef .tc ReferenceIdeal.main_v688) = x := ⟨_, rfl⟩
  replace hf := hf.trans rf
  obtain ⟨g, rg⟩ : ∃ x : Img, S V 1010 (Proc.devRef .tc ReferenceIdeal.main_v689) = x := ⟨_, rfl⟩
  replace hg := hg.trans rg
  obtain ⟨a, ra⟩ : ∃ x : T ReferenceIdeal.S_ .f32, S V 1010 (Proc.devRef .tc ReferenceIdeal.main_v690) = x := ⟨_, rfl⟩
  replace ha := ha.trans ra
  have hz := hg
  have rz := rg
  obtain ⟨d, rd⟩ : ∃ x : T ReferenceIdeal.S8192x4096 .f32, S V 1010 (Proc.devRef .tc ReferenceIdeal.main_v706) = x := ⟨_, rfl⟩
  replace hd := hd.trans rd
  have hi := S4.nearest (W61 m ρ c) (S V 1010) hd rd
  rw [← S_seg V (m := 1010) (n := 1015) (by decide)] at hi
  obtain ⟨i, ri⟩ : ∃ x : T ReferenceIdeal.S8192 .i32, S V 1015 (Proc.devRef .tc ReferenceIdeal.main_v707) = x := ⟨_, rfl⟩
  replace hi := hi.trans ri
  have ht := S4.taken (W62 m ρ c) (S V 1015) hi ri ((W62_args m ρ c KernelIdeal.main_arg1 (by simp)).trans k1) ((args_at V 1015 ReferenceIdeal.main_arg1 (by simp)).trans r1)
  rw [← S_seg V (m := 1015) (n := 1038) (by decide)] at ht
  obtain ⟨q, rq⟩ : ∃ x : T ReferenceIdeal.S8192x32 .f32, S V 1038 (Proc.devRef .tc ReferenceIdeal.main_v708) = x := ⟨_, rfl⟩
  replace ht := ht.trans rq
  have hl := S4.losses (W63 m ρ c) (S V 1038)
    (((W63_of m ρ c KernelIdeal.main_v429 (by decide)).trans (W62_of m ρ c KernelIdeal.main_v429 (by decide))).trans ha) ((S_keep V (m := 1010) (n := 1038) (by decide) (Proc.devRef .tc ReferenceIdeal.main_v690) (by decide +kernel)).trans ra)
    ((W63_of m ρ c KernelIdeal.main_v541 (by decide)).trans hi) ((S_keep V (m := 1015) (n := 1038) (by decide) (Proc.devRef .tc ReferenceIdeal.main_v707) (by decide +kernel)).trans ri)
    (((W63_of m ρ c KernelIdeal.main_v524 (by decide)).trans (W62_of m ρ c KernelIdeal.main_v524 (by decide))).trans hz) ((S_keep V (m := 1010) (n := 1038) (by decide) (Proc.devRef .tc ReferenceIdeal.main_v689) (by decide +kernel)).trans rz) ht rq
  rw [← S_seg V (m := 1038) (n := 1058) (by decide)] at hl
  obtain ⟨hres, hzq, hacc⟩ := hl
  obtain ⟨l1, rl1⟩ : ∃ x : T ReferenceIdeal.S_ .f32, S V 1058 (Proc.devRef .tc ReferenceIdeal.main_v720) = x := ⟨_, rfl⟩
  rw [rl1] at hacc
  obtain ⟨x, rx⟩ : ∃ x : Img, S V 1058 (Proc.devRef .tc ReferenceIdeal.main_v722) = x := ⟨_, rfl⟩
  have hx := hzq.trans rx
  have hop := S4.operands (after (hostOps4_3.take 21) (W63 m ρ c)) hx ((kept (hostOps4_3.take 21) _ (Proc.devRef .tc KernelIdeal.main_v1) (by decide +kernel)).trans (((W63_of m ρ c KernelIdeal.main_v1 (by decide)).trans ((W62_of m ρ c KernelIdeal.main_v1 (by decide)).trans (W61_of m ρ c KernelIdeal.main_v1 (by decide)))).trans hv1)) ((kept (hostOps4_3.take 21) _ (Proc.devRef .tc KernelIdeal.main_arg3) (by decide +kernel)).trans ((W63_args m ρ c KernelIdeal.main_arg3 (by simp)).trans k3))
  rw [← cut] at hop
  obtain ⟨hflat, hrow, hcol, hx'⟩ := hop
  have hout := region4 m ρ c hflat hrow hcol
  have hc := S4.conv (S V 1058) rx ((args_at V 1058 ReferenceIdeal.main_arg2 (by simp)).trans r2) ((args_at V 1058 ReferenceIdeal.main_arg3 (by simp)).trans r3)
  rw [← S_seg V (m := 1058) (n := 1127) (by decide)] at hc
  obtain ⟨hhalf, hconv⟩ := hc
  rw [← conv_value] at hconv
  refine ⟨⟨x, f, g, _, a, l1, (W65_of m ρ c KernelIdeal.main_v558 (by decide)).trans hx', hhalf, hout, hconv,
    (rest4 m ρ c KernelIdeal.main_v523 (by decide) (by decide)).trans hf, (S_keep V (m := 1010) (n := 1127) (by decide) (Proc.devRef .tc ReferenceIdeal.main_v688) (by decide +kernel)).trans rf,
    ((rest4 m ρ c KernelIdeal.main_v524 (by decide) (by decide)).trans hg), ((S_keep V (m := 1010) (n := 1127) (by decide) (Proc.devRef .tc ReferenceIdeal.main_v689) (by decide +kernel)).trans rg),
    ((W65_of m ρ c KernelIdeal.main_v556 (by decide)).trans ((congrFun (cut hostOps4_3 21 _) _).trans ((kept (hostOps4_3.drop 21) _ (Proc.devRef .tc KernelIdeal.main_v556) (by decide +kernel)).trans hacc))), (S_keep V (m := 1058) (n := 1127) (by decide) (Proc.devRef .tc ReferenceIdeal.main_v720) (by decide +kernel)).trans rl1, (S_keep V (m := 1010) (n := 1127) (by decide) (Proc.devRef .tc ReferenceIdeal.main_v690) (by decide +kernel)).trans ra,
    ((pass4 m ρ c KernelIdeal.main_v1 (by decide) (by decide)).trans hv1)⟩, ?_⟩
  exact ((W65_of m ρ c KernelIdeal.main_v555 (by decide)).trans ((congrFun (cut hostOps4_3 21 _) _).trans ((kept (hostOps4_3.drop 21) _ (Proc.devRef .tc KernelIdeal.main_v555) (by decide +kernel)).trans hres)))

end Cert.Stages

end
-- ==== Proof.Stage5.lean ====
/-
  After the last stage: the images' sum and the mean of the losses, over any contents of the two programs' buffers that
  agree on what is read.
-/
module

public import proofs.«01_k».proof.Proof.Forms

@[expose] public section

set_option maxRecDepth 16384
set_option maxHeartbeats 1000000

noncomputable section

namespace Cert.Stages.S5

open Idealize.ShloMosaic Idealize.SL.Sem Idealize.ShloMosaic.StableHlo Cert Cert.KernelIdeal.Gen

/-- The convolution's result as images. -/
theorem img (V : KV) {y : T KernelIdeal.S32x8192 .f32} (k0 : V (Proc.devRef .tc KernelIdeal.main_v567) = y) :
    after (hostOps5.take 3) V (Proc.devRef .tc KernelIdeal.main_v570) = imgOf y := by
  after_reads_simp
  simp only [k0]
  rfl

/-- The sum and the mean. -/
theorem results (V : KV) (U : RV) {x y f : Img} {a l : T ReferenceIdeal.S_ .f32}
    (k6 : V (Proc.devRef .tc KernelIdeal.main_v556) = plus a l) (r6 : U (Proc.devRef .tc ReferenceIdeal.main_v720) = l) (r7 : U (Proc.devRef .tc ReferenceIdeal.main_v690) = a)
    (k0 : V (Proc.devRef .tc KernelIdeal.main_v558) = x) (r0 : U (Proc.devRef .tc ReferenceIdeal.main_v729) = halfOf x)
    (k1 : V (Proc.devRef .tc KernelIdeal.main_v570) = y) (r1 : U (Proc.devRef .tc ReferenceIdeal.main_v788) = y)
    (k2 : V (Proc.devRef .tc KernelIdeal.main_v523) = f) (r2 : U (Proc.devRef .tc ReferenceIdeal.main_v688) = f) :
    after (hostOps5.drop 3) V (Proc.devRef .tc KernelIdeal.main_v576) = after (seg 1127 1136) U (Proc.devRef .tc ReferenceIdeal.main_v792)
    ∧ after (hostOps5.drop 3) V (Proc.devRef .tc KernelIdeal.main_v578) = after (seg 1127 1136) U (Proc.devRef .tc ReferenceIdeal.main_v795) := by
  refine ⟨?_, ?_⟩
  · after_reads_simp; simp only [k0, r0, k1, r1, k2, r2]; rfl
  · after_reads_simp; simp only [k6, r6, r7]; rfl

end Cert.Stages.S5

end
-- ==== Proof.KerRun.lean ====
/-
  The kernel program's run, read whole: every buffer of its main function ends at what the fold of its host operations
  and its five launches leaves there.
-/
module

public import proofs.«01_k».proof.Proof.Gen.KernelIdeal.Frame

@[expose] public section

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends, at the fold's contents. -/
theorem run : θ_run (defs (F := F)) (onTc (τ := τ) (main (F := F))) ⟨m, fun _ => 0, ρ⟩ (fun r =>
    ∀ c : Dev nD, ∀ b ∈ Pipeline.ucRefs τ sig, r.2.mem (((c : Thread nD τ)).1, b) = W66 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W66 m ρ c b)
    (hfin := fun c s' => by
      iintro ⟨⟨Hh, -⟩, HSI⟩
      unfold StableHlo.held
      imodintro
      iapply (pointsTo_read_all (Pipeline.ucRefs τ sig) (fun b => (((c : Thread nD τ)).1, b)) (W66 m ρ c) s')
      isplitl [Hh] <;> iassumption)
    (hQ := fun s h _ => h)

end Cert.KerRun

end
-- ==== Proof.Whole.lean ====
/-
  The seven results of the two programs agree.
-/
module

public import proofs.«01_k».proof.Proof.Chain0
public import proofs.«01_k».proof.Proof.Chain1
public import proofs.«01_k».proof.Proof.Chain2
public import proofs.«01_k».proof.Proof.Chain3
public import proofs.«01_k».proof.Proof.Chain4
public import proofs.«01_k».proof.Proof.Stage5
public import proofs.«01_k».proof.Proof.KerRun
public import proofs.«01_k».proof.Proof.RefRun

@[expose] public section

set_option maxRecDepth 16384
set_option maxHeartbeats 1000000

noncomputable section

namespace Cert.Stages

open Idealize.ShloMosaic Idealize.SL.Sem Idealize.ShloMosaic.StableHlo Cert Cert.KernelIdeal.Gen

variable (m : (ℓ : Loc KernelIdeal.nD KernelIdeal.τ KernelIdeal.sig) → Buf (Elt Ideal) ℓ)
  (ρ : Dev KernelIdeal.nD → PrngReg) (c : Dev KernelIdeal.nD) (V : RV)

/-- The two results that come after the last stage. -/
theorem finish {aw : T ReferenceIdeal.S5x32x32x3x3 .f32} (h : Entry5 m ρ c V aw) :
    W66 m ρ c (Proc.devRef .tc KernelIdeal.main_v576) = S V 1136 (Proc.devRef .tc ReferenceIdeal.main_v792) ∧ W66 m ρ c (Proc.devRef .tc KernelIdeal.main_v578) = S V 1136 (Proc.devRef .tc ReferenceIdeal.main_v795) := by
  obtain ⟨x, f, g, o, a, l, kx, rx, ko, ro, kf, rf, kg, rg, kl, rl, ra, hv1⟩ := h
  have hi := S5.img (W65 m ρ c) ko
  have hh := S5.results (after (hostOps5.take 3) (W65 m ρ c)) (S V 1127) ((kept _ _ (Proc.devRef .tc KernelIdeal.main_v556) (by decide +kernel)).trans kl) rl ra
    ((kept _ _ (Proc.devRef .tc KernelIdeal.main_v558) (by decide +kernel)).trans kx) rx hi ro ((kept _ _ (Proc.devRef .tc KernelIdeal.main_v523) (by decide +kernel)).trans kf) rf
  rw [← cut, ← S_seg V (m := 1127) (n := 1136) (by decide)] at hh
  exact hh

/-- The seven results. -/
theorem results {z : Img} {cb : T ReferenceIdeal.S4096x32 .f32} {aw : T ReferenceIdeal.S5x32x32x3x3 .f32} {b : T ReferenceIdeal.S5x32 .f32}
    (k0 : m ((c.tc : Thread KernelIdeal.nD KernelIdeal.τ).loc KernelIdeal.main_arg0) = z) (r0 : V (Proc.devRef .tc ReferenceIdeal.main_arg0) = z)
    (k1 : m ((c.tc : Thread KernelIdeal.nD KernelIdeal.τ).loc KernelIdeal.main_arg1) = cb) (r1 : V (Proc.devRef .tc ReferenceIdeal.main_arg1) = cb)
    (k2 : m ((c.tc : Thread KernelIdeal.nD KernelIdeal.τ).loc KernelIdeal.main_arg2) = aw) (r2 : V (Proc.devRef .tc ReferenceIdeal.main_arg2) = aw)
    (k3 : m ((c.tc : Thread KernelIdeal.nD KernelIdeal.τ).loc KernelIdeal.main_arg3) = b) (r3 : V (Proc.devRef .tc ReferenceIdeal.main_arg3) = b) :
    W66 m ρ c (Proc.devRef .tc KernelIdeal.main_v576) = S V 1136 (Proc.devRef .tc ReferenceIdeal.main_v792)
    ∧ W66 m ρ c (Proc.devRef .tc KernelIdeal.main_v37) = S V 1136 (Proc.devRef .tc ReferenceIdeal.main_v37)
    ∧ W66 m ρ c (Proc.devRef .tc KernelIdeal.main_v166) = S V 1136 (Proc.devRef .tc ReferenceIdeal.main_v208)
    ∧ W66 m ρ c (Proc.devRef .tc KernelIdeal.main_v297) = S V 1136 (Proc.devRef .tc ReferenceIdeal.main_v381)
    ∧ W66 m ρ c (Proc.devRef .tc KernelIdeal.main_v428) = S V 1136 (Proc.devRef .tc ReferenceIdeal.main_v554)
    ∧ W66 m ρ c (Proc.devRef .tc KernelIdeal.main_v555) = S V 1136 (Proc.devRef .tc ReferenceIdeal.main_v723)
    ∧ W66 m ρ c (Proc.devRef .tc KernelIdeal.main_v578) = S V 1136 (Proc.devRef .tc ReferenceIdeal.main_v795) := by
  obtain ⟨e1, i0⟩ := chain0 m ρ c V k0 r0 k1 r1 k2 r2 k3 r3
  obtain ⟨e2, i1⟩ := chain1 m ρ c V k0 r0 k1 r1 k2 r2 k3 r3 e1
  obtain ⟨e3, i2⟩ := chain2 m ρ c V k0 r0 k1 r1 k2 r2 k3 r3 e2
  obtain ⟨e4, i3⟩ := chain3 m ρ c V k0 r0 k1 r1 k2 r2 k3 r3 e3
  obtain ⟨e5, i4⟩ := chain4 m ρ c V k0 r0 k1 r1 k2 r2 k3 r3 e4
  obtain ⟨h0, h6⟩ := finish m ρ c V e5
  refine ⟨h0, ?_, ?_, ?_, ?_, ?_, h6⟩
  · rw [W66_of m ρ c KernelIdeal.main_v37 (by decide), pass4 m ρ c KernelIdeal.main_v37 (by decide) (by decide), pass3 m ρ c KernelIdeal.main_v37 (by decide) (by decide), pass2 m ρ c KernelIdeal.main_v37 (by decide) (by decide), pass1 m ρ c KernelIdeal.main_v37 (by decide) (by decide), S_keep V (m := 167) (n := 1136) (by decide) (Proc.devRef .tc ReferenceIdeal.main_v37) (by decide +kernel)]
    exact i0
  · rw [W66_of m ρ c KernelIdeal.main_v166 (by decide), pass4 m ρ c KernelIdeal.main_v166 (by decide) (by decide), pass3 m ρ c KernelIdeal.main_v166 (by decide) (by decide), pass2 m ρ c KernelIdeal.main_v166 (by decide) (by decide), S_keep V (m := 416) (n := 1136) (by decide) (Proc.devRef .tc ReferenceIdeal.main_v208) (by decide +kernel)]
    exact i1
  · rw [W66_of m ρ c KernelIdeal.main_v297 (by decide), pass4 m ρ c KernelIdeal.main_v297 (by decide) (by decide), pass3 m ρ c KernelIdeal.main_v297 (by decide) (by decide), S_keep V (m := 664) (n := 1136) (by decide) (Proc.devRef .tc ReferenceIdeal.main_v381) (by decide +kernel)]
    exact i2
  · rw [W66_of m ρ c KernelIdeal.main_v428 (by decide), pass4 m ρ c KernelIdeal.main_v428 (by decide) (by decide), S_keep V (m := 912) (n := 1136) (by decide) (Proc.devRef .tc ReferenceIdeal.main_v554) (by decide +kernel)]
    exact i3
  · rw [W66_of m ρ c KernelIdeal.main_v555 (by decide), S_keep V (m := 1058) (n := 1136) (by decide) (Proc.devRef .tc ReferenceIdeal.main_v723) (by decide +kernel)]
    exact i4

end Cert.Stages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The value claim: both programs end at the kernel's fold of its operations, result by result. -/
theorem value : Cert.algebraic_KernelIdeal_ReferenceIdeal (hKernelIdeal := Cert.KernelIdeal.Gen.facts)
    (hReferenceIdeal := Cert.ReferenceIdeal.Gen.facts) := by
  intro m g m' g' _ ha
  have hk := fun c => Cert.Stages.results m g c (StableHlo.launchContents m' c)
    rfl (ha c).1 rfl (ha c).2.1 rfl (ha c).2.2.1 rfl (ha c).2.2.2
  refine ⟨fun c => Cert.KernelIdeal.Gen.W66 m g c (Proc.devRef .tc Cert.KernelIdeal.main_v576),
    fun c => Cert.KernelIdeal.Gen.W66 m g c (Proc.devRef .tc Cert.KernelIdeal.main_v37),
    fun c => Cert.KernelIdeal.Gen.W66 m g c (Proc.devRef .tc Cert.KernelIdeal.main_v166),
    fun c => Cert.KernelIdeal.Gen.W66 m g c (Proc.devRef .tc Cert.KernelIdeal.main_v297),
    fun c => Cert.KernelIdeal.Gen.W66 m g c (Proc.devRef .tc Cert.KernelIdeal.main_v428),
    fun c => Cert.KernelIdeal.Gen.W66 m g c (Proc.devRef .tc Cert.KernelIdeal.main_v555),
    fun c => Cert.KernelIdeal.Gen.W66 m g c (Proc.devRef .tc Cert.KernelIdeal.main_v578),
    ?_, ?_⟩
  · refine θ_run_mono (Cert.KerRun.run (F := Ideal) m g) fun r h c => ?_
    exact ⟨h c _ (Cert.KernelIdeal.Gen.mem_uc Cert.KernelIdeal.main_v576 (by decide)),
      h c _ (Cert.KernelIdeal.Gen.mem_uc Cert.KernelIdeal.main_v37 (by decide)),
      h c _ (Cert.KernelIdeal.Gen.mem_uc Cert.KernelIdeal.main_v166 (by decide)),
      h c _ (Cert.KernelIdeal.Gen.mem_uc Cert.KernelIdeal.main_v297 (by decide)),
      h c _ (Cert.KernelIdeal.Gen.mem_uc Cert.KernelIdeal.main_v428 (by decide)),
      h c _ (Cert.KernelIdeal.Gen.mem_uc Cert.KernelIdeal.main_v555 (by decide)),
      h c _ (Cert.KernelIdeal.Gen.mem_uc Cert.KernelIdeal.main_v578 (by decide)),
      (h c _ (Cert.KernelIdeal.Gen.mem_uc Cert.KernelIdeal.main_arg0 (by decide))).trans (Cert.KernelIdeal.Gen.W66_main_arg0 m g c),
      (h c _ (Cert.KernelIdeal.Gen.mem_uc Cert.KernelIdeal.main_arg1 (by decide))).trans (Cert.KernelIdeal.Gen.W66_main_arg1 m g c),
      (h c _ (Cert.KernelIdeal.Gen.mem_uc Cert.KernelIdeal.main_arg2 (by decide))).trans (Cert.KernelIdeal.Gen.W66_main_arg2 m g c),
      (h c _ (Cert.KernelIdeal.Gen.mem_uc Cert.KernelIdeal.main_arg3 (by decide))).trans (Cert.KernelIdeal.Gen.W66_main_arg3 m g c)⟩
  · refine θ_run_mono (Cert.RefOps.run m' g') fun r h c => ?_
    have hr := fun b => (h.1 c b).trans (congrFun (Cert.Stages.S_all (StableHlo.launchContents m' c)).symm _)
    obtain ⟨h0, h1, h2, h3, h4, h5, h6⟩ := hk c
    exact ⟨(hr Cert.ReferenceIdeal.main_v792).trans h0.symm,
      (hr Cert.ReferenceIdeal.main_v37).trans h1.symm,
      (hr Cert.ReferenceIdeal.main_v208).trans h2.symm,
      (hr Cert.ReferenceIdeal.main_v381).trans h3.symm,
      (hr Cert.ReferenceIdeal.main_v554).trans h4.symm,
      (hr Cert.ReferenceIdeal.main_v723).trans h5.symm,
      (hr Cert.ReferenceIdeal.main_v795).trans h6.symm,
      (h.1 c Cert.ReferenceIdeal.main_arg0).trans (Cert.RefOps.args_kept (StableHlo.launchContents m' c) _ (by simp)),
      (h.1 c Cert.ReferenceIdeal.main_arg1).trans (Cert.RefOps.args_kept (StableHlo.launchContents m' c) _ (by simp)),
      (h.1 c Cert.ReferenceIdeal.main_arg2).trans (Cert.RefOps.args_kept (StableHlo.launchContents m' c) _ (by simp)),
      (h.1 c Cert.ReferenceIdeal.main_arg3).trans (Cert.RefOps.args_kept (StableHlo.launchContents m' c) _ (by simp))⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.RefOps.frame m ρ, trivial, value⟩

end Cert.Proof

end
